-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gains_finite [hPre_gains_finite : Cert.Pre_gains_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gains_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gains_finite [hPre_gains_finite : Cert.Pre_gains_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gains_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_gains_finite [hKernel3Ideal : Cert.Kernel3Ideal.Facts] [hPre_gains_finite : Cert.Pre_gains_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gains_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_gains_finite [hReference3Ideal : Cert.Reference3Ideal.Facts] [hPre_gains_finite : Cert.Pre_gains_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gains_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "inv_192" .f32 0x3BAAAAAB#32 ((1 / 192 : ℝ) : EReal)
  ∧ IdealRules.named_const.Statement Cert.Kernel3Ideal.κ "qk_bound" .f32 0x419FECAF#32 ((192 * ((Real.sqrt 192)⁻¹ * (Real.log 2)⁻¹) : ℝ) : EReal)
  ∧ IdealRules.named_const.Statement Cert.Kernel3Ideal.κ "qk_scale" .f32 0x3DD53B95#32 (((Real.sqrt 192)⁻¹ * (Real.log 2)⁻¹ : ℝ) : EReal)

def algebraic_Kernel3Ideal_Reference3Ideal_pre_gains_finite [hKernel3Ideal : Cert.Kernel3Ideal.Facts] [hReference3Ideal : Cert.Reference3Ideal.Facts] [hPre_gains_finite : Cert.Pre_gains_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gains_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v61)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v145) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gains_finite : Cert.Pre_gains_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gains_finite (hKernel3Ideal := hKernel3Ideal) (hPre_gains_finite := hPre_gains_finite)
    ∧ quiescent_Reference3Ideal (hReference3Ideal := hReference3Ideal)
    ∧ quiescent_Reference3Ideal_pre_gains_finite (hReference3Ideal := hReference3Ideal) (hPre_gains_finite := hPre_gains_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gains_finite (hKernel3Ideal := hKernel3Ideal) (hReference3Ideal := hReference3Ideal) (hPre_gains_finite := hPre_gains_finite)
-- ==== Pre_gains_finite.lean ====
abbrev S32x2048x512 : Shape := ⟨3, ![32, 2048, 512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn {F : FTy → Type} [FloatOps F] (main_arg0 : FVec F S32x2048x512 .bf16) (main_arg1 : FVec F S256 .f32) (main_arg2 : FVec F S256x768 .f32) (main_arg3 : FVec F S128 .f32) (main_arg4 : FVec F S128x1024 .f32) (main_arg5 : FVec F S192 .f32) (main_arg6 : FVec F S192 .f32) : IVec S_ 1 :=
  let main_v0 : FVec F S192 .f32 := Host.absf main_arg5
  let main_cst : FVec F S_ .f32 := constant S_ .f32 0x7F800000#32
  let main_v1 : FVec F S192 .f32 := broadcastInDim S192 ![] bcast_S_S192 main_cst
  let main_v2 : IVec S192 1 := cmpf .olt main_v0 main_v1
  let main_c : IVec S_ 1 := constantI S_ 1 1#1
  let main_v3 : IVec S_ 1 := (fun x v => Host.reduce IntOp.andi x v reducesTo_S192_S_d0 h_S_) main_v2 main_c
  let main_v4 : FVec F S192 .f32 := Host.absf main_arg6
  let main_cst_0 : FVec F S_ .f32 := constant S_ .f32 0x7F800000#32
  let main_v5 : FVec F S192 .f32 := broadcastInDim S192 ![] bcast_S_S192 main_cst_0
  let main_v6 : IVec S192 1 := cmpf .olt main_v4 main_v5
  let main_c_1 : IVec S_ 1 := constantI S_ 1 1#1
  let main_v7 : IVec S_ 1 := (fun x v => Host.reduce IntOp.andi x v reducesTo_S192_S_d0 h_S_) main_v6 main_c_1
  let main_v8 : IVec S_ 1 := andi main_v3 main_v7
  main_v8
-- ==== Kernel.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S65536x256 : Shape := ⟨2, ![65536, 256]⟩
abbrev S65536x512 : Shape := ⟨2, ![65536, 512]⟩
abbrev S1x1024 : Shape := ⟨2, ![1, 1024]⟩
abbrev S1024x256 : Shape := ⟨2, ![1024, 256]⟩
abbrev S1024x512 : Shape := ⟨2, ![1024, 512]⟩
abbrev S256x1024 : Shape := ⟨2, ![256, 1024]⟩
abbrev S256x256 : Shape := ⟨2, ![256, 256]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x512, .bf16⟩
  | .hbm, ⟨3, _⟩ => ⟨S32x2048x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S65536x1024, .f32⟩
  | .hbm, ⟨9, _⟩ => ⟨S65536x256, .bf16⟩
  | .hbm, ⟨10, _⟩ => ⟨S65536x512, .bf16⟩
  | .hbm, ⟨11, _⟩ => ⟨S65536x256, .bf16⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x512, .bf16⟩
  | .hbm, ⟨3, _⟩ => ⟨S32x2048x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S32x2048x1024, .bf16⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x5632, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S_, .f32⟩
  | .hbm, ⟨34, _⟩ => ⟨S32x2048x2816, .f32⟩
  | .hbm, ⟨35, _⟩ => ⟨S32x2048x2816, .f32⟩
  | .hbm, ⟨36, _⟩ => ⟨S_, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S32x2048x1024, .f32⟩
  | .hbm, ⟨42, _⟩ => ⟨S32x2048x1024, .f32⟩
  | .hbm, ⟨43, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x1760 : Shape := ⟨2, ![1024, 1760]⟩
abbrev S1024x960 : Shape := ⟨2, ![1024, 960]⟩
abbrev S1024x32 : Shape := ⟨2, ![1024, 32]⟩
abbrev S_ : Shape := ⟨0, ![]⟩
abbrev S1024x512 : Shape := ⟨2, ![1024, 512]⟩
abbrev S1024x256 : Shape := ⟨2, ![1024, 256]⟩
abbrev S1024x1792 : Shape := ⟨2, ![1024, 1792]⟩
abbrev S65536x1024 : Shape := ⟨2, ![65536, 1024]⟩
abbrev S1x1024 : Shape := ⟨2, ![1, 1024]⟩
abbrev S65536x512 : Shape := ⟨2, ![65536, 512]⟩
abbrev S65536x768 : Shape := ⟨2, ![65536, 768]⟩
abbrev S2048x1024 : Shape := ⟨2, ![2048, 1024]⟩
abbrev S2048x512 : Shape := ⟨2, ![2048, 512]⟩
abbrev S2048x768 : Shape := ⟨2, ![2048, 768]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1024x768 : Shape := ⟨2, ![1024, 768]⟩
abbrev S256x768 : Shape := ⟨2, ![256, 768]⟩

abbrev nBuf : Space → Nat
  | .hbm => 16
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1760, .f32⟩
  | .hbm, ⟨3, _⟩ => ⟨S1024x960, .f32⟩
  | .hbm, ⟨4, _⟩ => ⟨S1024x32, .f32⟩
  | .hbm, ⟨5, _⟩ => ⟨S_, .f32⟩
  | .hbm, ⟨6, _⟩ => ⟨S1024x32, .f32⟩
  | .hbm, ⟨7, _⟩ => ⟨S1024x512, .f32⟩
  | .hbm, ⟨8, _⟩ => ⟨S1024x256, .f32⟩
  | .hbm, ⟨9, _⟩ => ⟨S1024x1792, .f32⟩
  | .hbm, ⟨10, _⟩ => ⟨S1024x1792, .bf16⟩
  | .hbm, ⟨11, _⟩ => ⟨S65536x1024, .f32⟩
  | .hbm, ⟨12, _⟩ => ⟨S1x1024, .f32⟩
  | .hbm, ⟨13, _⟩ => ⟨S65536x512, .bf16⟩
  | .hbm, ⟨14, _⟩ => ⟨S65536x512, .bf16⟩
  | .hbm, ⟨15, _⟩ => ⟨S65536x768, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1792, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x768, .bf16⟩
  | .local _ .vmem, ⟨9, _⟩ => ⟨S2048x768, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32x2048x1024 : Shape := ⟨3, ![32, 2048, 1024]⟩
abbrev S1024 : Shape := ⟨1, ![1024]⟩
abbrev S1024x1760 : Shape := ⟨2, ![1024, 1760]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1760 : Shape := ⟨3, ![32, 2048, 1760]⟩
abbrev S32x2048x256 : Shape := ⟨3, ![32, 2048, 256]⟩
abbrev S32x2048x128 : Shape := ⟨3, ![32, 2048, 128]⟩
abbrev S32x2048x64 : Shape := ⟨3, ![32, 2048, 64]⟩
abbrev S32x2048x16 : Shape := ⟨3, ![32, 2048, 16]⟩
abbrev S32x2048x512 : Shape := ⟨3, ![32, 2048, 512]⟩
abbrev S32x2048x32 : Shape := ⟨3, ![32, 2048, 32]⟩
abbrev S32x2048x768 : Shape := ⟨3, ![32, 2048, 768]⟩
abbrev S65536x512 : Shape := ⟨2, ![65536, 512]⟩
abbrev S65536x768 : Shape := ⟨2, ![65536, 768]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1760, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x1760, .f32⟩
  | .hbm, ⟨20, _⟩ => ⟨S32x2048x256, .f32⟩
  | .hbm, ⟨21, _⟩ => ⟨S32x2048x256, .f32⟩
  | .hbm, ⟨22, _⟩ => ⟨S32x2048x256, .f32⟩
  | .hbm, ⟨23, _⟩ => ⟨S32x2048x128, .f32⟩
  | .hbm, ⟨24, _⟩ => ⟨S32x2048x64, .f32⟩
  | .hbm, ⟨25, _⟩ => ⟨S32x2048x128, .f32⟩
  | .hbm, ⟨26, _⟩ => ⟨S32x2048x128, .f32⟩
  | .hbm, ⟨27, _⟩ => ⟨S32x2048x256, .f32⟩
  | .hbm, ⟨28, _⟩ => ⟨S32x2048x16, .f32⟩
  | .hbm, ⟨29, _⟩ => ⟨S32x2048x16, .f32⟩
  | .hbm, ⟨30, _⟩ => ⟨S32x2048x256, .f32⟩
  | .hbm, ⟨31, _⟩ => ⟨S32x2048x512, .f32⟩
  | .hbm, ⟨32, _⟩ => ⟨S_, .f32⟩
  | .hbm, ⟨33, _⟩ => ⟨S32x2048x32, .f32⟩
  | .hbm, ⟨34, _⟩ => ⟨S32x2048x512, .f32⟩
  | .hbm, ⟨35, _⟩ => ⟨S32x2048x768, .f32⟩
  | .hbm, ⟨36, _⟩ => ⟨S65536x512, .f32⟩
  | .hbm, ⟨37, _⟩ => ⟨S65536x512, .bf16⟩
  | .hbm, ⟨38, _⟩ => ⟨S65536x512, .f32⟩
  | .hbm, ⟨39, _⟩ => ⟨S65536x512, .bf16⟩
  | .hbm, ⟨40, _⟩ => ⟨S65536x768, .f32⟩
  | .hbm, ⟨41, _⟩ => ⟨S65536x768, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel3.lean ====
abbrev S32x2048x512 : Shape := ⟨3, ![32, 2048, 512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S64 : Shape := ⟨1, ![64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x4x192 : Shape := ⟨3, ![256, 4, 192]⟩
abbrev S64x1 : Shape := ⟨2, ![64, 1]⟩
abbrev S256x4x64 : Shape := ⟨3, ![256, 4, 64]⟩
abbrev S256x4x256 : Shape := ⟨3, ![256, 4, 256]⟩
abbrev S256x1024 : Shape := ⟨2, ![256, 1024]⟩
abbrev S1x256 : Shape := ⟨2, ![1, 256]⟩
abbrev S1x128 : Shape := ⟨2, ![1, 128]⟩
abbrev S3x128 : Shape := ⟨2, ![3, 128]⟩
abbrev S1x2048x512 : Shape := ⟨3, ![1, 2048, 512]⟩
abbrev S4x2048x256 : Shape := ⟨3, ![4, 2048, 256]⟩
abbrev S2x4x512x256 : Shape := ⟨4, ![2, 4, 512, 256]⟩
abbrev S256x256 : Shape := ⟨2, ![256, 256]⟩
abbrev S1x2048x128 : Shape := ⟨3, ![1, 2048, 128]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S128x256 : Shape := ⟨2, ![128, 256]⟩
abbrev S1024x256 : Shape := ⟨2, ![1024, 256]⟩
abbrev S2x128 : Shape := ⟨2, ![2, 128]⟩
abbrev S1x2x128 : Shape := ⟨3, ![1, 2, 128]⟩
abbrev S1 : Shape := ⟨1, ![1]⟩
abbrev S1x1x1 : Shape := ⟨3, ![1, 1, 1]⟩
abbrev S1x512x256 : Shape := ⟨3, ![1, 512, 256]⟩
abbrev S512x256 : Shape := ⟨2, ![512, 256]⟩
abbrev S512x1024 : Shape := ⟨2, ![512, 1024]⟩
abbrev S512x128 : Shape := ⟨2, ![512, 128]⟩
abbrev S1x1x512x256 : Shape := ⟨4, ![1, 1, 512, 256]⟩
abbrev S1x1024x256 : Shape := ⟨3, ![1, 1024, 256]⟩
abbrev S1x512x128 : Shape := ⟨3, ![1, 512, 128]⟩
abbrev S1x2048x256 : Shape := ⟨3, ![1, 2048, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 85
  | .vmem => 17
  | .smem => 0
  | _ => 0

abbrev bufTy : (tb : Table) → Fin (tcTables nBuf tb) → BufTy
  | .hbm, ⟨0, _⟩ => ⟨S32x2048x512, .bf16⟩
  | .hbm, ⟨1, _⟩ => ⟨S256, .f32⟩
  | .hbm, ⟨2, _⟩ => ⟨S256x768, .f32⟩
  | .hbm, ⟨3, _⟩ => ⟨S128, .f32⟩
  | .hbm, ⟨4, _⟩ => ⟨S128x1024, .f32⟩
  | .hbm, ⟨5, _⟩ => ⟨S192, .f32⟩
  | .hbm, ⟨6, _⟩ => ⟨S192, .f32⟩
  | .hbm, ⟨7, _⟩ => ⟨S64, .i32⟩
  | .hbm, ⟨8, _⟩ => ⟨S64, .i1⟩
  | .hbm, ⟨9, _⟩ => ⟨S64, .i32⟩
  | .hbm, ⟨10, _⟩ => ⟨S64, .i1⟩
  | .hbm, ⟨11, _⟩ => ⟨S64, .i32⟩
  | .hbm, ⟨12, _⟩ => ⟨S64, .i1⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S_, .f32⟩
  | .hbm, ⟨35, _⟩ => ⟨S2048x64, .f32⟩
  | .hbm, ⟨36, _⟩ => ⟨S2048x128, .f32⟩
  | .hbm, ⟨37, _⟩ => ⟨S2048x32, .f32⟩
  | .hbm, ⟨38, _⟩ => ⟨S2048x128, .f32⟩
  | .hbm, ⟨39, _⟩ => ⟨S256x4x192, .f32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S256x4x64, .f32⟩
  | .hbm, ⟨46, _⟩ => ⟨S256x4x256, .f32⟩
  | .hbm, ⟨47, _⟩ => ⟨S256x1024, .f32⟩
  | .hbm, ⟨48, _⟩ => ⟨S256x1024, .bf16⟩
  | .hbm, ⟨49, _⟩ => ⟨S128x1024, .bf16⟩
  | .hbm, ⟨50, _⟩ => ⟨S1x256, .f32⟩
  | .hbm, ⟨51, _⟩ => ⟨S1x128, .f32⟩
  | .hbm, ⟨52, _⟩ => ⟨S_, .f32⟩
  | .hbm, ⟨53, _⟩ => ⟨S64, .f32⟩
  | .hbm, ⟨54, _⟩ => ⟨S128, .f32⟩
  | .hbm, ⟨55, _⟩ => ⟨S64, .f32⟩
  | .hbm, ⟨56, _⟩ => ⟨S128, .f32⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S64, .i32⟩
  | .hbm, ⟨61, _⟩ => ⟨S64x1, .i32⟩
  | .hbm, ⟨62, _⟩ => ⟨S64, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S3x128, .f32⟩
  | .hbm, ⟨68, _⟩ => ⟨S_, .f32⟩
  | .hbm, ⟨69, _⟩ => ⟨S64, .f32⟩
  | .hbm, ⟨70, _⟩ => ⟨S128, .f32⟩
  | .hbm, ⟨71, _⟩ => ⟨S64, .f32⟩
  | .hbm, ⟨72, _⟩ => ⟨S128, .f32⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S3x128, .f32⟩
  | .hbm, ⟨84, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x128, .f32⟩
  | .local _ .vmem, ⟨5, _⟩ => ⟨S2048x128, .f32⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S128x1024, .bf16⟩
  | .local _ .vmem, ⟨10, _⟩ => ⟨S3x128, .f32⟩
  | .local _ .vmem, ⟨11, _⟩ => ⟨S3x128, .f32⟩
  | .local _ .vmem, ⟨12, _⟩ => ⟨S1x2048x512, .bf16⟩
  | .local _ .vmem, ⟨13, _⟩ => ⟨S1x2048x512, .bf16⟩
  | .local _ .vmem, ⟨14, _⟩ => ⟨S4x2048x256, .bf16⟩
  | .local _ .vmem, ⟨15, _⟩ => ⟨S4x2048x256, .bf16⟩
  | .local _ .vmem, ⟨16, _⟩ => ⟨S2x4x512x256, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_5 : Ref sig .tc := ⟨.hbm, 17, rfl⟩
abbrev main_v3 : Ref sig .tc := ⟨.hbm, 18, rfl⟩
abbrev main_v4 : Ref sig .tc := ⟨.hbm, 19, rfl⟩
abbrev main_cst_6 : Ref sig .tc := ⟨.hbm, 20, rfl⟩
abbrev main_v5 : Ref sig .tc := ⟨.hbm, 21, rfl⟩
abbrev main_v6 : Ref sig .tc := ⟨.hbm, 22, rfl⟩
abbrev main_cst_7 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_8 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c0_i32_23 : BitVec 32 := 0#32
  let v80 : BitVec 1 := Scalar.cmpi .eq arg0 c0_i32_23
  let v81 : BitVec 32 := Scalar.extui v80
  let c0_i32_24 : BitVec 32 := 0#32
  let v82 : BitVec 1 := Scalar.cmpi .ne v81 c0_i32_24
  v82

def k0_mult1 : BitVec 32 :=
  let c0_i32_28 : BitVec 32 := 0#32
  c0_i32_28
def k0_mult2 : BitVec 32 :=
  let c0_i32_31 : BitVec 32 := 0#32
  c0_i32_31
@[reducible] def k0_t1_loop : Scf.Loop 32 :=
  let c0_i32_25 : BitVec 32 := 0#32
  let c4_i32 : BitVec 32 := 4#32
  let v83 : BitVec 32 := Scalar.addi c0_i32_25 c4_i32
  let c1_i32_26 : BitVec 32 := 1#32
  ⟨c0_i32_25, v83, c1_i32_26⟩
def k0_mult3 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  v94
def k0_off1 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v102 : Index := Scalar.indexCast v93
  let c0_36 : Index := 0#32
  let c0_37 : Index := 0#32
  let c0_38 : Index := 0#32
  ![v102.toNat, 0, 0, 0]
def k0_off2 (k0_t1 : Fin k0_t1_loop.trips) : Fin 3 → Nat :=
  let c0_57 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v134 : Index := Scalar.indexCast v95
  let c0_58 : Index := 0#32
  ![0, v134.toNat, 0]
def k0_off3 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v139 : Index := Scalar.indexCast v93
  let c1 : Index := 1#32
  let c0_60 : Index := 0#32
  let c0_61 : Index := 0#32
  ![v139.toNat, 1, 0, 0]
def k0_off4 (k0_t1 : Fin k0_t1_loop.trips) : Fin 3 → Nat :=
  let c0_81 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v171 : Index := Scalar.indexCast v95
  let c128 : Index := 128#32
  ![0, v171.toNat, 128]
def k0_off5 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v176 : Index := Scalar.indexCast v93
  let c2 : Index := 2#32
  let c0_83 : Index := 0#32
  let c0_84 : Index := 0#32
  ![v176.toNat, 2, 0, 0]
def k0_off6 (k0_t1 : Fin k0_t1_loop.trips) : Fin 3 → Nat :=
  let c0_104 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v208 : Index := Scalar.indexCast v95
  let c256 : Index := 256#32
  ![0, v208.toNat, 256]
def k0_off7 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v213 : Index := Scalar.indexCast v93
  let c3 : Index := 3#32
  let c0_106 : Index := 0#32
  let c0_107 : Index := 0#32
  ![v213.toNat, 3, 0, 0]
def k0_off8 (k0_t1 : Fin k0_t1_loop.trips) : Fin 3 → Nat :=
  let c0_127 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v245 : Index := Scalar.indexCast v95
  let c384 : Index := 384#32
  ![0, v245.toNat, 384]
def k0_mult4 : BitVec 32 :=
  let c0_i32_130 : BitVec 32 := 0#32
  c0_i32_130
def k0_mult5 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c3_i32 : BitVec 32 := 3#32
  let v249 : BitVec 1 := Scalar.cmpi .eq arg15 c3_i32
  let c0_i32_129 : BitVec 32 := 0#32
  let c1_i32_128 : BitVec 32 := 1#32
  let v250 : BitVec 32 := Scalar.addi arg15 c1_i32_128
  let v251 : BitVec 32 := Scalar.select v249 c0_i32_129 v250
  let c512_i32_133 : BitVec 32 := 512#32
  let v256 : BitVec 32 := Scalar.muli v251 c512_i32_133
  v256
def k0_off9 (k0_t1 : Fin k0_t1_loop.trips) : Fin 3 → Nat :=
  let c0_134 : Index := 0#32
  let c0_i32_25 : BitVec 32 := 0#32
  let c1_i32_26 : BitVec 32 := 1#32
  let arg15 : BitVec 32 := Scf.iv c0_i32_25 c1_i32_26 k0_t1
  let c3_i32 : BitVec 32 := 3#32
  let v249 : BitVec 1 := Scalar.cmpi .eq arg15 c3_i32
  let c0_i32_129 : BitVec 32 := 0#32
  let c1_i32_128 : BitVec 32 := 1#32
  let v250 : BitVec 32 := Scalar.addi arg15 c1_i32_128
  let v251 : BitVec 32 := Scalar.select v249 c0_i32_129 v250
  let c512_i32_133 : BitVec 32 := 512#32
  let v256 : BitVec 32 := Scalar.muli v251 c512_i32_133
  let v257 : BitVec 32 := v256
  let v258 : Index := Scalar.indexCast v257
  let c0_135 : Index := 0#32
  ![0, v258.toNat, 0]
def k0_mult6 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c3_i32 : BitVec 32 := 3#32
  let v249 : BitVec 1 := Scalar.cmpi .eq arg15 c3_i32
  let c0_i32_129 : BitVec 32 := 0#32
  let c1_i32_128 : BitVec 32 := 1#32
  let v250 : BitVec 32 := Scalar.addi arg15 c1_i32_128
  let v251 : BitVec 32 := Scalar.select v249 c0_i32_129 v250
  let c512_i32_137 : BitVec 32 := 512#32
  let v263 : BitVec 32 := Scalar.muli v251 c512_i32_137
  v263
def k0_off10 (k0_t1 : Fin k0_t1_loop.trips) : Fin 2 → Nat :=
  let c0_i32_25 : BitVec 32 := 0#32
  let c1_i32_26 : BitVec 32 := 1#32
  let arg15 : BitVec 32 := Scf.iv c0_i32_25 c1_i32_26 k0_t1
  let c3_i32 : BitVec 32 := 3#32
  let v249 : BitVec 1 := Scalar.cmpi .eq arg15 c3_i32
  let c0_i32_129 : BitVec 32 := 0#32
  let c1_i32_128 : BitVec 32 := 1#32
  let v250 : BitVec 32 := Scalar.addi arg15 c1_i32_128
  let v251 : BitVec 32 := Scalar.select v249 c0_i32_129 v250
  let c512_i32_137 : BitVec 32 := 512#32
  let v263 : BitVec 32 := Scalar.muli v251 c512_i32_137
  let v264 : BitVec 32 := v263
  let v284 : Index := Scalar.indexCast v264
  let c0_147 : Index := 0#32
  ![v284.toNat, 0]
def k0_off11 (k0_t1 : Fin k0_t1_loop.trips) : Fin 4 → Nat :=
  let c1_i32_136 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v262 : BitVec 32 := Scalar.subi c1_i32_136 v93
  let v334 : Index := Scalar.indexCast v262
  let c0_155 : Index := 0#32
  let c0_156 : Index := 0#32
  let c0_157 : Index := 0#32
  ![v334.toNat, 0, 0, 0]
def k0_off12 (k0_t1 : Fin k0_t1_loop.trips) : Fin 4 → Nat :=
  let c1_i32_136 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v262 : BitVec 32 := Scalar.subi c1_i32_136 v93
  let v359 : Index := Scalar.indexCast v262
  let c1_162 : Index := 1#32
  let c0_163 : Index := 0#32
  let c0_164 : Index := 0#32
  ![v359.toNat, 1, 0, 0]
def k0_off13 (k0_t1 : Fin k0_t1_loop.trips) : Fin 4 → Nat :=
  let c1_i32_136 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v262 : BitVec 32 := Scalar.subi c1_i32_136 v93
  let v401 : Index := Scalar.indexCast v262
  let c2_172 : Index := 2#32
  let c0_173 : Index := 0#32
  let c0_174 : Index := 0#32
  ![v401.toNat, 2, 0, 0]
def k0_off14 (k0_t1 : Fin k0_t1_loop.trips) : Fin 4 → Nat :=
  let c1_i32_136 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v262 : BitVec 32 := Scalar.subi c1_i32_136 v93
  let v426 : Index := Scalar.indexCast v262
  let c3_179 : Index := 3#32
  let c0_180 : Index := 0#32
  let c0_181 : Index := 0#32
  ![v426.toNat, 3, 0, 0]
def k0_off15 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v101 : Index := Scalar.indexCast v93
  let c0_35 : Index := 0#32
  let c0_36 : Index := 0#32
  let c0_37 : Index := 0#32
  ![v101.toNat, 0, 0, 0]
def k0_off16 (k0_t1 : Fin k0_t1_loop.trips) : Fin 3 → Nat :=
  let c0_47 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v120 : Index := Scalar.indexCast v95
  let c0_48 : Index := 0#32
  ![0, v120.toNat, 0]
def k0_off17 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v124 : Index := Scalar.indexCast v93
  let c1 : Index := 1#32
  let c0_49 : Index := 0#32
  let c0_50 : Index := 0#32
  ![v124.toNat, 1, 0, 0]
def k0_off18 (k0_t1 : Fin k0_t1_loop.trips) : Fin 3 → Nat :=
  let c0_60 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v143 : Index := Scalar.indexCast v95
  let c128 : Index := 128#32
  ![0, v143.toNat, 128]
def k0_off19 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v147 : Index := Scalar.indexCast v93
  let c2 : Index := 2#32
  let c0_61 : Index := 0#32
  let c0_62 : Index := 0#32
  ![v147.toNat, 2, 0, 0]
def k0_off20 (k0_t1 : Fin k0_t1_loop.trips) : Fin 3 → Nat :=
  let c0_72 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v166 : Index := Scalar.indexCast v95
  let c256 : Index := 256#32
  ![0, v166.toNat, 256]
def k0_off21 (k0_t1 : Fin k0_t1_loop.trips) : Fin 4 → Nat :=
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v170 : Index := Scalar.indexCast v93
  let c3 : Index := 3#32
  let c0_73 : Index := 0#32
  let c0_74 : Index := 0#32
  ![v170.toNat, 3, 0, 0]
def k0_off22 (k0_t1 : Fin k0_t1_loop.trips) : Fin 3 → Nat :=
  let c0_84 : Index := 0#32
  let c0_i32_25 : BitVec 32 := 0#32
  let c1_i32_26 : BitVec 32 := 1#32
  let arg15 : BitVec 32 := Scf.iv c0_i32_25 c1_i32_26 k0_t1
  let c512_i32 : BitVec 32 := 512#32
  let v94 : BitVec 32 := Scalar.muli arg15 c512_i32
  let v95 : BitVec 32 := v94
  let v189 : Index := Scalar.indexCast v95
  let c384 : Index := 384#32
  ![0, v189.toNat, 384]
def k0_mult7 : BitVec 32 :=
  let c0_i32_87 : BitVec 32 := 0#32
  c0_i32_87
def k0_mult8 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c3_i32 : BitVec 32 := 3#32
  let v193 : BitVec 1 := Scalar.cmpi .eq arg15 c3_i32
  let c0_i32_86 : BitVec 32 := 0#32
  let c1_i32_85 : BitVec 32 := 1#32
  let v194 : BitVec 32 := Scalar.addi arg15 c1_i32_85
  let v195 : BitVec 32 := Scalar.select v193 c0_i32_86 v194
  let c512_i32_90 : BitVec 32 := 512#32
  let v200 : BitVec 32 := Scalar.muli v195 c512_i32_90
  v200
def k0_off23 (k0_t1 : Fin k0_t1_loop.trips) : Fin 3 → Nat :=
  let c0_91 : Index := 0#32
  let c0_i32_25 : BitVec 32 := 0#32
  let c1_i32_26 : BitVec 32 := 1#32
  let arg15 : BitVec 32 := Scf.iv c0_i32_25 c1_i32_26 k0_t1
  let c3_i32 : BitVec 32 := 3#32
  let v193 : BitVec 1 := Scalar.cmpi .eq arg15 c3_i32
  let c0_i32_86 : BitVec 32 := 0#32
  let c1_i32_85 : BitVec 32 := 1#32
  let v194 : BitVec 32 := Scalar.addi arg15 c1_i32_85
  let v195 : BitVec 32 := Scalar.select v193 c0_i32_86 v194
  let c512_i32_90 : BitVec 32 := 512#32
  let v200 : BitVec 32 := Scalar.muli v195 c512_i32_90
  let v201 : BitVec 32 := v200
  let v202 : Index := Scalar.indexCast v201
  let c0_92 : Index := 0#32
  ![0, v202.toNat, 0]
def k0_mult9 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c3_i32 : BitVec 32 := 3#32
  let v193 : BitVec 1 := Scalar.cmpi .eq arg15 c3_i32
  let c0_i32_86 : BitVec 32 := 0#32
  let c1_i32_85 : BitVec 32 := 1#32
  let v194 : BitVec 32 := Scalar.addi arg15 c1_i32_85
  let v195 : BitVec 32 := Scalar.select v193 c0_i32_86 v194
  let c512_i32_94 : BitVec 32 := 512#32
  let v207 : BitVec 32 := Scalar.muli v195 c512_i32_94
  v207
def k0_off24 (k0_t1 : Fin k0_t1_loop.trips) : Fin 2 → Nat :=
  let c0_i32_25 : BitVec 32 := 0#32
  let c1_i32_26 : BitVec 32 := 1#32
  let arg15 : BitVec 32 := Scf.iv c0_i32_25 c1_i32_26 k0_t1
  let c3_i32 : BitVec 32 := 3#32
  let v193 : BitVec 1 := Scalar.cmpi .eq arg15 c3_i32
  let c0_i32_86 : BitVec 32 := 0#32
  let c1_i32_85 : BitVec 32 := 1#32
  let v194 : BitVec 32 := Scalar.addi arg15 c1_i32_85
  let v195 : BitVec 32 := Scalar.select v193 c0_i32_86 v194
  let c512_i32_94 : BitVec 32 := 512#32
  let v207 : BitVec 32 := Scalar.muli v195 c512_i32_94
  let v208 : BitVec 32 := v207
  let v228 : Index := Scalar.indexCast v208
  let c0_104 : Index := 0#32
  ![v228.toNat, 0]
def k0_off25 (k0_t1 : Fin k0_t1_loop.trips) : Fin 4 → Nat :=
  let c1_i32_93 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v206 : BitVec 32 := Scalar.subi c1_i32_93 v93
  let v278 : Index := Scalar.indexCast v206
  let c0_112 : Index := 0#32
  let c0_113 : Index := 0#32
  let c0_114 : Index := 0#32
  ![v278.toNat, 0, 0, 0]
def k0_off26 (k0_t1 : Fin k0_t1_loop.trips) : Fin 4 → Nat :=
  let c1_i32_93 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v206 : BitVec 32 := Scalar.subi c1_i32_93 v93
  let v303 : Index := Scalar.indexCast v206
  let c1_119 : Index := 1#32
  let c0_120 : Index := 0#32
  let c0_121 : Index := 0#32
  ![v303.toNat, 1, 0, 0]
def k0_off27 (k0_t1 : Fin k0_t1_loop.trips) : Fin 4 → Nat :=
  let c1_i32_93 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v206 : BitVec 32 := Scalar.subi c1_i32_93 v93
  let v345 : Index := Scalar.indexCast v206
  let c2_129 : Index := 2#32
  let c0_130 : Index := 0#32
  let c0_131 : Index := 0#32
  ![v345.toNat, 2, 0, 0]
def k0_off28 (k0_t1 : Fin k0_t1_loop.trips) : Fin 4 → Nat :=
  let c1_i32_93 : BitVec 32 := 1#32
  let c0_i32_25 : BitVec 32 := 0#32
  let c1_i32_26 : BitVec 32 := 1#32
  let arg15 : BitVec 32 := Scf.iv c0_i32_25 c1_i32_26 k0_t1
  let c2_i32 : BitVec 32 := 2#32
  let c0_i32_28 : BitVec 32 := 0#32
  let v84 : BitVec 1 := Scalar.cmpi .eq c2_i32 c0_i32_28
  let c1_i32_29 : BitVec 32 := 1#32
  let v85 : BitVec 32 := Scalar.select v84 c1_i32_29 c2_i32
  let v86 : BitVec 32 := Scalar.remsi arg15 v85
  let c0_i32_31 : BitVec 32 := 0#32
  let v88 : BitVec 1 := Scalar.cmpi .slt v86 c0_i32_31
  let c0_i32_32 : BitVec 32 := 0#32
  let v89 : BitVec 1 := Scalar.cmpi .slt v85 c0_i32_32
  let v90 : BitVec 1 := Scalar.xori v88 v89
  let c0_i32_30 : BitVec 32 := 0#32
  let v87 : BitVec 1 := Scalar.cmpi .ne v86 c0_i32_30
  let v91 : BitVec 1 := Scalar.andi v90 v87
  let v92 : BitVec 32 := Scalar.addi v86 v85
  let v93 : BitVec 32 := Scalar.select v91 v92 v86
  let v206 : BitVec 32 := Scalar.subi c1_i32_93 v93
  let v370 : Index := Scalar.indexCast v206
  let c3_136 : Index := 3#32
  let c0_137 : Index := 0#32
  let c0_138 : Index := 0#32
  ![v370.toNat, 3, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
variable {F : FTy → Type} [FloatOps F] [Named F]
def κ : String → Option EReal := fun
  | "inv_192" => some ((1 / 192 : ℝ) : EReal)
  | "qk_bound" => some ((192 * ((Real.sqrt 192)⁻¹ * (Real.log 2)⁻¹) : ℝ) : EReal)
  | "qk_scale" => some (((Real.sqrt 192)⁻¹ * (Real.log 2)⁻¹ : ℝ) : EReal)
  | _ => none
-- ==== Reference3Ideal.lean ====
abbrev S32x2048x512 : Shape := ⟨3, ![32, 2048, 512]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S32x2048x256 : Shape := ⟨3, ![32, 2048, 256]⟩
abbrev S32x2048x128 : Shape := ⟨3, ![32, 2048, 128]⟩
abbrev S32x2048x64 : Shape := ⟨3, ![32, 2048, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S32x2048x1 : Shape := ⟨3, ![32, 2048, 1]⟩
abbrev S1x1x256 : Shape := ⟨3, ![1, 1, 256]⟩
abbrev S32x2048x768 : Shape := ⟨3, ![32, 2048, 768]⟩
abbrev S32x2048x4x192 : Shape := ⟨4, ![32, 2048, 4, 192]⟩
abbrev S1x1x128 : Shape := ⟨3, ![1, 1, 128]⟩
abbrev S32x2048x1024 : Shape := ⟨3, ![32, 2048, 1024]⟩
abbrev S32x2048x4x256 : Shape := ⟨4, ![32, 2048, 4, 256]⟩
abbrev S32x2048x4x128 : Shape := ⟨4, ![32, 2048, 4, 128]⟩
abbrev S32x2048x1x64 : Shape := ⟨4, ![32, 2048, 1, 64]⟩
abbrev S32x2048x4x64 : Shape := ⟨4, ![32, 2048, 4, 64]⟩
abbrev S32x2048x4 : Shape := ⟨3, ![32, 2048, 4]⟩
abbrev S32x2048x4x1 : Shape := ⟨4, ![32, 2048, 4, 1]⟩
abbrev S1x1x1x192 : Shape := ⟨4, ![1, 1, 1, 192]⟩
abbrev S2048x1x32 : Shape := ⟨3, ![2048, 1, 32]⟩
abbrev S32x2048x4x32 : Shape := ⟨4, ![32, 2048, 4, 32]⟩
abbrev S1x2048x1x32 : Shape := ⟨4, ![1, 2048, 1, 32]⟩
abbrev S32x4x2048x192 : Shape := ⟨4, ![32, 4, 2048, 192]⟩
abbrev S32x4x2048x128 : Shape := ⟨4, ![32, 4, 2048, 128]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩

abbrev nBuf : Space → Nat
  | .hbm => 173
  | .vmem => 0
  | .smem => 0
  | _ => 0

abbrev hbmTy0_0 (i : Nat) : BufTy := match i % 128 with
  | 0 => ⟨S32x2048x512, .bf16⟩
  | 1 => ⟨S256, .f32⟩
  | 2 => ⟨S256x768, .f32⟩
  | 3 => ⟨S128, .f32⟩
  | 4 => ⟨S128x1024, .f32⟩
  | 5 => ⟨S192, .f32⟩
  | 6 => ⟨S192, .f32⟩
  | 7 => ⟨S32x2048x512, .f32⟩
  | 8 => ⟨S32x2048x256, .f32⟩
  | 9 => ⟨S32x2048x128, .f32⟩
  | 10 => ⟨S32x2048x64, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x32, .f32⟩
  | 31 => ⟨S2048x32, .f32⟩
  | 32 => ⟨S32x2048x256, .f32⟩
  | 33 => ⟨S_, .f32⟩
  | 34 => ⟨S32x2048, .f32⟩
  | 35 => ⟨S32x2048x1, .f32⟩
  | 36 => ⟨S_, .f32⟩
  | 37 => ⟨S32x2048x1, .f32⟩
  | 38 => ⟨S32x2048x1, .f32⟩
  | 39 => ⟨S_, .f32⟩
  | 40 => ⟨S32x2048x1, .f32⟩
  | 41 => ⟨S32x2048x1, .f32⟩
  | 42 => ⟨S32x2048x1, .f32⟩
  | 43 => ⟨S32x2048x256, .f32⟩
  | 44 => ⟨S32x2048x256, .f32⟩
  | 45 => ⟨S1x1x256, .f32⟩
  | 46 => ⟨S32x2048x256, .f32⟩
  | 47 => ⟨S32x2048x256, .f32⟩
  | 48 => ⟨S32x2048x768, .f32⟩
  | 49 => ⟨S32x2048x4x192, .f32⟩
  | 50 => ⟨S32x2048x128, .f32⟩
  | 51 => ⟨S_, .f32⟩
  | 52 => ⟨S32x2048, .f32⟩
  | 53 => ⟨S32x2048x1, .f32⟩
  | 54 => ⟨S_, .f32⟩
  | 55 => ⟨S32x2048x1, .f32⟩
  | 56 => ⟨S32x2048x1, .f32⟩
  | 57 => ⟨S_, .f32⟩
  | 58 => ⟨S32x2048x1, .f32⟩
  | 59 => ⟨S32x2048x1, .f32⟩
  | 60 => ⟨S32x2048x1, .f32⟩
  | 61 => ⟨S32x2048x128, .f32⟩
  | 62 => ⟨S32x2048x128, .f32⟩
  | 63 => ⟨S1x1x128, .f32⟩
  | 64 => ⟨S32x2048x128, .f32⟩
  | 65 => ⟨S32x2048x128, .f32⟩
  | 66 => ⟨S32x2048x1024, .f32⟩
  | 67 => ⟨S32x2048x4x256, .f32⟩
  | 68 => ⟨S32x2048x4x128, .f32⟩
  | 69 => ⟨S32x2048x4x128, .f32⟩
  | 70 => ⟨S32x2048x1x64, .f32⟩
  | 71 => ⟨S32x2048x4x64, .f32⟩
  | 72 => ⟨S32x2048x4x192, .f32⟩
  | 73 => ⟨S32x2048x4x192, .f32⟩
  | 74 => ⟨S_, .f32⟩
  | 75 => ⟨S32x2048x4, .f32⟩
  | 76 => ⟨S32x2048x4x1, .f32⟩
  | 77 => ⟨S_, .f32⟩
  | 78 => ⟨S32x2048x4x1, .f32⟩
  | 79 => ⟨S32x2048x4x1, .f32⟩
  | 80 => ⟨S_, .f32⟩
  | 81 => ⟨S32x2048x4x1, .f32⟩
  | 82 => ⟨S32x2048x4x1, .f32⟩
  | 83 => ⟨S32x2048x4x1, .f32⟩
  | 84 => ⟨S32x2048x4x192, .f32⟩
  | 85 => ⟨S32x2048x4x192, .f32⟩
  | 86 => ⟨S1x1x1x192, .f32⟩
  | 87 => ⟨S32x2048x4x192, .f32⟩
  | 88 => ⟨S32x2048x4x192, .f32⟩
  | 89 => ⟨S32x2048x4x192, .f32⟩
  | 90 => ⟨S_, .f32⟩
  | 91 => ⟨S32x2048x4, .f32⟩
  | 92 => ⟨S32x2048x4x1, .f32⟩
  | 93 => ⟨S_, .f32⟩
  | 94 => ⟨S32x2048x4x1, .f32⟩
  | 95 => ⟨S32x2048x4x1, .f32⟩
  | 96 => ⟨S_, .f32⟩
  | 97 => ⟨S32x2048x4x1, .f32⟩
  | 98 => ⟨S32x2048x4x1, .f32⟩
  | 99 => ⟨S32x2048x4x1, .f32⟩
  | 100 => ⟨S32x2048x4x192, .f32⟩
  | 101 => ⟨S32x2048x4x192, .f32⟩
  | 102 => ⟨S1x1x1x192, .f32⟩
  | 103 => ⟨S32x2048x4x192, .f32⟩
  | 104 => ⟨S32x2048x4x192, .f32⟩
  | 105 => ⟨S2048x1x32, .f32⟩
  | 106 => ⟨S2048x1x32, .f32⟩
  | 107 => ⟨S32x2048x4x128, .f32⟩
  | 108 => ⟨S32x2048x4x64, .f32⟩
  | 109 => ⟨S32x2048x4x32, .f32⟩
  | 110 => ⟨S32x2048x4x32, .f32⟩
  | 111 => ⟨S1x2048x1x32, .f32⟩
  | 112 => ⟨S32x2048x4x32, .f32⟩
  | 113 => ⟨S32x2048x4x32, .f32⟩
  | 114 => ⟨S1x2048x1x32, .f32⟩
  | 115 => ⟨S32x2048x4x32, .f32⟩
  | 116 => ⟨S32x2048x4x32, .f32⟩
  | 117 => ⟨S32x2048x4x32, .f32⟩
  | 118 => ⟨S1x2048x1x32, .f32⟩
  | 119 => ⟨S32x2048x4x32, .f32⟩
  | 120 => ⟨S32x2048x4x32, .f32⟩
  | 121 => ⟨S1x2048x1x32, .f32⟩
  | 122 => ⟨S32x2048x4x32, .f32⟩
  | 123 => ⟨S32x2048x4x32, .f32⟩
  | 124 => ⟨S32x2048x4x32, .f32⟩
  | 125 => ⟨S32x2048x4x64, .f32⟩
  | 126 => ⟨S32x2048x4x192, .f32⟩
  | 127 => ⟨S32x2048x4x128, .f32⟩
  | _ => ⟨S32x2048x512, .bf16⟩

abbrev hbmTy0_1 (i : Nat) : BufTy := match i % 128 with
  | 0 => ⟨S32x2048x4x64, .f32⟩
  | 1 => ⟨S32x2048x4x32, .f32⟩
  | 2 => ⟨S32x2048x4x32, .f32⟩
  | 3 => ⟨S1x2048x1x32, .f32⟩
  | 4 => ⟨S32x2048x4x32, .f32⟩
  | 5 => ⟨S32x2048x4x32, .f32⟩
  | 6 => ⟨S1x2048x1x32, .f32⟩
  | 7 => ⟨S32x2048x4x32, .f32⟩
  | 8 => ⟨S32x2048x4x32, .f32⟩
  | 9 => ⟨S32x2048x4x32, .f32⟩
  | 10 => ⟨S1x2048x1x32, .f32⟩
  | 11 => ⟨S32x2048x4x32, .f32⟩
  | 12 => ⟨S32x2048x4x32, .f32⟩
  | 13 => ⟨S1x2048x1x32, .f32⟩
  | 14 => ⟨S32x2048x4x32, .f32⟩
  | 15 => ⟨S32x2048x4x32, .f32⟩
  | 16 => ⟨S32x2048x4x32, .f32⟩
  | 17 => ⟨S32x2048x4x64, .f32⟩
  | 18 => ⟨S32x2048x4x192, .f32⟩
  | 19 => ⟨S32x4x2048x192, .f32⟩
  | 20 => ⟨S32x4x2048x192, .f32⟩
  | 21 => ⟨S32x4x2048x128, .f32⟩
  | 22 => ⟨S32x4x2048x2048, .f32⟩
  | 23 => ⟨S_, .f32⟩
  | 24 => ⟨S_, .f32⟩
  | 25 => ⟨S32x4x2048x2048, .f32⟩
  | 26 => ⟨S32x4x2048x2048, .f32⟩
  | 27 => ⟨S_, .f32⟩
  | 28 => ⟨S32x4x2048, .f32⟩
  | 29 => ⟨S_, .f32⟩
  | 30 => ⟨S32x4x2048, .f32⟩
  | 31 => ⟨S32x4x2048, .f32⟩
  | 32 => ⟨S32x4x2048x1, .f32⟩
  | 33 => ⟨S32x4x2048x2048, .f32⟩
  | 34 => ⟨S32x4x2048x2048, .f32⟩
  | 35 => ⟨S32x4x2048x2048, .f32⟩
  | 36 => ⟨S_, .f32⟩
  | 37 => ⟨S32x4x2048, .f32⟩
  | 38 => ⟨S32x4x2048x1, .f32⟩
  | 39 => ⟨S32x4x2048x2048, .f32⟩
  | 40 => ⟨S32x4x2048x2048, .f32⟩
  | 41 => ⟨S32x4x2048x128, .f32⟩
  | 42 => ⟨S32x2048x4x128, .f32⟩
  | 43 => ⟨S32x2048x512, .f32⟩
  | 44 => ⟨S32x2048x512, .bf16⟩
  | _ => ⟨S32x2048x512, .bf16⟩

abbrev hbmTy (i : Nat) : BufTy := match i / 128 with
  | 0 => hbmTy0_0 i
  | 1 => hbmTy0_1 i
  | _ => ⟨S32x2048x512, .bf16⟩

abbrev bufTy : (tb : Table) → Fin (tcTables nBuf tb) → BufTy
  | .hbm, ⟨i, _⟩ => hbmTy i
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_15 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_16 : Ref sig .tc := ⟨.hbm, 155, rfl⟩
abbrev main_v131 : Ref sig .tc := ⟨.hbm, 156, rfl⟩
abbrev main_cst_17 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_18 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩

abbrev nD : Nat := 1
abbrev τ : Topo := Topo.v7x

variable {F : FTy → Type} [FloatOps F]
-- ==== Proof.FfnBlock.lean ====
module

public import proofs.«01_k».proof.Proof.Gen.KernelIdeal.Value
public import Idealize.ShloMosaic.Lib.Pipeline.ValueKit
public import Idealize.ShloMosaic.Lib.Pointwise

@[expose] public section
set_option maxRecDepth 16384

noncomputable section

namespace Cert.KernelIdeal.Ffn

open Cert.KernelIdeal Cert.KernelIdeal.Gen Idealize.ShloMosaic Idealize.ShloMosaic.TcCoe Idealize.SL.Sem

/-- The row of the residual stream after the mixers, at block row `r` and column `c`: the input row plus the three
    mixers' rows times their bands of the output weight. -/
def x1 (X : FVec Ideal S1024x1024 .f32) (OL : FVec Ideal S1024x256 .bf16) (OM : FVec Ideal S1024x512 .bf16) (OG : FVec Ideal S1024x256 .bf16)
    (WO : FVec Ideal S1024x1024 .bf16) (r c : Fin 1024) : EReal :=
  X (ix2 r c) + ∑ k : Fin 256, OL (ix2 r k) * WO (ix2 ⟨k, by omega⟩ c) + ∑ k : Fin 512, OM (ix2 r k) * WO (ix2 ⟨256 + k, by omega⟩ c)
    + ∑ k : Fin 256, OG (ix2 r k) * WO (ix2 ⟨768 + k, by omega⟩ c)

/-- A row divided by its root mean square and scaled by the gain `g`, at column `c`. -/
def rms (x : Fin 1024 → EReal) (g : EReal) (c : Fin 1024) : EReal :=
  x c * Ideal.rsqrt (Ideal.div (∑ k, x k * x k) (Ideal.ofBits .f32 0x44800000#32) + Ideal.ofBits .f32 0x358637BD#32) * g

/-- The gated unit: `gate · logistic(gate) · up` of two products of the row `h` with the columns `p` and `q` of a weight. -/
def act (h : Fin 1024 → EReal) (W : Fin 1024 → Fin 5632 → EReal) (f : Fin 2816) : EReal :=
  (∑ k, h k * W k ⟨f, by omega⟩) * Ideal.logistic (∑ k, h k * W k ⟨f, by omega⟩) * (∑ k, h k * W k ⟨2816 + f, by omega⟩)

/-- The normed row: `rms` of `x1` with the gain row. -/
def hrow (X : FVec Ideal S1024x1024 .f32) (OL : FVec Ideal S1024x256 .bf16) (OM : FVec Ideal S1024x512 .bf16) (OG : FVec Ideal S1024x256 .bf16)
    (WO : FVec Ideal S1024x1024 .bf16) (G : FVec Ideal S1x1024 .f32) (r c : Fin 1024) : EReal :=
  rms (x1 X OL OM OG WO r) (G (ix2 0 c)) c

/-- The part of the down projection that the hidden columns `o … o + 255` contribute at column `c`. -/
def part (h : Fin 1024 → EReal) (W : Fin 1024 → Fin 5632 → EReal) (D : Fin 2816 → EReal) (o : ℕ) (ho : o + 256 ≤ 2816) : EReal :=
  ∑ k : Fin 256, act h W ⟨o + k, by omega⟩ * D ⟨o + k, by omega⟩

/-- The block after its first `n` hidden bands: the residual row plus the bands' parts. -/
def acc (X : FVec Ideal S1024x1024 .f32) (OL : FVec Ideal S1024x256 .bf16) (OM : FVec Ideal S1024x512 .bf16) (OG : FVec Ideal S1024x256 .bf16)
    (WO : FVec Ideal S1024x1024 .bf16) (G : FVec Ideal S1x1024 .f32) (WI : FVec Ideal S1024x5632 .bf16) (WD : FVec Ideal S2816x1024 .bf16)
    (r c : Fin 1024) : (n : ℕ) → n ≤ 11 → EReal
  | 0, _ => x1 X OL OM OG WO r c
  | n + 1, h => acc X OL OM OG WO G WI WD r c n (by omega)
      + part (hrow X OL OM OG WO G r) (fun k f => WI (ix2 k f)) (fun f => WD (ix2 f c)) (n * 256) (by omega)

section
variable (c : Dev nD)
  (arg1 : Memref sig .tc .vmem S1024x1024 .f32) (harg1 : arg1.IsWhole) (arg2 : Memref sig .tc .vmem S1024x256 .bf16) (harg2 : arg2.IsWhole)
  (arg3 : Memref sig .tc .vmem S1024x512 .bf16) (harg3 : arg3.IsWhole) (arg4 : Memref sig .tc .vmem S1024x256 .bf16) (harg4 : arg4.IsWhole)
  (arg5 : Memref sig .tc .vmem S1024x1024 .bf16) (harg5 : arg5.IsWhole) (arg6 : Memref sig .tc .vmem S1x1024 .f32) (harg6 : arg6.IsWhole)
  (arg7 : Memref sig .tc .vmem S1024x5632 .bf16) (harg7 : arg7.IsWhole) (arg8 : Memref sig .tc .vmem S2816x1024 .bf16) (harg8 : arg8.IsWhole)
  (arg9 : Memref sig .tc .vmem S1024x1024 .f32) (harg9 : arg9.IsWhole) (arg10 : Memref sig .tc .vmem S1024x1024 .bf16) (harg10 : arg10.IsWhole)
  (X : FVec Ideal S1024x1024 .f32) (OL : FVec Ideal S1024x256 .bf16) (OM : FVec Ideal S1024x512 .bf16) (OG : FVec Ideal S1024x256 .bf16)
  (WO : FVec Ideal S1024x1024 .bf16) (G : FVec Ideal S1x1024 .f32) (WI : FVec Ideal S1024x5632 .bf16) (WD : FVec Ideal S2816x1024 .bf16)

/-- The first reading of the output block: the residual rows, stored four row tiles at a time. -/
theorem v168_at (r c' : Fin 1024) :
    kernelRun0_A.sl.v168 (F := Ideal) c arg1 harg1 arg2 harg2 arg3 harg3 arg4 harg4 arg5 harg5 arg9 X OL OM OG WO (ix2 r c')
      = x1 X OL OM OG WO r c' := by
  unfold kernelRun0_A.sl.v168
  rw [View.readCov_eq_canon_ld _ _ _ (View.cover_of_tiledBy _ ![256, 1024] (by sl_kernel_rfl)), View.ld_unit_lit' _ _ (by decide)]
  unfold kernelRun0_A.sl.H8_4 kernelRun0_A.sl.r_7
  canon_tiles x h
  all_goals
    simp only [ix2_0, ix2_1] at h0 h1
    open_payloads
    pointwise [x1, Memref.IsWhole.read_unread]
    blk_point []

/-- The scratch rows: the normed residual rows. -/
theorem v156_at (r c' : Fin 1024) :
    kernelRun0_A.sl.v156 (F := Ideal) c arg1 harg1 arg2 harg2 arg3 harg3 arg4 harg4 arg5 harg5 arg6 harg6 arg10 X OL OM OG WO G (ix2 r c')
      = hrow X OL OM OG WO G r c' := by
  unfold kernelRun0_A.sl.v156
  rw [View.readCov_eq_canon_ld _ _ _ (View.cover_of_tiledBy _ ![256, 1024] (by sl_kernel_rfl)), View.ld_unit_lit' _ _ (by decide)]
  unfold kernelRun0_A.sl.HS0_4 kernelRun0_A.sl.r kernelRun0_A.sl.r_1 kernelRun0_A.sl.r_2 kernelRun0_A.sl.r_3 kernelRun0_A.sl.r_4
    kernelRun0_A.sl.r_5 kernelRun0_A.sl.r_6 kernelRun0_A.sl.r_7
  canon_tiles x h
  all_goals
    simp only [ix2_0, ix2_1] at h0 h1
    open_payloads
    pointwise [hrow, rms, x1, Memref.IsWhole.read_unread]
    blk_point []

/-- The second reading: the residual rows plus the first hidden columns' part. -/
theorem v187_at (r c' : Fin 1024) :
    kernelRun0_A.sl.v187 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 1 (by decide) := by
  unfold kernelRun0_A.sl.v187 kernelRun0_A.sl.H8_5
  simp (disch := decide) only [View.readCov_cons_unit_lit']
  unfold kernelRun0_A.sl.r_8 kernelRun0_A.sl.r_9 kernelRun0_A.sl.r_10 kernelRun0_A.sl.cst_112
  open_payloads
  pointwise [acc, part, act, Memref.IsWhole.read_unread]
  simp only [v156_at, v168_at]

/-- The third reading. -/
theorem v206_at (r c' : Fin 1024) :
    kernelRun0_A.sl.v206 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 2 (by decide) := by
  unfold kernelRun0_A.sl.v206 kernelRun0_A.sl.H8_6
  simp (disch := decide) only [View.readCov_cons_unit_lit']
  open_payloads
  rw [acc]
  pointwise [part, act, Memref.IsWhole.read_unread]
  simp only [v156_at, v187_at, ← Nat.add_assoc, Nat.reduceAdd]

/-- The fourth reading. -/
theorem v225_at (r c' : Fin 1024) :
    kernelRun0_A.sl.v225 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 3 (by decide) := by
  unfold kernelRun0_A.sl.v225 kernelRun0_A.sl.H8_7
  simp (disch := decide) only [View.readCov_cons_unit_lit']
  unfold kernelRun0_A.sl.r_11 kernelRun0_A.sl.r_12 kernelRun0_A.sl.cst_139
  open_payloads
  rw [acc]
  pointwise [part, act, Memref.IsWhole.read_unread]
  simp only [v156_at, v206_at, ← Nat.add_assoc, Nat.reduceAdd]

/-- The fifth reading. -/
theorem v244_at (r c' : Fin 1024) :
    kernelRun0_A.sl.v244 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 4 (by decide) := by
  unfold kernelRun0_A.sl.v244 kernelRun0_A.sl.H8_8
  simp (disch := decide) only [View.readCov_cons_unit_lit']
  open_payloads
  rw [acc]
  pointwise [part, act, Memref.IsWhole.read_unread]
  simp only [v156_at, v225_at, ← Nat.add_assoc, Nat.reduceAdd]

/-- The sixth reading. -/
theorem v263_at (r c' : Fin 1024) :
    kernelRun0_A.sl.v263 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 5 (by decide) := by
  unfold kernelRun0_A.sl.v263 kernelRun0_A.sl.H8_9
  simp (disch := decide) only [View.readCov_cons_unit_lit']
  open_payloads
  rw [acc]
  pointwise [part, act, Memref.IsWhole.read_unread]
  simp only [v156_at, v244_at, ← Nat.add_assoc, Nat.reduceAdd]

/-- The seventh reading. -/
theorem v282_at (r c' : Fin 1024) :
    kernelRun0_A.sl.v282 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 6 (by decide) := by
  unfold kernelRun0_A.sl.v282 kernelRun0_A.sl.H8_10
  simp (disch := decide) only [View.readCov_cons_unit_lit']
  unfold kernelRun0_A.sl.r_13 kernelRun0_A.sl.r_14
  open_payloads
  rw [acc]
  pointwise [part, act, Memref.IsWhole.read_unread]
  simp only [v156_at, v263_at, ← Nat.add_assoc, Nat.reduceAdd]

/-- The eighth reading. -/
theorem v301_at (r c' : Fin 1024) :
    kernelRun0_A.sl.v301 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 7 (by decide) := by
  unfold kernelRun0_A.sl.v301 kernelRun0_A.sl.H8_11
  simp (disch := decide) only [View.readCov_cons_unit_lit']
  open_payloads
  rw [acc]
  pointwise [part, act, Memref.IsWhole.read_unread]
  simp only [v156_at, v282_at, ← Nat.add_assoc, Nat.reduceAdd]

/-- The ninth reading. -/
theorem v320_at (r c' : Fin 1024) :
    kernelRun0_A.sl.v320 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 8 (by decide) := by
  unfold kernelRun0_A.sl.v320 kernelRun0_A.sl.H8_12
  simp (disch := decide) only [View.readCov_cons_unit_lit']
  unfold kernelRun0_A.sl.r_15
  open_payloads
  rw [acc]
  pointwise [part, act, Memref.IsWhole.read_unread]
  simp only [v156_at, v301_at, ← Nat.add_assoc, Nat.reduceAdd]

/-- The tenth reading. -/
theorem v339_at (r c' : Fin 1024) :
    kernelRun0_A.sl.v339 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 9 (by decide) := by
  unfold kernelRun0_A.sl.v339 kernelRun0_A.sl.H8_13
  simp (disch := decide) only [View.readCov_cons_unit_lit']
  unfold kernelRun0_A.sl.r_16
  open_payloads
  rw [acc]
  pointwise [part, act, Memref.IsWhole.read_unread]
  simp only [v156_at, v320_at, ← Nat.add_assoc, Nat.reduceAdd]

/-- The eleventh reading. -/
theorem v358_at (r c' : Fin 1024) :
    kernelRun0_A.sl.v358 (F := Ideal) c arg1 harg1 arg2 harg2 arg3 harg3 arg4 harg4 arg5 harg5 arg6 harg6 arg7 harg7 arg8 harg8 arg9 arg10 X OL OM OG WO G WI WD (ix2 r c')
      = acc X OL OM OG WO G WI WD r c' 10 (by decide) := by
  unfold kernelRun0_A.sl.v358 kernelRun0_A.sl.H8_14
  simp (disch := decide) only [View.readCov_cons_unit_lit']
  open_payloads
  rw [acc]
  pointwise [part, act, Memref.IsWhole.read_unread]
  simp only [v156_at, v339_at, ← Nat.add_assoc, Nat.reduceAdd]

/-- What the body leaves in the output block. -/
theorem out_at (i : grid0.Coords) (r c' : Fin 1024) :
    out0_A_8 (F := Ideal) c i arg1 harg1 arg2 harg2 arg3 harg3 arg4 harg4 arg5 harg5 arg6 harg6 arg7 harg7 arg8 harg8 arg9 harg9 arg10 harg10
        X OL OM OG WO G WI WD (ix2 r c')
      = acc X OL OM OG WO G WI WD r c' 11 (by decide) := by
  unfold out0_A_8
  rw [View.read_writes_junk_eq_canon]
  unfold kernelRun0_A
  dsimp only
  simp (disch := decide) only [View.canon_cons_unit_lit']
  unfold kernelRun0_A.sl.r_17
  open_payloads
  rw [acc]
  pointwise [part, act, Memref.IsWhole.read_unread]
  simp only [v156_at, v358_at, ← Nat.add_assoc, Nat.reduceAdd]

end

end Cert.KernelIdeal.Ffn

end
-- ==== Proof.FfnArray.lean ====
module

public import proofs.«01_k».proof.Proof.FfnBlock
public import Idealize.ShloMosaic.Lib.Claim

@[expose] public section
set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

/-- The residual row after the mixers over the argument arrays, at batch `b`, position `s` and column `c`. -/
def X1 (X : FVec Ideal S32x2048x1024 .f32) (OL : FVec Ideal S32x2048x256 .bf16) (OM : FVec Ideal S32x2048x512 .bf16)
    (OG : FVec Ideal S32x2048x256 .bf16) (WO : FVec Ideal S1024x1024 .f32) (b : Fin 32) (s : Fin 2048) (c : Fin 1024) : EReal :=
  X (ix3 b s c) + ∑ k : Fin 256, OL (ix3 b s k) * WO (ix2 ⟨k, by omega⟩ c) + ∑ k : Fin 512, OM (ix3 b s k) * WO (ix2 ⟨256 + k, by omega⟩ c)
    + ∑ k : Fin 256, OG (ix3 b s k) * WO (ix2 ⟨768 + k, by omega⟩ c)

/-- The layer's second half over the argument arrays: the residual row plus the gated unit's projection. -/
def Y (X : FVec Ideal S32x2048x1024 .f32) (OL : FVec Ideal S32x2048x256 .bf16) (OM : FVec Ideal S32x2048x512 .bf16)
    (OG : FVec Ideal S32x2048x256 .bf16) (WO : FVec Ideal S1024x1024 .f32) (G : FVec Ideal S1024 .f32) (WI : FVec Ideal S1024x5632 .f32)
    (WD : FVec Ideal S2816x1024 .f32) (b : Fin 32) (s : Fin 2048) (c : Fin 1024) : EReal :=
  X1 X OL OM OG WO b s c
    + ∑ f, act (fun k => rms (X1 X OL OM OG WO b s) (G (ix1 k)) k) (fun k f => WI (ix2 k f)) f * WD (ix2 f c)

/-- The block after `n` hidden bands, as one sum over the bands. -/
theorem acc_eq (X : FVec Ideal S1024x1024 .f32) (OL : FVec Ideal S1024x256 .bf16) (OM : FVec Ideal S1024x512 .bf16) (OG : FVec Ideal S1024x256 .bf16)
    (WO : FVec Ideal S1024x1024 .bf16) (G : FVec Ideal S1x1024 .f32) (WI : FVec Ideal S1024x5632 .bf16) (WD : FVec Ideal S2816x1024 .bf16)
    (r c : Fin 1024) : (n : ℕ) → (h : n ≤ 11) → acc X OL OM OG WO G WI WD r c n h
      = x1 X OL OM OG WO r c + ∑ j : Fin n, part (hrow X OL OM OG WO G r) (fun k f => WI (ix2 k f)) (fun f => WD (ix2 f c)) (j * 256) (by omega)
  | 0, _ => by rw [acc, Fin.sum_univ_zero, add_zero]
  | n + 1, h => by
    rw [acc, acc_eq X OL OM OG WO G WI WD r c n (by omega), Fin.sum_univ_castSucc, add_assoc]
    rfl

/-- After all eleven bands the block holds one sum over the 2816 hidden columns. -/
theorem acc_all (X : FVec Ideal S1024x1024 .f32) (OL : FVec Ideal S1024x256 .bf16) (OM : FVec Ideal S1024x512 .bf16) (OG : FVec Ideal S1024x256 .bf16)
    (WO : FVec Ideal S1024x1024 .bf16) (G : FVec Ideal S1x1024 .f32) (WI : FVec Ideal S1024x5632 .bf16) (WD : FVec Ideal S2816x1024 .bf16)
    (r c : Fin 1024) : acc X OL OM OG WO G WI WD r c 11 (by decide)
      = x1 X OL OM OG WO r c + ∑ f, act (hrow X OL OM OG WO G r) (fun k f => WI (ix2 k f)) f * WD (ix2 f c) := by
  rw [acc_eq, Fin.sum_univ_tiles 11 256 rfl (fun f => act (hrow X OL OM OG WO G r) (fun k f => WI (ix2 k f)) f * WD (ix2 f c))]
  rfl

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 64 :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 64)

variable (m : (ℓ : Loc nD τ sig) → Buf (Elt Ideal) ℓ)

/-- The block of input rows: row `r` of block `t` is row `t · 1024 + r` of the flattened batches. -/
theorem blk0 (c : Dev nD) (t : Fin cfg0.N) (r : Fin 1024) (k : Fin 1024) (b : Fin 32) (s : Fin 2048) (h : (b : ℕ) * 2048 + s = t * 1024 + r) :
    iblk m c 0 t (ix2 r k) = m ((c : Thread nD τ).loc main_arg0) (ix3 b s k) := by
  blk_simp [iblk, idx t]
  entry_read
  pointwise
  blk_ext [idx t]

/-- The block of the first mixer's rows. -/
theorem blk1 (c : Dev nD) (t : Fin cfg0.N) (r : Fin 1024) (k : Fin 256) (b : Fin 32) (s : Fin 2048) (h : (b : ℕ) * 2048 + s = t * 1024 + r) :
    iblk m c 1 t (ix2 r k) = m ((c : Thread nD τ).loc main_arg1) (ix3 b s k) := by
  blk_simp [iblk, idx t]
  entry_read
  pointwise
  blk_ext [idx t]

/-- The block of the second mixer's rows. -/
theorem blk2 (c : Dev nD) (t : Fin cfg0.N) (r : Fin 1024) (k : Fin 512) (b : Fin 32) (s : Fin 2048) (h : (b : ℕ) * 2048 + s = t * 1024 + r) :
    iblk m c 2 t (ix2 r k) = m ((c : Thread nD τ).loc main_arg2) (ix3 b s k) := by
  blk_simp [iblk, idx t]
  entry_read
  pointwise
  blk_ext [idx t]

/-- The block of the third mixer's rows. -/
theorem blk3 (c : Dev nD) (t : Fin cfg0.N) (r : Fin 1024) (k : Fin 256) (b : Fin 32) (s : Fin 2048) (h : (b : ℕ) * 2048 + s = t * 1024 + r) :
    iblk m c 3 t (ix2 r k) = m ((c : Thread nD τ).loc main_arg3) (ix3 b s k) := by
  blk_simp [iblk, idx t]
  entry_read
  pointwise
  blk_ext [idx t]

/-- The output weight, whole. -/
theorem blk4 (c : Dev nD) (t : Fin cfg0.N) (r : Fin 1024) (k : Fin 1024) :
    iblk m c 4 t (ix2 r k) = m ((c : Thread nD τ).loc main_arg4) (ix2 r k) := by
  blk_simp [iblk, idx t]
  entry_read
  pointwise
  blk_ext [idx t]

/-- The gain row. -/
theorem blk5 (c : Dev nD) (t : Fin cfg0.N) (k : Fin 1024) :
    iblk m c 5 t (ix2 0 k) = m ((c : Thread nD τ).loc main_arg5) (ix1 k) := by
  blk_simp [iblk, idx t]
  entry_read
  pointwise
  blk_ext [idx t]

/-- The gate and up weight, whole. -/
theorem blk6 (c : Dev nD) (t : Fin cfg0.N) (r : Fin 1024) (k : Fin 5632) :
    iblk m c 6 t (ix2 r k) = m ((c : Thread nD τ).loc main_arg6) (ix2 r k) := by
  blk_simp [iblk, idx t]
  entry_read
  pointwise
  blk_ext [idx t]

/-- The down weight, whole. -/
theorem blk7 (c : Dev nD) (t : Fin cfg0.N) (r : Fin 2816) (k : Fin 1024) :
    iblk m c 7 t (ix2 r k) = m ((c : Thread nD τ).loc main_arg7) (ix2 r k) := by
  blk_simp [iblk, idx t]
  entry_read
  pointwise
  blk_ext [idx t]

/-- What point `t` leaves in the output block, over the argument arrays. -/
theorem point (c : Dev nD) (t : Fin cfg0.N) (r c' : Fin 1024) (b : Fin 32) (s : Fin 2048) (h : (b : ℕ) * 2048 + s = t * 1024 + r) :
    outsAt0 m c t (ix2 r c')
      = Y (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b s c' := by
  unfold outsAt0
  rw [out_at, acc_all]
  have e1 : ∀ c', x1 (iblk m c 0 t) (iblk m c 1 t) (iblk m c 2 t) (iblk m c 3 t) (iblk m c 4 t) r c'
      = X1 (m ((c : Thread nD τ).loc main_arg0)) (m ((c : Thread nD τ).loc main_arg1)) (m ((c : Thread nD τ).loc main_arg2))
          (m ((c : Thread nD τ).loc main_arg3)) (m ((c : Thread nD τ).loc main_arg4)) b s c' := fun c' => by
    unfold x1 X1
    simp only [blk0 m c t _ _ b s h, blk1 m c t _ _ b s h, blk2 m c t _ _ b s h, blk3 m c t _ _ b s h, blk4]
  have e2 : hrow (iblk m c 0 t) (iblk m c 1 t) (iblk m c 2 t) (iblk m c 3 t) (iblk m c 4 t) (iblk m c 5 t) r
      = fun k => rms (X1 (m ((c : Thread nD τ).loc main_arg0)) (m ((c : Thread nD τ).loc main_arg1)) (m ((c : Thread nD τ).loc main_arg2))
          (m ((c : Thread nD τ).loc main_arg3)) (m ((c : Thread nD τ).loc main_arg4)) b s) (m ((c : Thread nD τ).loc main_arg5) (ix1 k)) k :=
    funext fun k => by
      unfold hrow rms
      simp only [e1, blk5]
  unfold Y
  rw [e1, e2]
  simp only [blk6, blk7]

/-- THE RESULT ARRAY after the run. -/
theorem final (c : Dev nD) : (dats m 0 c).arrAt 8 cfg0.N
    = fun i : S65536x1024.Idx =>
        Y (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
          (⟨(i 0).val / 2048, by have h : (i 0).val < 65536 := (i 0).isLt; omega⟩ : Fin 32) ⟨(i 0).val % 2048, Nat.mod_lt _ (by decide)⟩ (i 1) := by
  refine (dats m 0 c).arrAt_eq_of_covers 8 _ (by decide +kernel) fun t _ y => ?_
  blk_simp
  rw [after0_8]
  obtain ⟨r, c', rfl⟩ : ∃ (r c' : Fin 1024), y = ix2 r c' := ⟨y 0, y 1, eq_ix2 y⟩
  refine (point m c t r c' _ _ ?_).trans (congrArg (Y _ _ _ _ _ _ _ _ _ _) (Fin.ext ?_))
  · dsimp only
    rw [(idx t).2.2.2.2.2.2.2.2.1]
    show ((t : ℕ) * 1024 + r) / 2048 * 2048 + ((t : ℕ) * 1024 + r) % 2048 = _
    omega
  · blk_simp [idx t]

end Cert.KernelIdeal.Ffn

end
-- ==== Proof.FfnRef.lean ====
module

public import proofs.«01_k».proof.Proof.FfnArray
public import proofs.«01_k».proof.Proof.Gen.ReferenceIdeal.Read

@[expose] public section
set_option maxRecDepth 16384

noncomputable section

namespace Cert.ReferenceIdeal.Ffn

open Cert.ReferenceIdeal Cert.ReferenceIdeal.Gen Cert.ReferenceIdeal.Read Idealize.ShloMosaic Idealize.ShloMosaic.TcCoe Idealize.SL.Sem
open Cert.KernelIdeal.Ffn (X1 Y rms act)

variable (X : FVec Ideal S32x2048x1024 .f32) (OL : FVec Ideal S32x2048x256 .bf16) (OM : FVec Ideal S32x2048x512 .bf16)
  (OG : FVec Ideal S32x2048x256 .bf16) (WO : FVec Ideal S1024x1024 .f32) (G : FVec Ideal S1024 .f32) (WI : FVec Ideal S1024x5632 .f32)
  (WD : FVec Ideal S2816x1024 .f32)

/-- The residual row: the product with the concatenated mixers is the three products over the bands. -/
theorem v3_at (b : Fin 32) (s : Fin 2048) (c : Fin 1024) : val_main_v3 (F := Ideal) X OL OM OG WO (ix3 b s c) = X1 X OL OM OG WO b s c := by
  pointwise [val_main_v3, val_main_v2, val_main_v1, val_main_v0, X1, sumSplitAll]
  simp only [← Nat.add_assoc, Nat.reduceAdd, add_assoc]

/-- The normed row. -/
theorem v16_at (b : Fin 32) (s : Fin 2048) (c : Fin 1024) :
    val_main_v16 (F := Ideal) X OL OM OG WO G (ix3 b s c) = rms (X1 X OL OM OG WO b s) (G (ix1 c)) c := by
  pointwise [val_main_v16, val_main_v15, val_main_v14, val_main_v13, val_main_v12, val_main_v11, val_main_v10, val_main_v9, val_main_v8,
    val_main_v7, val_main_v6, val_main_v5, val_main_v4, val_main_cst, val_main_cst_0, val_main_cst_1, rms]
  simp only [v3_at]

/-- The gated hidden row. -/
theorem v21_at (b : Fin 32) (s : Fin 2048) (f : Fin 2816) :
    val_main_v21 (F := Ideal) X OL OM OG WO G WI (ix3 b s f)
      = act (fun k => rms (X1 X OL OM OG WO b s) (G (ix1 k)) k) (fun k f => WI (ix2 k f)) f := by
  pointwise [val_main_v21, val_main_v20, val_main_v19, val_main_v18, val_main_v17, val_main_call0_v0, val_main_call0_v1, val_main_call0_v2,
    val_main_call0_v3, val_main_call0_v4, val_main_call0_v5, val_main_call0_cst, val_main_call0_cst_0, act]
  simp only [v16_at]
  rfl

/-- The reference's result. -/
theorem v24_at (i : Fin 65536) (c : Fin 1024) :
    val_main_v24 (F := Ideal) X OL OM OG WO G WI WD (ix2 i c)
      = Y X OL OM OG WO G WI WD ⟨i / 2048, by omega⟩ ⟨i % 2048, Nat.mod_lt _ (by decide)⟩ c := by
  pointwise [val_main_v24, val_main_v23, val_main_v22, Y]
  simp only [v3_at, v21_at]

end Cert.ReferenceIdeal.Ffn
end
-- ==== Proof.FfnClaim.lean ====
module

public import proofs.«01_k».proof.Defs
public import proofs.«01_k».proof.Proof.FfnRef
public import proofs.«01_k».proof.Proof.Gen.ReferenceIdeal.Run
public import proofs.«01_k».proof.Proof.Gen.Kernel.Frame
public import Idealize.ShloMosaic.Adequacy

@[expose] public section

noncomputable section

namespace Cert.Proof

open Idealize.ShloMosaic Idealize.ShloMosaic.TcCoe Idealize.SL.Sem

/-- The second half's kernel runs, leaves its arguments and returns every counter to zero. -/
theorem frame_ffn_bits : Cert.quiescent_Kernel := fun m ρ _ => Cert.Kernel.Gen.frame m ρ

/-- The same of its ideal program. -/
theorem frame_ffn : Cert.quiescent_KernelIdeal := fun m ρ _ => Cert.KernelIdeal.Gen.frame m ρ

/-- The same of the second half's reference, which has no counter. -/
theorem frame_ffn_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The kernel's result array is the reference's result. -/
theorem ffn_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v24 m' c = (Cert.KernelIdeal.Gen.dats m 0 c).arrAt 8 Cert.KernelIdeal.cfg0.N := by
  rw [Cert.ReferenceIdeal.Read.val_main_v24_eq, h0, h1, h2, h3, h4, h5, h6, h7, Cert.KernelIdeal.Ffn.final]
  funext i
  obtain ⟨r, k, rfl⟩ : ∃ (r : Fin 65536) (k : Fin 1024), i = ix2 r k := ⟨i 0, i 1, eq_ix2 i⟩
  exact Cert.ReferenceIdeal.Ffn.v24_at _ _ _ _ _ _ _ _ r k

/-- The second half's kernel and reference compute the same array over the extended reals. -/
theorem algebraic_ffn : Cert.algebraic_KernelIdeal_ReferenceIdeal := fun m g m' g' _ hagree =>
  ⟨fun c => (Cert.KernelIdeal.Gen.dats m 0 c).arrAt 8 Cert.KernelIdeal.cfg0.N, Cert.KernelIdeal.Value.run_blocks m g,
    (θ_run Cert.ReferenceIdeal.defs _ _).mono
      (fun r h c => ⟨(h c).1.trans (by
        obtain ⟨h0, h1, h2, h3, h4, h5, h6, h7⟩ := hagree c
        exact ffn_eq m c m' h0 h1 h2 h3 h4 h5 h6 h7), (h c).2⟩) (Cert.ReferenceIdeal.Value.run m' g')⟩

end Cert.Proof

end
-- ==== Proof.InBlock.lean ====
module

public import proofs.«01_k».proof.Proof.Gen.Kernel2Ideal.Value
public import Idealize.ShloMosaic.Lib.Pipeline.ValueKit
public import Idealize.ShloMosaic.Lib.Pointwise

@[expose] public section
set_option maxRecDepth 16384

noncomputable section

namespace Cert.Kernel2Ideal.In

open Cert.Kernel2Ideal Cert.Kernel2Ideal.Gen Idealize.ShloMosaic Idealize.ShloMosaic.TcCoe Idealize.SL.Sem

/-- A row divided by its root mean square and scaled by the gain `g`, at column `c`. -/
def rms (x : Fin 1024 → EReal) (g : EReal) (c : Fin 1024) : EReal :=
  x c * Ideal.rsqrt (Ideal.div (∑ k, x k * x k) (Ideal.ofBits .f32 0x44800000#32) + Ideal.ofBits .f32 0x358637BD#32) * g

/-- Row `r` of the block, normed, times column `e` of the packed weight. -/
def dotAt (X : FVec Ideal S2048x1024 .f32) (G : FVec Ideal S1x1024 .f32) (W : FVec Ideal S1024x1792 .bf16) (r : Fin 2048) (e : Fin 1792) : EReal :=
  ∑ k, rms (fun k => X (ix2 r k)) (G (ix2 0 k)) k * W (ix2 k e)

variable (X : FVec Ideal S2048x1024 .f32) (G : FVec Ideal S1x1024 .f32) (W : FVec Ideal S1024x1792 .bf16)

/-- The block of the first output: the packed columns from 0. -/
theorem out3_at (r : Fin 2048) (c : Fin 512) : out0_3 (F := Ideal) X G W (ix2 r c) = dotAt X G W r ⟨c, by omega⟩ := by
  unfold_out out0_3
  canon_tiles x h
  all_goals
    simp only [ix2_0, ix2_1] at h0 h1
    open_payloads
    pointwise [dotAt, rms]
    blk_point []

/-- The block of the second output: the packed columns from 512. -/
theorem out4_at (r : Fin 2048) (c : Fin 512) : out0_4 (F := Ideal) X G W (ix2 r c) = dotAt X G W r ⟨512 + c, by omega⟩ := by
  unfold_out out0_4
  canon_tiles x h
  all_goals
    simp only [ix2_0, ix2_1] at h0 h1
    open_payloads
    pointwise [dotAt, rms]
    blk_point []

/-- The block of the third output: the packed columns from 1024. -/
theorem out5_at (r : Fin 2048) (c : Fin 768) : out0_5 (F := Ideal) X G W (ix2 r c) = dotAt X G W r ⟨1024 + c, by omega⟩ := by
  unfold_out out0_5
  canon_tiles x h
  all_goals
    simp only [ix2_0, ix2_1] at h0 h1
    open_payloads
    pointwise [dotAt, rms]
    blk_point []

end Cert.Kernel2Ideal.In

end
-- ==== Proof.InArray.lean ====
module

public import proofs.«01_k».proof.Proof.InBlock
public import Idealize.ShloMosaic.Lib.Claim

@[expose] public section
set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)

/-- The packed weight: the columns of the three mixers' inputs, each mixer's beside each other, with 32 zero columns. -/
def pack (W : FVec Ideal S1024x1760 .f32) (k : Fin 1024) (e : Fin 1792) : EReal :=
  if h : (e : ℕ) < 960 then W (ix2 k ⟨e, by omega⟩)
  else if h : (e : ℕ) < 992 then W (ix2 k ⟨512 + e, by omega⟩)
  else if h : (e : ℕ) < 1024 then 0
  else if h : (e : ℕ) < 1536 then W (ix2 k ⟨e - 64, by omega⟩)
  else W (ix2 k ⟨e - 32, by omega⟩)

/-- The product of the normed row with packed column `e`, over the argument arrays. -/
def Z (X : FVec Ideal S32x2048x1024 .f32) (G : FVec Ideal S1024 .f32) (W : FVec Ideal S1024x1760 .f32) (b : Fin 32) (s : Fin 2048)
    (e : Fin 1792) : EReal :=
  ∑ k, rms (fun k => X (ix3 b s k)) (G (ix1 k)) k * pack W k e

/-- The windows' block indices. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 32 :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 32)

variable (m : (ℓ : Loc nD τ sig) → Buf (Elt Ideal) ℓ)

/-- The block of input rows: row `r` of block `t` is row `t · 2048 + r` of the flattened batches. -/
theorem blk0 (c : Dev nD) (t : Fin cfg0.N) (r : Fin 2048) (k : Fin 1024) (b : Fin 32) (s : Fin 2048) (h : (b : ℕ) * 2048 + s = t * 2048 + r) :
    iblk m c 0 t (ix2 r k) = m ((c : Thread nD τ).loc main_arg0) (ix3 b s k) := by
  blk_simp [iblk, idx t]
  entry_read
  pointwise
  blk_ext [idx t]

/-- The gain row. -/
theorem blk1 (c : Dev nD) (t : Fin cfg0.N) (k : Fin 1024) :
    iblk m c 1 t (ix2 0 k) = m ((c : Thread nD τ).loc main_arg1) (ix1 k) := by
  blk_simp [iblk, idx t]
  entry_read
  pointwise
  blk_ext [idx t]

/-- The host's concatenation of the five column bands, as a function of the bands. -/
def cat (a : FVec Ideal S1024x960 .f32) (b z : FVec Ideal S1024x32 .f32) (d : FVec Ideal S1024x512 .f32) (e : FVec Ideal S1024x256 .f32) :
    FVec Ideal S1024x1792 .f32 :=
  concatenate S1024x1792 1 [⟨S1024x960, a⟩, ⟨S1024x32, b⟩, ⟨S1024x32, z⟩, ⟨S1024x512, d⟩, ⟨S1024x256, e⟩]
    concatenates_S1024x960_S1024x32_S1024x32_S1024x512_S1024x256_S1024x1792_d1

/-- The host operations with the concatenation under its name. -/
abbrev ops : List (HloOp τ sig (Elt Ideal)) :=
  [ StableHlo.unary main_arg2 main_v0 ((extractStridedSlice S1024x960 ![0, 0] · slices_S1024x1760_S1024x960_0_0) : (⟨S1024x1760, .f32⟩ : BufTy).Contents (Elt Ideal) → (⟨S1024x960, .f32⟩ : BufTy).Contents (Elt Ideal)),
    StableHlo.unary main_arg2 main_v1 ((extractStridedSlice S1024x32 ![0, 1472] · slices_S1024x1760_S1024x32_0_1472) : (⟨S1024x1760, .f32⟩ : BufTy).Contents (Elt Ideal) → (⟨S1024x32, .f32⟩ : BufTy).Contents (Elt Ideal)),
    StableHlo.nullary main_cst (constant (F := Ideal) S_ .f32 0x00000000#32),
    StableHlo.unary main_cst main_v2 (broadcastInDim S1024x32 ![] bcast_S_S1024x32 : (⟨S_, .f32⟩ : BufTy).Contents (Elt Ideal) → (⟨S1024x32, .f32⟩ : BufTy).Contents (Elt Ideal)),
    StableHlo.unary main_arg2 main_v3 ((extractStridedSlice S1024x512 ![0, 960] · slices_S1024x1760_S1024x512_0_960) : (⟨S1024x1760, .f32⟩ : BufTy).Contents (Elt Ideal) → (⟨S1024x512, .f32⟩ : BufTy).Contents (Elt Ideal)),
    StableHlo.unary main_arg2 main_v4 ((extractStridedSlice S1024x256 ![0, 1504] · slices_S1024x1760_S1024x256_0_1504) : (⟨S1024x1760, .f32⟩ : BufTy).Contents (Elt Ideal) → (⟨S1024x256, .f32⟩ : BufTy).Contents (Elt Ideal)),
    StableHlo.nary ![main_v0, main_v1, main_v2, main_v3, main_v4] main_v5 (fun u => cat (u 0) (u 1) (u 2) (u 3) (u 4)),
    StableHlo.unary main_v5 main_v6 ((fun x => truncf (F := Ideal) (s := S1024x1792) (φ := .f32) .bf16 x bitsLt_bf16_f32) : (⟨S1024x1792, .f32⟩ : BufTy).Contents (Elt Ideal) → (⟨S1024x1792, .bf16⟩ : BufTy).Contents (Elt Ideal)),
    StableHlo.reshape main_arg0 main_v7 (rfl : (.f32 : EltTy) = .f32) shapeCasts_S32x2048x1024_S65536x1024,
    StableHlo.reshape main_arg1 main_v8 (rfl : (.f32 : EltTy) = .f32) shapeCasts_S1024_S1x1024 ]

/-- What the host prepared: the five bands of the weight, side by side. -/
theorem entry6 (c : Dev nD) : V m c main_v6
    = truncf (F := Ideal) (s := S1024x1792) .bf16 (cat (extractStridedSlice S1024x960 ![0, 0] (m ((c : Thread nD τ).loc main_arg2)) slices_S1024x1760_S1024x960_0_0)
        (extractStridedSlice S1024x32 ![0, 1472] (m ((c : Thread nD τ).loc main_arg2)) slices_S1024x1760_S1024x32_0_1472)
        (broadcastInDim S1024x32 ![] bcast_S_S1024x32 (constant S_ .f32 0x00000000#32 : FVec Ideal S_ .f32))
        (extractStridedSlice S1024x512 ![0, 960] (m ((c : Thread nD τ).loc main_arg2)) slices_S1024x1760_S1024x512_0_960)
        (extractStridedSlice S1024x256 ![0, 1504] (m ((c : Thread nD τ).loc main_arg2)) slices_S1024x1760_S1024x256_0_1504)) bitsLt_bf16_f32 := by
  show StableHlo.after ops (fun b => m (c, b)) main_v6 = _
  after_results_simp <;> (try dsimp only [Matrix.cons_val]) <;> (try after_results_simp) <;> rfl

/-- The five bands side by side are the packed weight. -/
theorem cat_at (W : FVec Ideal S1024x1760 .f32) (k : Fin 1024) (e : Fin 1792) :
    truncf .bf16 (cat (extractStridedSlice S1024x960 ![0, 0] W slices_S1024x1760_S1024x960_0_0)
        (extractStridedSlice S1024x32 ![0, 1472] W slices_S1024x1760_S1024x32_0_1472)
        (broadcastInDim S1024x32 ![] bcast_S_S1024x32 (constant S_ .f32 0x00000000#32 : FVec Ideal S_ .f32))
        (extractStridedSlice S1024x512 ![0, 960] W slices_S1024x1760_S1024x512_0_960)
        (extractStridedSlice S1024x256 ![0, 1504] W slices_S1024x1760_S1024x256_0_1504)) bitsLt_bf16_f32 (ix2 k e) = pack W k e := by
  pointwise [cat]
  unfold pack
  by_cases h1 : (e : ℕ) < 960
  · simp only [h1, dite_true]
  by_cases h2 : (e : ℕ) < 992
  · simp only [h1, h2, dite_true, dite_false, show (e : ℕ) - 960 < 32 by omega, show 1472 + ((e : ℕ) - 960) = 512 + e by omega]
  by_cases h3 : (e : ℕ) < 1024
  · simp only [h1, h2, h3, dite_true, dite_false, show ¬ (e : ℕ) - 960 < 32 by omega, show (e : ℕ) - 960 - 32 < 32 by omega]
  by_cases h4 : (e : ℕ) < 1536
  · simp only [h1, h2, h3, h4, dite_true, dite_false, show ¬ (e : ℕ) - 960 < 32 by omega, show ¬ (e : ℕ) - 960 - 32 < 32 by omega,
      show (e : ℕ) - 960 - 32 - 32 < 512 by omega, show 960 + ((e : ℕ) - 960 - 32 - 32) = e - 64 by omega]
  · simp only [h1, h2, h3, h4, dite_true, dite_false, show ¬ (e : ℕ) - 960 < 32 by omega, show ¬ (e : ℕ) - 960 - 32 < 32 by omega,
      show ¬ (e : ℕ) - 960 - 32 - 32 < 512 by omega, show 1504 + ((e : ℕ) - 960 - 32 - 32 - 512) = e - 32 by omega]

/-- The packed weight, whole. -/
theorem blk2 (c : Dev nD) (t : Fin cfg0.N) (k : Fin 1024) (e : Fin 1792) :
    iblk m c 2 t (ix2 k e) = pack (m ((c : Thread nD τ).loc main_arg2)) k e := by
  rw [← cat_at]
  blk_simp [iblk, idx t]
  rw [entry6]
  blk_ext [idx t]

/-- One entry of the block's product over the argument arrays. -/
theorem point (c : Dev nD) (t : Fin cfg0.N) (r : Fin 2048) (e : Fin 1792) (b : Fin 32) (s : Fin 2048) (h : (b : ℕ) * 2048 + s = t * 2048 + r) :
    dotAt (iblk m c 0 t) (iblk m c 1 t) (iblk m c 2 t) r e
      = Z (m ((c : Thread nD τ).loc main_arg0)) (m ((c : Thread nD τ).loc main_arg1)) (m ((c : Thread nD τ).loc main_arg2)) b s e := by
  unfold dotAt Z
  simp only [blk0 m c t _ _ b s h, blk1, blk2]

/-- The first result array after the run. -/
theorem final3 (c : Dev nD) : (dats m 0 c).arrAt 3 cfg0.N
    = fun i : S65536x512.Idx =>
        Z (m ((c : Thread nD τ).loc main_arg0)) (m ((c : Thread nD τ).loc main_arg1)) (m ((c : Thread nD τ).loc main_arg2))
          (⟨(i 0).val / 2048, by have h : (i 0).val < 65536 := (i 0).isLt; omega⟩ : Fin 32) ⟨(i 0).val % 2048, Nat.mod_lt _ (by decide)⟩
          ⟨(i 1).val, by have h : (i 1).val < 512 := (i 1).isLt; omega⟩ := by
  refine (dats m 0 c).arrAt_eq_of_covers 3 _ (by decide +kernel) fun t _ y => ?_
  blk_simp
  rw [after0_3]
  obtain ⟨r, c', rfl⟩ : ∃ (r : Fin 2048) (c' : Fin 512), y = ix2 r c' := ⟨y 0, y 1, eq_ix2 y⟩
  refine (out3_at _ _ _ r c').trans ((point m c t r _ _ _ ?_).trans (congrArg (Z _ _ _ _ _) (Fin.ext ?_)))
  · dsimp only
    rw [(idx t).2.2.2.1]
    show ((t : ℕ) * 2048 + r) / 2048 * 2048 + ((t : ℕ) * 2048 + r) % 2048 = _
    omega
  · blk_simp [idx t]

/-- The second result array after the run. -/
theorem final4 (c : Dev nD) : (dats m 0 c).arrAt 4 cfg0.N
    = fun i : S65536x512.Idx =>
        Z (m ((c : Thread nD τ).loc main_arg0)) (m ((c : Thread nD τ).loc main_arg1)) (m ((c : Thread nD τ).loc main_arg2))
          (⟨(i 0).val / 2048, by have h : (i 0).val < 65536 := (i 0).isLt; omega⟩ : Fin 32) ⟨(i 0).val % 2048, Nat.mod_lt _ (by decide)⟩
          ⟨512 + (i 1).val, by have h : (i 1).val < 512 := (i 1).isLt; omega⟩ := by
  refine (dats m 0 c).arrAt_eq_of_covers 4 _ (by decide +kernel) fun t _ y => ?_
  blk_simp
  rw [after0_4]
  obtain ⟨r, c', rfl⟩ : ∃ (r : Fin 2048) (c' : Fin 512), y = ix2 r c' := ⟨y 0, y 1, eq_ix2 y⟩
  refine (out4_at _ _ _ r c').trans ((point m c t r _ _ _ ?_).trans (congrArg (Z _ _ _ _ _) (Fin.ext ?_)))
  · dsimp only
    rw [(idx t).2.2.2.2.1]
    show ((t : ℕ) * 2048 + r) / 2048 * 2048 + ((t : ℕ) * 2048 + r) % 2048 = _
    omega
  · blk_simp [idx t]

/-- The third result array after the run. -/
theorem final5 (c : Dev nD) : (dats m 0 c).arrAt 5 cfg0.N
    = fun i : S65536x768.Idx =>
        Z (m ((c : Thread nD τ).loc main_arg0)) (m ((c : Thread nD τ).loc main_arg1)) (m ((c : Thread nD τ).loc main_arg2))
          (⟨(i 0).val / 2048, by have h : (i 0).val < 65536 := (i 0).isLt; omega⟩ : Fin 32) ⟨(i 0).val % 2048, Nat.mod_lt _ (by decide)⟩
          ⟨1024 + (i 1).val, by have h : (i 1).val < 768 := (i 1).isLt; omega⟩ := by
  refine (dats m 0 c).arrAt_eq_of_covers 5 _ (by decide +kernel) fun t _ y => ?_
  blk_simp
  rw [after0_5]
  obtain ⟨r, c', rfl⟩ : ∃ (r : Fin 2048) (c' : Fin 768), y = ix2 r c' := ⟨y 0, y 1, eq_ix2 y⟩
  refine (out5_at _ _ _ r c').trans ((point m c t r _ _ _ ?_).trans (congrArg (Z _ _ _ _ _) (Fin.ext ?_)))
  · dsimp only
    rw [(idx t).2.2.2.2.2.1]
    show ((t : ℕ) * 2048 + r) / 2048 * 2048 + ((t : ℕ) * 2048 + r) % 2048 = _
    omega
  · blk_simp [idx t]

end Cert.Kernel2Ideal.In

end
-- ==== Proof.InRef.lean ====
module

public import proofs.«01_k».proof.Proof.InArray
public import proofs.«01_k».proof.Proof.Gen.Reference2Ideal.Read

@[expose] public section
set_option maxRecDepth 16384

noncomputable section

namespace Cert.Reference2Ideal.In

open Cert.Reference2Ideal Cert.Reference2Ideal.Gen Cert.Reference2Ideal.Read Idealize.ShloMosaic Idealize.ShloMosaic.TcCoe Idealize.SL.Sem
open Cert.Kernel2Ideal.In (rms pack Z)

variable (X : FVec Ideal S32x2048x1024 .f32) (G : FVec Ideal S1024 .f32) (W : FVec Ideal S1024x1760 .f32)

/-- The product of the normed rows with the weight as given. -/
theorem v13_at (b : Fin 32) (s : Fin 2048) (e : Fin 1760) :
    val_main_v13 (F := Ideal) X G W (ix3 b s e) = ∑ k, rms (fun k => X (ix3 b s k)) (G (ix1 k)) k * W (ix2 k e) := by
  pointwise [val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, rms]

/-- A packed column that holds column `e'` of the weight. -/
theorem pack_col (k : Fin 1024) (e : Fin 1792) (e' : Fin 1760)
    (h : (e : ℕ) < 960 ∧ (e' : ℕ) = e ∨ (960 ≤ (e : ℕ) ∧ (e : ℕ) < 992) ∧ (e' : ℕ) = 512 + e
      ∨ (1024 ≤ (e : ℕ) ∧ (e : ℕ) < 1536) ∧ (e' : ℕ) + 64 = e ∨ 1536 ≤ (e : ℕ) ∧ (e' : ℕ) + 32 = e) : pack W k e = W (ix2 k e') := by
  unfold pack
  split_ifs <;> first
    | omega
    | exact congrArg (fun j => W (ix2 k j)) (Fin.ext (by dsimp only; omega))

/-- The product with a packed column is the product with the column of the weight that it holds. -/
theorem sum_pack (h : Fin 1024 → EReal) (e : Fin 1792) (e' : Fin 1760)
    (he : (e : ℕ) < 960 ∧ (e' : ℕ) = e ∨ (960 ≤ (e : ℕ) ∧ (e : ℕ) < 992) ∧ (e' : ℕ) = 512 + e
      ∨ (1024 ≤ (e : ℕ) ∧ (e : ℕ) < 1536) ∧ (e' : ℕ) + 64 = e ∨ 1536 ≤ (e : ℕ) ∧ (e' : ℕ) + 32 = e) :
    ∑ k, h k * W (ix2 k e') = ∑ k, h k * pack W k e :=
  Finset.sum_congr rfl fun k _ => by rw [pack_col W k e e' he]

/-- The product with a packed zero column is zero. -/
theorem sum_zero (h : Fin 1024 → EReal) (e : Fin 1792) (he : 992 ≤ (e : ℕ) ∧ (e : ℕ) < 1024) : 0 = ∑ k, h k * pack W k e := by
  refine (Finset.sum_eq_zero fun k _ => ?_).symm
  unfold pack
  split_ifs <;> first
    | omega
    | exact mul_zero _

/-- The first result. -/
theorem v30_at (i : Fin 65536) (c : Fin 512) :
    val_main_v30 (F := Ideal) X G W (ix2 i c) = Z X G W ⟨i / 2048, by omega⟩ ⟨i % 2048, Nat.mod_lt _ (by decide)⟩ ⟨c, by omega⟩ := by
  pointwise [val_main_v30, val_main_v29, val_main_v25, val_main_v14, val_main_v15]
  simp only [v13_at]
  split_ifs <;> first
    | exact sum_pack W _ _ _ (by dsimp only; omega)
    | exact sum_zero W _ _ (by dsimp only; omega)

/-- The second result. -/
theorem v32_at (i : Fin 65536) (c : Fin 512) :
    val_main_v32 (F := Ideal) X G W (ix2 i c) = Z X G W ⟨i / 2048, by omega⟩ ⟨i % 2048, Nat.mod_lt _ (by decide)⟩ ⟨512 + c, by omega⟩ := by
  pointwise [val_main_v32, val_main_v31, val_main_v27, val_main_v16, val_main_v17, val_main_v18, val_main_v22, val_main_v23, val_main_v26,
    val_main_cst_2]
  simp only [v13_at]
  split_ifs <;> first
    | exact sum_pack W _ _ _ (by dsimp only; omega)
    | exact sum_zero W _ _ (by dsimp only; omega)

/-- The third result. -/
theorem v34_at (i : Fin 65536) (c : Fin 768) :
    val_main_v34 (F := Ideal) X G W (ix2 i c) = Z X G W ⟨i / 2048, by omega⟩ ⟨i % 2048, Nat.mod_lt _ (by decide)⟩ ⟨1024 + c, by omega⟩ := by
  pointwise [val_main_v34, val_main_v33, val_main_v28, val_main_v19, val_main_v20, val_main_v21, val_main_v24]
  simp only [v13_at]
  split_ifs <;> first
    | exact sum_pack W _ _ _ (by dsimp only; omega)
    | exact sum_zero W _ _ (by dsimp only; omega)

end Cert.Reference2Ideal.In

end
-- ==== Proof.InClaim.lean ====
module

public import proofs.«01_k».proof.Defs
public import proofs.«01_k».proof.Proof.InRef
public import proofs.«01_k».proof.Proof.Gen.Reference2Ideal.Run
public import proofs.«01_k».proof.Proof.Gen.Kernel2.Frame
public import Idealize.ShloMosaic.Adequacy

@[expose] public section

noncomputable section

namespace Cert.Proof

open Idealize.ShloMosaic Idealize.ShloMosaic.TcCoe Idealize.SL.Sem

/-- The input projection's kernel runs, leaves its arguments and returns every counter to zero. -/
theorem frame_in_bits : Cert.quiescent_Kernel2 := fun m ρ _ => Cert.Kernel2.Gen.frame m ρ

/-- The same of its ideal program. -/
theorem frame_in : Cert.quiescent_Kernel2Ideal := fun m ρ _ => Cert.Kernel2Ideal.Gen.frame m ρ

/-- The same of the input projection's reference, which has no counter. -/
theorem frame_in_ref : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run m ρ)

/-- The input projection's kernel and reference compute the same three arrays over the extended reals. -/
theorem algebraic_in : Cert.algebraic_Kernel2Ideal_Reference2Ideal := fun m g m' g' _ hagree =>
  ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g,
    (θ_run Cert.Reference2Ideal.defs _ _).mono
      (fun r h c => ⟨(h c).1.trans (by
          obtain ⟨h0, h1, h2⟩ := hagree c
          refine (Cert.Reference2Ideal.Read.val_main_v30_eq _ _ _).trans ?_
          rw [h0, h1, h2]
          refine Eq.trans ?_ (Cert.Kernel2Ideal.In.final3 m c).symm
          funext i
          obtain ⟨r, k, rfl⟩ : ∃ (r : Fin 65536) (k : Fin 512), i = ix2 r k := ⟨i 0, i 1, eq_ix2 i⟩
          exact Cert.Reference2Ideal.In.v30_at _ _ _ r k),
        (h c).2.1.trans (by
          obtain ⟨h0, h1, h2⟩ := hagree c
          refine (Cert.Reference2Ideal.Read.val_main_v32_eq _ _).trans ?_
          rw [h0, h1, h2]
          refine Eq.trans ?_ (Cert.Kernel2Ideal.In.final4 m c).symm
          funext i
          obtain ⟨r, k, rfl⟩ : ∃ (r : Fin 65536) (k : Fin 512), i = ix2 r k := ⟨i 0, i 1, eq_ix2 i⟩
          exact Cert.Reference2Ideal.In.v32_at _ _ _ r k),
        (h c).2.2.1.trans (by
          obtain ⟨h0, h1, h2⟩ := hagree c
          refine (Cert.Reference2Ideal.Read.val_main_v34_eq _ _).trans ?_
          rw [h0, h1, h2]
          refine Eq.trans ?_ (Cert.Kernel2Ideal.In.final5 m c).symm
          funext i
          obtain ⟨r, k, rfl⟩ : ∃ (r : Fin 65536) (k : Fin 768), i = ix2 r k := ⟨i 0, i 1, eq_ix2 i⟩
          exact Cert.Reference2Ideal.In.v34_at _ _ _ r k),
        (h c).2.2.2⟩) (Cert.Reference2Ideal.Value.run m' g')⟩

end Cert.Proof

end
-- ==== Proof.MlaTrip.lean ====
/- One trip of the attention's loop over query tiles: the tile's four heads are attended and the next tile's queries prepared. -/
module

public import proofs.«01_k».proof.Proof.Gen.Kernel3Ideal.Frame
public import proofs.«01_k».proof.Proof.Gen.Kernel3Ideal.Loops

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

section Trip

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x256 .f32) (harg5 : arg5.IsWhole)
  (arg6 : Memref sig .tc .vmem S256x1024 .bf16) (harg6 : arg6.IsWhole)
  (arg7 : Memref sig .tc .vmem S1x128 .f32) (harg7 : arg7.IsWhole)
  (arg8 : Memref sig .tc .vmem S128x1024 .bf16) (harg8 : arg8.IsWhole)
  (arg9 : Memref sig .tc .vmem S3x128 .f32) (harg9 : arg9.IsWhole)
  (arg10 : Memref sig .tc .vmem S3x128 .f32) (harg10 : arg10.IsWhole)
  (arg11 : Memref sig .tc .vmem S1x2048x512 .bf16) (harg11 : arg11.IsWhole)
  (arg12 : Memref sig .tc .vmem S4x2048x256 .bf16) (harg12 : arg12.IsWhole)
  (arg13 : Memref sig .tc .vmem S4x2048x256 .bf16) (harg13 : arg13.IsWhole)
  (arg14 : Memref sig .tc .vmem S2x4x512x256 .bf16) (harg14 : arg14.IsWhole)
  (v54 : FVec F S256x256 .bf16) (v62 : FVec F S3x128 .f32) (v78 : F .f32)

/-- What a trip touches: eight buffers it reads at their contents, the result's block and the query scratch at the last two. -/
abbrev res (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ)))
    (g11 : Buf (Elt F) (arg11.view.loc (c : Thread nD τ))) (g14 : Buf (Elt F) (arg14.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13)
    ∗ (arg11.view.loc (c : Thread nD τ) ↦[arg11.view.set]{fullShare} g11) ∗ (arg14.view.loc (c : Thread nD τ) ↦[arg14.view.set]{fullShare} g14))

set_option maxHeartbeats 4000000 in
/-- One trip with the scores shifted by the bound that holds for all of them: what it leaves in the result's block and in the query scratch. -/
@[irreducible] def tripSafe (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (g14 : Buf (Elt F) (arg14.view.loc (c : Thread nD τ))) :
    Σ' (L11 : List (View.Piece (Elt F) S1x2048x512 .bf16)), { L14 : List (View.Piece (Elt F) S2x4x512x256 .bf16) //
      ∀ (g11 : Buf (Elt F) (arg11.view.loc (c : Thread nD τ))),
        res c arg1 arg2 arg3 arg4 arg5 arg6 arg11 arg12 arg13 arg14 f1 f2 f3 f4 f5 f6 f12 f13 g11 g14
          ⊢ wp frame (wpE (defs₀ (F := F)) Variants.none (c : Thread nD τ) none) Set.univ
              (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v54 v62 v78 1#1 0#32 k ())
              (fun _ => res c arg1 arg2 arg3 arg4 arg5 arg6 arg11 arg12 arg13 arg14 f1 f2 f3 f4 f5 f6 f12 f13 (arg11.view.writes (Elt F) g11 L11) (arg14.view.writes (Elt F) g14 L14)) } := by
  refine ⟨?_, ?_, fun g11 => ?run⟩
  case run =>
    unfold res k0_t1_body
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    iintro ⟨H1, H2, H3, H4, H5, H6, H12, H13, H11, H14⟩
    sl_exec
    sl_step
    sl_close

set_option maxHeartbeats 4000000 in
/-- One trip with the scores shifted by each row's largest: what it leaves in the result's block and in the query scratch. -/
@[irreducible] def tripMax (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (g14 : Buf (Elt F) (arg14.view.loc (c : Thread nD τ))) :
    Σ' (L11 : List (View.Piece (Elt F) S1x2048x512 .bf16)), { L14 : List (View.Piece (Elt F) S2x4x512x256 .bf16) //
      ∀ (g11 : Buf (Elt F) (arg11.view.loc (c : Thread nD τ))),
        res c arg1 arg2 arg3 arg4 arg5 arg6 arg11 arg12 arg13 arg14 f1 f2 f3 f4 f5 f6 f12 f13 g11 g14
          ⊢ wp frame (wpE (defs₀ (F := F)) Variants.none (c : Thread nD τ) none) Set.univ
              (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v54 v62 v78 0#1 0#32 k ())
              (fun _ => res c arg1 arg2 arg3 arg4 arg5 arg6 arg11 arg12 arg13 arg14 f1 f2 f3 f4 f5 f6 f12 f13 (arg11.view.writes (Elt F) g11 L11) (arg14.view.writes (Elt F) g14 L14)) } := by
  refine ⟨?_, ?_, fun g11 => ?run⟩
  case run =>
    unfold res k0_t1_body
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    iintro ⟨H1, H2, H3, H4, H5, H6, H12, H13, H11, H14⟩
    sl_exec
    sl_step
    sl_close

/-- The pieces trip `k` stores into the result's block, by whether the bound is used. -/
def L11 (b : BitVec 1) (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (g14 : Buf (Elt F) (arg14.view.loc (c : Thread nD τ))) :
    List (View.Piece (Elt F) S1x2048x512 .bf16) :=
  if b = 1#1 then (tripSafe c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).1
  else (tripMax c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).1

/-- The pieces trip `k` stores into the query scratch. -/
def L14 (b : BitVec 1) (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (g14 : Buf (Elt F) (arg14.view.loc (c : Thread nD τ))) :
    List (View.Piece (Elt F) S2x4x512x256 .bf16) :=
  if b = 1#1 then (tripSafe c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).2.1
  else (tripMax c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).2.1

/-- One trip, whichever shift is used. -/
theorem trip (b : BitVec 1) (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (g14 : Buf (Elt F) (arg14.view.loc (c : Thread nD τ)))
    (g11 : Buf (Elt F) (arg11.view.loc (c : Thread nD τ))) :
    res c arg1 arg2 arg3 arg4 arg5 arg6 arg11 arg12 arg13 arg14 f1 f2 f3 f4 f5 f6 f12 f13 g11 g14
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v54 v62 v78 b 0#32 k ())
          (fun _ => res c arg1 arg2 arg3 arg4 arg5 arg6 arg11 arg12 arg13 arg14 f1 f2 f3 f4 f5 f6 f12 f13
            (arg11.view.writes (Elt F) g11 (L11 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b k f1 f2 f3 f4 f5 f6 f12 f13 g14))
            (arg14.view.writes (Elt F) g14 (L14 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b k f1 f2 f3 f4 f5 f6 f12 f13 g14))) := by
  by_cases h : b = 1#1
  · subst h
    simp only [L11, L14, if_true]
    exact (tripSafe c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).2.2 g11
  · have h0 : b = 0#1 := by
      have : ∀ b : BitVec 1, ¬ b = 1#1 → b = 0#1 := by decide
      exact this b h
    subst h0
    simp only [L11, L14, show ¬ (0#1 : BitVec 1) = 1#1 from by decide, if_false]
    exact (tripMax c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 g14).2.2 g11

/-- The result's block and the query scratch before trip `k`, from what the loop finds there. -/
def st (b : BitVec 1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (G11 : Buf (Elt F) (arg11.view.loc (c : Thread nD τ))) (G14 : Buf (Elt F) (arg14.view.loc (c : Thread nD τ))) :
    ℕ → Buf (Elt F) (arg11.view.loc (c : Thread nD τ)) × Buf (Elt F) (arg14.view.loc (c : Thread nD τ))
  | 0 => (G11, G14)
  | k + 1 =>
    let s := st b f1 f2 f3 f4 f5 f6 f12 f13 G11 G14 k
    if h : k < k0_t1_loop.trips then
      (arg11.view.writes (Elt F) s.1 (L11 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b ⟨k, h⟩ f1 f2 f3 f4 f5 f6 f12 f13 s.2),
        arg14.view.writes (Elt F) s.2 (L14 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b ⟨k, h⟩ f1 f2 f3 f4 f5 f6 f12 f13 s.2))
    else s

theorem st_succ (b : BitVec 1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (G11 : Buf (Elt F) (arg11.view.loc (c : Thread nD τ))) (G14 : Buf (Elt F) (arg14.view.loc (c : Thread nD τ)))
    (k : Fin k0_t1_loop.trips) :
    st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 (k.val + 1)
      = (arg11.view.writes (Elt F) (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k.val).1 (L11 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b k f1 f2 f3 f4 f5 f6 f12 f13 (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k.val).2),
        arg14.view.writes (Elt F) (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k.val).2 (L14 c i arg1 harg1 arg2 harg2 arg3 harg3 arg4 harg4 arg5 harg5 arg6 harg6 arg7 harg7 arg8 harg8 arg9 harg9 arg10 harg10 arg11 harg11 arg12 harg12 arg13 harg13 arg14 harg14 v54 v62 v78 b k f1 f2 f3 f4 f5 f6 f12 f13 (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k.val).2)) := by
  rw [st, dif_pos k.isLt]

set_option warn.classDefReducibility false in
/-- The loop by its invariant: before trip `k` the two buffers hold `st k`, the others are as found. -/
@[sl_loop] def loopInv (b : BitVec 1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f13 : Buf (Elt F) (arg13.view.loc (c : Thread nD τ))) (G11 : Buf (Elt F) (arg11.view.loc (c : Thread nD τ))) (G14 : Buf (Elt F) (arg14.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 v54 v62 v78 b 0#32 where
  inv k _ := res c arg1 arg2 arg3 arg4 arg5 arg6 arg11 arg12 arg13 arg14 f1 f2 f3 f4 f5 f6 f12 f13 (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k).1 (st c i arg1 harg1 arg2 harg2 arg3 harg3 arg4 harg4 arg5 harg5 arg6 harg6 arg7 harg7 arg8 harg8 arg9 harg9 arg10 harg10 arg11 harg11 arg12 harg12 arg13 harg13 arg14 harg14 v54 v62 v78 b f1 f2 f3 f4 f5 f6 f12 f13 G11 G14 k).2
  step k _ := by
    rw [st_succ]
    exact trip c i arg1 harg1 arg2 harg2 arg3 harg3 arg4 harg4 arg5 harg5 arg6 harg6 arg7 harg7 arg8 harg8 arg9 harg9 arg10 harg10 arg11 harg11 arg12 harg12 arg13 harg13 arg14 harg14 v54 v62 v78 b k f1 f2 f3 f4 f5 f6 f12 f13 _ _

end Trip

end Cert.Mla

end
-- ==== Proof.MlaRun.lean ====
/- The kernel's body at a grid point: what it leaves in the result's block and in the three scratch buffers. -/
module

public import proofs.«01_k».proof.Proof.MlaTrip

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

section Run

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x256 .f32) (harg5 : arg5.IsWhole)
  (arg6 : Memref sig .tc .vmem S256x1024 .bf16) (harg6 : arg6.IsWhole)
  (arg7 : Memref sig .tc .vmem S1x128 .f32) (harg7 : arg7.IsWhole)
  (arg8 : Memref sig .tc .vmem S128x1024 .bf16) (harg8 : arg8.IsWhole)
  (arg9 : Memref sig .tc .vmem S3x128 .f32) (harg9 : arg9.IsWhole)
  (arg10 : Memref sig .tc .vmem S3x128 .f32) (harg10 : arg10.IsWhole)
  (arg11 : Memref sig .tc .vmem S1x2048x512 .bf16) (harg11 : arg11.IsWhole)
  (arg12 : Memref sig .tc .vmem S4x2048x256 .bf16) (harg12 : arg12.IsWhole)
  (arg13 : Memref sig .tc .vmem S4x2048x256 .bf16) (harg13 : arg13.IsWhole)
  (arg14 : Memref sig .tc .vmem S2x4x512x256 .bf16) (harg14 : arg14.IsWhole)

/-- The query gains the body reads. -/
abbrev gains9 (f9 : Buf (Elt F) (arg9.view.loc (c : Thread nD τ))) : Vec F S3x128 .f32 :=
  View.readAt (Elt F) arg9.view (Rect.unit (s := S3x128) ![0, 0] S3x128.size inb_S3x128_S3x128_0_0).toLoadRect f9

/-- The key gains the body reads. -/
abbrev gains10 (f10 : Buf (Elt F) (arg10.view.loc (c : Thread nD τ))) : Vec F S3x128 .f32 :=
  View.readAt (Elt F) arg10.view (Rect.unit (s := S3x128) ![0, 0] S3x128.size inb_S3x128_S3x128_0_0).toLoadRect f10

set_option maxHeartbeats 1000000 in
/-- The body before its loop at the first grid point: the pieces it stores into the scratch buffers, and the run up to whatever follows. -/
@[irreducible] def preFirst
    (h1 : Scalar.cmpi .ne (Scalar.extui (Scalar.cmpi .eq (BitVec.ofNat 32 (i 0).val) 0#32) : BitVec 32) 0#32 = 1#1)
    (h2 : Scalar.cmpi .ne (Scalar.extui (Scalar.cmpi .sge (BitVec.ofNat 32 (i 0).val) 0#32) : BitVec 32) 0#32 = 1#1)
    (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    Σ' (L12 : List (View.Piece (Elt F) S4x2048x256 .bf16)) (L14 : List (View.Piece (Elt F) S2x4x512x256 .bf16)),
     { L13 : List (View.Piece (Elt F) S4x2048x256 .bf16) //
        ∀ (Kc : (Σ' (v54 : FVec F S256x256 .bf16) (v62 : FVec F S3x128 .f32) (v78 : F .f32) (v79 : BitVec 1), BitVec 32) → Prog (TpuEff nD τ sig (Elt F) Λ₀ .tc) PUnit) (Q : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg11.view.loc (c : Thread nD τ) ↦[arg11.view.set]{fullShare} f11) ∗ (((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg11.view.loc (c : Thread nD τ) ↦[arg11.view.set]{fullShare} f11)) -∗ wp frame (wpE (defs₀ (F := F)) Variants.none (c : Thread nD τ) none) Set.univ (Kc ⟨k0_pay141 (F := F) k0_pay137 k0_pay138 k0_pay139 k0_pay140, k0_pay147 (gains9 c arg9 f9), k0_pay148 (gains9 c arg9 f9) (gains10 c arg10 f10), Scalar.cmpf .ole (k0_pay148 (gains9 c arg9 f9) (gains10 c arg10 f10)) (Scalar.ofBits .f32 0x42700000#32), 0#32⟩) Q))
          ⊢ wp frame (wpE (defs₀ (F := F)) Variants.none (c : Thread nD τ) none) Set.univ
              (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay137 k0_pay138 k0_pay139 k0_pay140 >>= Kc) Q } := by
  refine ⟨?_, ?_, ?_, fun Kc Q => ?run⟩
  case run =>
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part27_eq_skeleton, k0_part28_eq_skeleton]
    unfold k0_part28_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part27_eq_skeleton, k0_part28_eq_skeleton]
    iintro ⟨H1, H2, H3, H4, H5, H6, H7, H8, H9, H10, H12, H13, H14, H11, Hk⟩
    sl_exec
    iapply Hk
    sl_close

set_option maxHeartbeats 1000000 in
/-- The body before its loop at a later grid point: the pieces it stores into the scratch buffers, and the run up to whatever follows. -/
@[irreducible] def preNext
    (h1 : ¬ Scalar.cmpi .ne (Scalar.extui (Scalar.cmpi .eq (BitVec.ofNat 32 (i 0).val) 0#32) : BitVec 32) 0#32 = 1#1)
    (h2 : Scalar.cmpi .ne (Scalar.extui (Scalar.cmpi .sge (BitVec.ofNat 32 (i 0).val) 0#32) : BitVec 32) 0#32 = 1#1)
    (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    Σ' (L12 : List (View.Piece (Elt F) S4x2048x256 .bf16)),
     { L13 : List (View.Piece (Elt F) S4x2048x256 .bf16) //
        ∀ (Kc : (Σ' (v54 : FVec F S256x256 .bf16) (v62 : FVec F S3x128 .f32) (v78 : F .f32) (v79 : BitVec 1), BitVec 32) → Prog (TpuEff nD τ sig (Elt F) Λ₀ .tc) PUnit) (Q : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg11.view.loc (c : Thread nD τ) ↦[arg11.view.set]{fullShare} f11) ∗ (((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)) ∗ (arg14.view.loc (c : Thread nD τ) ↦[arg14.view.set]{fullShare} f14) ∗ (arg11.view.loc (c : Thread nD τ) ↦[arg11.view.set]{fullShare} f11)) -∗ wp frame (wpE (defs₀ (F := F)) Variants.none (c : Thread nD τ) none) Set.univ (Kc ⟨k0_pay141 (F := F) k0_pay137 k0_pay138 k0_pay139 k0_pay140, k0_pay147 (gains9 c arg9 f9), k0_pay148 (gains9 c arg9 f9) (gains10 c arg10 f10), Scalar.cmpf .ole (k0_pay148 (gains9 c arg9 f9) (gains10 c arg10 f10)) (Scalar.ofBits .f32 0x42700000#32), 0#32⟩) Q))
          ⊢ wp frame (wpE (defs₀ (F := F)) Variants.none (c : Thread nD τ) none) Set.univ
              (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay137 k0_pay138 k0_pay139 k0_pay140 >>= Kc) Q } := by
  refine ⟨?_, ?_, fun Kc Q => ?run⟩
  case run =>
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part27_eq_skeleton, k0_part28_eq_skeleton]
    unfold k0_part28_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part27_eq_skeleton, k0_part28_eq_skeleton]
    iintro ⟨H1, H2, H3, H4, H5, H6, H7, H8, H9, H10, H12, H13, H14, H11, Hk⟩
    sl_exec
    iapply Hk
    sl_close

set_option maxHeartbeats 1000000 in
/-- The loop and the body's end: the result's block and the query scratch hold the last trip's state. -/
theorem run_loop (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg11.view.loc (c : Thread nD τ) ↦[arg11.view.set]{fullShare} f11)) : sProp 𝕄)
      ⊢ wp frame (wpE (defs₀ (F := F)) Variants.none (c : Thread nD τ) none) Set.univ
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) 0#32) >>= fun _ => (pure ⟨⟩ : Prog (TpuEff nD τ sig (Elt F) Λ₀ .tc) PUnit))
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 f12 f13 f11 f14 k0_t1_loop.trips).2) ∗ (arg11.view.loc (c : Thread nD τ) ↦[arg11.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 f12 f13 f11 f14 k0_t1_loop.trips).1))) := by
  iintro ⟨H1, H2, H3, H4, H5, H6, H7, H8, H9, H10, H12, H13, H14, H11⟩
  sl_exec
  sl_step
  sl_close

set_option maxHeartbeats 1000000 in
/-- The body at the first grid point. -/
theorem runFirst
    (h1 : Scalar.cmpi .ne (Scalar.extui (Scalar.cmpi .eq (BitVec.ofNat 32 (i 0).val) 0#32) : BitVec 32) 0#32 = 1#1)
    (h2 : Scalar.cmpi .ne (Scalar.extui (Scalar.cmpi .sge (BitVec.ofNat 32 (i 0).val) 0#32) : BitVec 32) 0#32 = 1#1)
    (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg11.view.loc (c : Thread nD τ) ↦[arg11.view.set]{fullShare} f11)) : sProp 𝕄)
      ⊢ wp frame (wpE (defs₀ (F := F)) Variants.none (c : Thread nD τ) none) Set.univ
          (cc0_mla_mixer (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} (arg12.view.writes (Elt F) f12 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1)) ∗ (arg13.view.loc (c : Thread nD τ) ↦[arg13.view.set]{fullShare} (arg13.view.writes (Elt F) f13 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1)) ∗ (arg14.view.loc (c : Thread nD τ) ↦[arg14.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt F) f12 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) f11 (arg14.view.writes (Elt F) f14 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) k0_t1_loop.trips).2) ∗ (arg11.view.loc (c : Thread nD τ) ↦[arg11.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt F) f12 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) f11 (arg14.view.writes (Elt F) f14 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) k0_t1_loop.trips).1))) := by
  simp only [cc0_mla_mixer_eq_skeleton]
  unfold cc0_mla_mixer_skel
  simp only [k0_part27_eq_skeleton]
  unfold k0_part27_skel
  simp only [pure_bind]
  iintro ⟨H1, H2, H3, H4, H5, H6, H7, H8, H9, H10, H12, H13, H14, H11⟩
  iapply (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H11]; · iexact H11
  iintro ⟨H1, H2, H3, H4, H5, H6, H7, H8, H9, H10, H12, H13, H14, H11⟩
  iapply (run_loop c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 (arg12.view.writes (Elt F) f12 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) (arg14.view.writes (Elt F) f14 (preFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1))
  sl_close

set_option maxHeartbeats 1000000 in
/-- The body at a later grid point. -/
theorem runNext
    (h1 : ¬ Scalar.cmpi .ne (Scalar.extui (Scalar.cmpi .eq (BitVec.ofNat 32 (i 0).val) 0#32) : BitVec 32) 0#32 = 1#1)
    (h2 : Scalar.cmpi .ne (Scalar.extui (Scalar.cmpi .sge (BitVec.ofNat 32 (i 0).val) 0#32) : BitVec 32) 0#32 = 1#1)
    (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg11.view.loc (c : Thread nD τ) ↦[arg11.view.set]{fullShare} f11)) : sProp 𝕄)
      ⊢ wp frame (wpE (defs₀ (F := F)) Variants.none (c : Thread nD τ) none) Set.univ
          (cc0_mla_mixer (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} (arg12.view.writes (Elt F) f12 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1)) ∗ (arg13.view.loc (c : Thread nD τ) ↦[arg13.view.set]{fullShare} (arg13.view.writes (Elt F) f13 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1)) ∗ (arg14.view.loc (c : Thread nD τ) ↦[arg14.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt F) f12 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f11 f14 k0_t1_loop.trips).2) ∗ (arg11.view.loc (c : Thread nD τ) ↦[arg11.view.set]{fullShare} (st c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := F) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt F) f12 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f11 f14 k0_t1_loop.trips).1))) := by
  simp only [cc0_mla_mixer_eq_skeleton]
  unfold cc0_mla_mixer_skel
  simp only [k0_part27_eq_skeleton]
  unfold k0_part27_skel
  simp only [pure_bind]
  iintro ⟨H1, H2, H3, H4, H5, H6, H7, H8, H9, H10, H12, H13, H14, H11⟩
  iapply (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H11]; · iexact H11
  iintro ⟨H1, H2, H3, H4, H5, H6, H7, H8, H9, H10, H12, H13, H14, H11⟩
  iapply (run_loop c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 (arg12.view.writes (Elt F) f12 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt F) f13 (preNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f14)
  sl_close

end Run

end Cert.Mla

end
-- ==== Proof.MlaFrame.lean ====
/- The attention call runs without fault, whatever its arguments: the launch, with the result's contents left open. -/
module

public import proofs.«01_k».proof.Proof.MlaRun

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel3Ideal Cert.Kernel3Ideal.Gen

variable {F : FTy → Type} [FloatOps F] [Named F]

local notation "𝕄" => MT nD τ sig Unit (Elt F) ℕ (UR sig nD τ) ℕ

/-- A run, followed by what its postcondition gives. -/
theorem wp_use {c : Dev nD} {P : sProp 𝕄} {e : Prog (TpuEff nD τ sig (Elt F) Λ₀ .tc) PUnit} {Q Q' : PUnit → sProp 𝕄}
    (h : P ⊢ wp frame (wpE (defs₀ (F := F)) Variants.none (c : Thread nD τ) none) Set.univ e Q) :
    (iprop(P ∗ (∀ a, Q a -∗ Q' a)) : sProp 𝕄) ⊢ wp frame (wpE (defs₀ (F := F)) Variants.none (c : Thread nD τ) none) Set.univ e Q' :=
  (sep_mono_left h).trans (wp_wand_r _ _ _)

/-! ## Which grid point is the first -/

theorem first_sge (i : grid0.Coords) :
    Scalar.cmpi .ne (Scalar.extui (Scalar.cmpi .sge (BitVec.ofNat 32 (i 0).val) 0#32) : BitVec 32) 0#32 = 1#1 := by
  have h : ∀ n : Fin 32, Scalar.cmpi .ne (Scalar.extui (Scalar.cmpi .sge (BitVec.ofNat 32 n.val) 0#32) : BitVec 32) 0#32 = 1#1 := by decide
  exact h (i 0)

theorem first_eq_iff (i : grid0.Coords) :
    Scalar.cmpi .ne (Scalar.extui (Scalar.cmpi .eq (BitVec.ofNat 32 (i 0).val) 0#32) : BitVec 32) 0#32 = 1#1 ↔ (i 0).val = 0 := by
  have h : ∀ n : Fin 32, Scalar.cmpi .ne (Scalar.extui (Scalar.cmpi .eq (BitVec.ofNat 32 n.val) 0#32) : BitVec 32) 0#32 = 1#1 ↔ n.val = 0 := by decide
  exact h (i 0)

theorem first_cond_iff (i : grid0.Coords) : k0_cond3 i = 1#1 ↔ (i 0).val = 0 := first_eq_iff i

/-! ## The class invariant and the scratch buffers -/

abbrev scM0 : Memref sig .tc .vmem S4x2048x256 .bf16 := Memref.whole cc0_scratch0
abbrev scM1 : Memref sig .tc .vmem S4x2048x256 .bf16 := Memref.whole cc0_scratch1
abbrev scM2 : Memref sig .tc .vmem S2x4x512x256 .bf16 := Memref.whole cc0_scratch2

theorem PhiA_eq (c : Dev nD) : (Pipeline.ΦA spec0 c : sProp 𝕄)
    = iprop(((∃ d, owns (c : Thread nD τ) scM0 fullShare d) ∗ (∃ d, owns (c : Thread nD τ) scM1 fullShare d) ∗ (∃ d, owns (c : Thread nD τ) scM2 fullShare d)) ∗ ∃ r, prngReg c r) := by
  unfold Pipeline.ΦA; rw [scopedRest0_eq]; simp only [scM0, scM1, scM2, owns_whole]; try rfl

variable (m : (ℓ : Loc nD τ sig) → Buf (Elt F) ℓ) (ρ : Dev nD → PrngReg)

/-- The proof data of the run that leaves the result open. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q w := Pipeline.shareOf spec0 w
  owed _ := 0

theorem frameDats_A (c : Dev nD) (w : Fin cfg0.W) : (frameDats m 0 c).A w = V m c (Pipeline.arrRef spec0 w) := by dsimp only [frameDats]
theorem fafter_0 (c : Dev nD) (t : Fin cfg0.N) : (frameDats m 0 c).after 0 t = iblk m c 0 t := by dsimp only [frameDats]
theorem fafter_1 (c : Dev nD) (t : Fin cfg0.N) : (frameDats m 0 c).after 1 t = iblk m c 1 t := by dsimp only [frameDats]
theorem fafter_2 (c : Dev nD) (t : Fin cfg0.N) : (frameDats m 0 c).after 2 t = iblk m c 2 t := by dsimp only [frameDats]
theorem fafter_3 (c : Dev nD) (t : Fin cfg0.N) : (frameDats m 0 c).after 3 t = iblk m c 3 t := by dsimp only [frameDats]
theorem fafter_4 (c : Dev nD) (t : Fin cfg0.N) : (frameDats m 0 c).after 4 t = iblk m c 4 t := by dsimp only [frameDats]
theorem fafter_5 (c : Dev nD) (t : Fin cfg0.N) : (frameDats m 0 c).after 5 t = iblk m c 5 t := by dsimp only [frameDats]
theorem fafter_6 (c : Dev nD) (t : Fin cfg0.N) : (frameDats m 0 c).after 6 t = iblk m c 6 t := by dsimp only [frameDats]
theorem fafter_7 (c : Dev nD) (t : Fin cfg0.N) : (frameDats m 0 c).after 7 t = iblk m c 7 t := by dsimp only [frameDats]
theorem fafter_8 (c : Dev nD) (t : Fin cfg0.N) : (frameDats m 0 c).after 8 t = iblk m c 8 t := by dsimp only [frameDats]
theorem fafter_9 (c : Dev nD) (t : Fin cfg0.N) : (frameDats m 0 c).after 9 t = iblk m c 9 t := by dsimp only [frameDats]
theorem fbefore_0 (c : Dev nD) (t : Fin cfg0.N) (d) : (frameDats m 0 c).before 0 t d = iblk m c 0 t :=
  before0_0_of m (frameDats m 0 c) (frameDats_A m c 0) (fafter_0 m c) t d
theorem fbefore_1 (c : Dev nD) (t : Fin cfg0.N) (d) : (frameDats m 0 c).before 1 t d = iblk m c 1 t :=
  before0_1_of m (frameDats m 0 c) (frameDats_A m c 1) (fafter_1 m c) t d
theorem fbefore_2 (c : Dev nD) (t : Fin cfg0.N) (d) : (frameDats m 0 c).before 2 t d = iblk m c 2 t :=
  before0_2_of m (frameDats m 0 c) (frameDats_A m c 2) (fafter_2 m c) t d
theorem fbefore_3 (c : Dev nD) (t : Fin cfg0.N) (d) : (frameDats m 0 c).before 3 t d = iblk m c 3 t :=
  before0_3_of m (frameDats m 0 c) (frameDats_A m c 3) (fafter_3 m c) t d
theorem fbefore_4 (c : Dev nD) (t : Fin cfg0.N) (d) : (frameDats m 0 c).before 4 t d = iblk m c 4 t :=
  before0_4_of m (frameDats m 0 c) (frameDats_A m c 4) (fafter_4 m c) t d
theorem fbefore_5 (c : Dev nD) (t : Fin cfg0.N) (d) : (frameDats m 0 c).before 5 t d = iblk m c 5 t :=
  before0_5_of m (frameDats m 0 c) (frameDats_A m c 5) (fafter_5 m c) t d
theorem fbefore_6 (c : Dev nD) (t : Fin cfg0.N) (d) : (frameDats m 0 c).before 6 t d = iblk m c 6 t :=
  before0_6_of m (frameDats m 0 c) (frameDats_A m c 6) (fafter_6 m c) t d
theorem fbefore_7 (c : Dev nD) (t : Fin cfg0.N) (d) : (frameDats m 0 c).before 7 t d = iblk m c 7 t :=
  before0_7_of m (frameDats m 0 c) (frameDats_A m c 7) (fafter_7 m c) t d
theorem fbefore_8 (c : Dev nD) (t : Fin cfg0.N) (d) : (frameDats m 0 c).before 8 t d = iblk m c 8 t :=
  before0_8_of m (frameDats m 0 c) (frameDats_A m c 8) (fafter_8 m c) t d
theorem fbefore_9 (c : Dev nD) (t : Fin cfg0.N) (d) : (frameDats m 0 c).before 9 t d = iblk m c 9 t :=
  before0_9_of m (frameDats m 0 c) (frameDats_A m c 9) (fafter_9 m c) t d

/-- The result's window is the one whose contents are left open. -/
def open10 : Fin cfg0.W → Bool := fun w => decide (w.val = 10)

def frPre (c : Dev nD) (t : Fin cfg0.N) : sProp 𝕄 :=
  iprop((frameDats m 0 c).Φ t.castSucc ∗ (frameDats m 0 c).owesAt () t.castSucc
    ∗ (∃ d, owns (c : Thread nD τ) (st0_0 t) fullShare ((frameDats m 0 c).before 0 t d))
    ∗ (∃ d, owns (c : Thread nD τ) (st0_1 t) fullShare ((frameDats m 0 c).before 1 t d))
    ∗ (∃ d, owns (c : Thread nD τ) (st0_2 t) fullShare ((frameDats m 0 c).before 2 t d))
    ∗ (∃ d, owns (c : Thread nD τ) (st0_3 t) fullShare ((frameDats m 0 c).before 3 t d))
    ∗ (∃ d, owns (c : Thread nD τ) (st0_4 t) fullShare ((frameDats m 0 c).before 4 t d))
    ∗ (∃ d, owns (c : Thread nD τ) (st0_5 t) fullShare ((frameDats m 0 c).before 5 t d))
    ∗ (∃ d, owns (c : Thread nD τ) (st0_6 t) fullShare ((frameDats m 0 c).before 6 t d))
    ∗ (∃ d, owns (c : Thread nD τ) (st0_7 t) fullShare ((frameDats m 0 c).before 7 t d))
    ∗ (∃ d, owns (c : Thread nD τ) (st0_8 t) fullShare ((frameDats m 0 c).before 8 t d))
    ∗ (∃ d, owns (c : Thread nD τ) (st0_9 t) fullShare ((frameDats m 0 c).before 9 t d))
    ∗ (∃ X, owns (c : Thread nD τ) (st0_10 t) fullShare X))

def frPost (c : Dev nD) (t : Fin cfg0.N) : sProp 𝕄 :=
  iprop((frameDats m 0 c).Φ t.succ ∗ (frameDats m 0 c).owesAt () t.succ
    ∗ owns (c : Thread nD τ) (st0_0 t) fullShare ((frameDats m 0 c).after 0 t)
    ∗ owns (c : Thread nD τ) (st0_1 t) fullShare ((frameDats m 0 c).after 1 t)
    ∗ owns (c : Thread nD τ) (st0_2 t) fullShare ((frameDats m 0 c).after 2 t)
    ∗ owns (c : Thread nD τ) (st0_3 t) fullShare ((frameDats m 0 c).after 3 t)
    ∗ owns (c : Thread nD τ) (st0_4 t) fullShare ((frameDats m 0 c).after 4 t)
    ∗ owns (c : Thread nD τ) (st0_5 t) fullShare ((frameDats m 0 c).after 5 t)
    ∗ owns (c : Thread nD τ) (st0_6 t) fullShare ((frameDats m 0 c).after 6 t)
    ∗ owns (c : Thread nD τ) (st0_7 t) fullShare ((frameDats m 0 c).after 7 t)
    ∗ owns (c : Thread nD τ) (st0_8 t) fullShare ((frameDats m 0 c).after 8 t)
    ∗ owns (c : Thread nD τ) (st0_9 t) fullShare ((frameDats m 0 c).after 9 t)
    ∗ (∃ X, owns (c : Thread nD τ) (st0_10 t) fullShare X))

set_option maxHeartbeats 4000000 in
/-- The body at any grid point. -/
theorem fr_body (c : Dev nD) (t : Fin cfg0.N) :
    frPre m c t ⊢ wp frame (wpE (defs₀ (F := F)) Variants.none c none) Set.univ (bodyAt0 t) (fun _ => frPost m c t) := by
  unfold frPre frPost bodyAt0
  simp only [fbefore_0, fbefore_1, fbefore_2, fbefore_3, fbefore_4, fbefore_5, fbefore_6, fbefore_7, fbefore_8, fbefore_9]
  rw [show (frameDats m 0 c).Φ t.succ = (frameDats m 0 c).Φ t.castSucc from rfl,
    show (frameDats m 0 c).owesAt () t.succ = (frameDats m 0 c).owesAt () t.castSucc from rfl,
    fafter_0, fafter_1, fafter_2, fafter_3, fafter_4, fafter_5, fafter_6, fafter_7, fafter_8, fafter_9]
  rw [show (frameDats m 0 c).Φ t.castSucc = Pipeline.ΦA spec0 c from rfl, PhiA_eq]
  unfold owns
  iintro ⟨⟨⟨⟨%d12, %f12, -, H12⟩, ⟨%d13, %f13, -, H13⟩, ⟨%d14, %f14, -, H14⟩⟩, Hg⟩, Ho, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, -, H11⟩⟩
  by_cases h0 : ((grid0.coords t) 0).val = 0
  · have hc1 := (first_eq_iff (grid0.coords t)).mpr h0
    have hc3 := (first_cond_iff (grid0.coords t)).mpr h0
    iapply (wp_use (runFirst c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) hc1 (first_sge _) hc3 f1 f2 f3 f4 f5 f6 f7 f8 f9 f10 f11 f12 f13 f14))
    isplitl [H1 H2 H3 H4 H5 H6 H7 H8 H9 H10 H12 H13 H14 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      iexact H11
    iintro %_ ⟨H1, H2, H3, H4, H5, H6, H7, H8, H9, H10, H12, H13, H14, H11⟩
    isplitl [H12 H13 H14 Hg]
    · isplitl [H12 H13 H14]
      · isplitl [H12]
        · iexists _; iexists _; isplitr
          swap; · iexact H12
          ipureintro; rfl
        isplitl [H13]
        · iexists _; iexists _; isplitr
          swap; · iexact H13
          ipureintro; rfl
        iexists _; iexists _; isplitr
        swap; · iexact H14
        ipureintro; rfl
      iexact Hg
    isplitl [Ho]; · iexact Ho
    isplitl [H1]
    · iexists f1; isplitr
      swap; · iexact H1
      ipureintro; exact h1
    isplitl [H2]
    · iexists f2; isplitr
      swap; · iexact H2
      ipureintro; exact h2
    isplitl [H3]
    · iexists f3; isplitr
      swap; · iexact H3
      ipureintro; exact h3
    isplitl [H4]
    · iexists f4; isplitr
      swap; · iexact H4
      ipureintro; exact h4
    isplitl [H5]
    · iexists f5; isplitr
      swap; · iexact H5
      ipureintro; exact h5
    isplitl [H6]
    · iexists f6; isplitr
      swap; · iexact H6
      ipureintro; exact h6
    isplitl [H7]
    · iexists f7; isplitr
      swap; · iexact H7
      ipureintro; exact h7
    isplitl [H8]
    · iexists f8; isplitr
      swap; · iexact H8
      ipureintro; exact h8
    isplitl [H9]
    · iexists f9; isplitr
      swap; · iexact H9
      ipureintro; exact h9
    isplitl [H10]
    · iexists f10; isplitr
      swap; · iexact H10
      ipureintro; exact h10
    iexists _; iexists _; isplitr
    swap; · iexact H11
    ipureintro; rfl
  · have hc1 := mt (first_eq_iff (grid0.coords t)).mp h0
    have hc3 := mt (first_cond_iff (grid0.coords t)).mp h0
    iapply (wp_use (runNext c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) hc1 (first_sge _) hc3 f1 f2 f3 f4 f5 f6 f7 f8 f9 f10 f11 f12 f13 f14))
    isplitl [H1 H2 H3 H4 H5 H6 H7 H8 H9 H10 H12 H13 H14 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      iexact H11
    iintro %_ ⟨H1, H2, H3, H4, H5, H6, H7, H8, H9, H10, H12, H13, H14, H11⟩
    isplitl [H12 H13 H14 Hg]
    · isplitl [H12 H13 H14]
      · isplitl [H12]
        · iexists _; iexists _; isplitr
          swap; · iexact H12
          ipureintro; rfl
        isplitl [H13]
        · iexists _; iexists _; isplitr
          swap; · iexact H13
          ipureintro; rfl
        iexists _; iexists _; isplitr
        swap; · iexact H14
        ipureintro; rfl
      iexact Hg
    isplitl [Ho]; · iexact Ho
    isplitl [H1]
    · iexists f1; isplitr
      swap; · iexact H1
      ipureintro; exact h1
    isplitl [H2]
    · iexists f2; isplitr
      swap; · iexact H2
      ipureintro; exact h2
    isplitl [H3]
    · iexists f3; isplitr
      swap; · iexact H3
      ipureintro; exact h3
    isplitl [H4]
    · iexists f4; isplitr
      swap; · iexact H4
      ipureintro; exact h4
    isplitl [H5]
    · iexists f5; isplitr
      swap; · iexact H5
      ipureintro; exact h5
    isplitl [H6]
    · iexists f6; isplitr
      swap; · iexact H6
      ipureintro; exact h6
    isplitl [H7]
    · iexists f7; isplitr
      swap; · iexact H7
      ipureintro; exact h7
    isplitl [H8]
    · iexists f8; isplitr
      swap; · iexact H8
      ipureintro; exact h8
    isplitl [H9]
    · iexists f9; isplitr
      swap; · iexact H9
      ipureintro; exact h9
    isplitl [H10]
    · iexists f10; isplitr
      swap; · iexact H10
      ipureintro; exact h10
    iexists _; iexists _; isplitr
    swap; · iexact H11
    ipureintro; rfl

theorem body_row (t : Fin cfg0.N) :
    defs₀ (F := F) .tc cfg0.body (cfg0.bodyArgs t (cfg0.slots t)) = bodyAt0 t := by
  unfold defs₀; rw [Defs.onTc_tc]

theorem fr_obligation (c : Dev nD) : BodyObligationLoose (frameDats (F := F) m 0 c) (defs₀ (F := F)) Variants.none () Set.univ open10 := fun t => by
  rw [bigSep_W0, bigSep_W0, body_row]
  exact triple_restated (fr_body m c t) rfl .rfl fun _ => .rfl

set_option backward.isDefEq.respectTransparency.types false in
/-- The launch. -/
theorem fr_run : θ_run defs (onTc (τ := τ) (main (F := F))) (s₀ m ρ)
    (fun r => RDat.FramePost cfg0 (fun c => (frameDats m 0 c).toRForget open10) (V m) r ∧ r.2.sem = fun _ => 0) :=
  Pipeline.θ_run_frame_forget_shared (Q' := _) cfgs (frameDats m) (0 : Fin 1) launch₀0 defs₀ Variants.none open10 m ρ main
    (hbody := fun c => fr_obligation m c) (hq := fun _ _ _ => rfl)
    (howed := fun _ _ => rfl) (V := V m) (hmain := hmain m Variants.none) (hA := frameDats_A m) (hΦ := fun _ _ => rfl)

/-- Every execution ends, with the arguments unchanged and every counter at zero. -/
theorem mla_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1).arr_in c 1 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (fr_run m ρ)

end Cert.Mla

end
-- ==== Proof.MlaClaim.lean ====
/- The attention call's claims. -/
module

public import proofs.«01_k».proof.Defs
public import proofs.«01_k».proof.Proof.MlaFrame
public import proofs.«01_k».proof.Proof.MlaBitsFrame
public import proofs.«01_k».proof.Proof.Gen.Reference3Ideal.Run
public import Idealize.ShloMosaic.Adequacy

@[expose] public section

noncomputable section

namespace Cert.Proof

open Idealize.ShloMosaic Idealize.ShloMosaic.TcCoe Idealize.SL.Sem

/-- The attention's kernel runs, leaves its arguments and returns every counter to zero. -/
theorem frame_mla_bits : Cert.quiescent_Kernel3 := fun m ρ _ => Cert.MlaBits.mla_frame m ρ

/-- The same of its ideal program. -/
theorem frame_mla : Cert.quiescent_Kernel3Ideal := fun m ρ _ => Cert.Mla.mla_frame m ρ

/-- The same of the attention's reference, which has no counter. -/
theorem frame_mla_ref : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- Each named constant of the ideal program has the value its name states. -/
theorem preserves_mla : Cert.preserves_Kernel3_Kernel3Ideal :=
  ⟨IdealRules.named_const.statement Cert.Kernel3Ideal.κ "inv_192" .f32 0x3BAAAAAB#32 ((1 / 192 : ℝ) : EReal) rfl,
    IdealRules.named_const.statement Cert.Kernel3Ideal.κ "qk_bound" .f32 0x419FECAF#32
      ((192 * ((Real.sqrt 192)⁻¹ * (Real.log 2)⁻¹) : ℝ) : EReal) rfl,
    IdealRules.named_const.statement Cert.Kernel3Ideal.κ "qk_scale" .f32 0x3DD53B95#32
      (((Real.sqrt 192)⁻¹ * (Real.log 2)⁻¹ : ℝ) : EReal) rfl⟩

end Cert.Proof

end
-- ==== Proof.MlaMath.lean ====
/- The arithmetic the attention's two sides share, over the extended reals: norms that come out finite, rotations moved past a positive factor, and softmax under any finite shift. -/
module

public import Idealize.ShloMosaic.Lib.Pipeline.ValueKit
public import Idealize.ShloMosaic.Lib.Pointwise
public import Idealize.ShloMosaic.Lib.IdealHost

@[expose] public section

noncomputable section

namespace Cert.MlaMath

open Idealize.ShloMosaic

/-- An extended real that is a real. -/
def IsReal (x : EReal) : Prop := ∃ r : ℝ, x = (r : EReal)

theorem fin_coe (r : ℝ) : IsReal (r : EReal) := ⟨r, rfl⟩
theorem fin_zero : IsReal 0 := ⟨0, by norm_num⟩
theorem fin_mul {x y : EReal} (hx : IsReal x) (hy : IsReal y) : IsReal (x * y) := by
  obtain ⟨a, rfl⟩ := hx; obtain ⟨b, rfl⟩ := hy; exact ⟨a * b, by norm_cast⟩
theorem fin_add {x y : EReal} (hx : IsReal x) (hy : IsReal y) : IsReal (x + y) := by
  obtain ⟨a, rfl⟩ := hx; obtain ⟨b, rfl⟩ := hy; exact ⟨a + b, by norm_cast⟩
theorem fin_sub {x y : EReal} (hx : IsReal x) (hy : IsReal y) : IsReal (x - y) := by
  obtain ⟨a, rfl⟩ := hx; obtain ⟨b, rfl⟩ := hy; exact ⟨a - b, by norm_cast⟩
theorem fin_neg {x : EReal} (hx : IsReal x) : IsReal (-x) := by
  obtain ⟨a, rfl⟩ := hx; exact ⟨-a, by norm_cast⟩

theorem fin_of_ne {x : EReal} (h1 : x ≠ ⊥) (h2 : x ≠ ⊤) : IsReal x := ⟨x.toReal, (EReal.coe_toReal h2 h1).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

theorem sq_nonneg' (x : EReal) : 0 ≤ x * x := by
  induction x with
  | bot => simp
  | coe r => rw [← EReal.coe_mul]; exact_mod_cast mul_self_nonneg r
  | top => simp

theorem mul_sum_of {ι : Type} (s : Finset ι) (c : EReal) (h0 : 0 ≤ c) (h1 : c ≠ ⊤) (f : ι → EReal) : (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h0 h1, mul_comm c, mul_comm c]

/-! ## One over a root mean square -/

/-- One over the root of the mean of squares `ms` (a sum divided by its length) plus a positive number. -/
theorem rsqrt_cases {y e : EReal} (hy : 0 ≤ y) (he : ∃ r : ℝ, 0 < r ∧ e = r) :
    0 ≤ Ideal.rsqrt (y + e) ∧ Ideal.rsqrt (y + e) ≠ ⊤ ∧ (y = ⊤ → Ideal.rsqrt (y + e) = 0) := by
  obtain ⟨r, hr, rfl⟩ := he
  induction y with
  | bot => simp at hy
  | top =>
    rw [show (⊤ : EReal) + (r : EReal) = ⊤ from EReal.top_add_coe r]
    exact ⟨le_rfl, show (0 : EReal) ≠ ⊤ from EReal.zero_ne_top, fun _ => rfl⟩
  | coe a =>
    have ha : 0 ≤ a := by exact_mod_cast hy
    rw [← EReal.coe_add]
    have h : Ideal.rsqrt ((a + r : ℝ) : EReal) = (((Real.sqrt (a + r))⁻¹ : ℝ) : EReal) := by
      show (if a + r < 0 then ⊥ else if a + r = 0 then ⊤ else _) = _
      rw [if_neg (by linarith), if_neg (by linarith)]
    rw [h]
    refine ⟨by exact_mod_cast inv_nonneg.2 (Real.sqrt_nonneg _), EReal.coe_ne_top _, fun h => absurd h (EReal.coe_ne_top _)⟩

/-- An entry times one over the root mean square of its row is finite. -/
theorem norm_fin {ι : Type} [Fintype ι] (u : ι → EReal) (c : EReal) (hc : ∃ r : ℝ, 0 < r ∧ c = r) (e : EReal) (he : ∃ r : ℝ, 0 < r ∧ e = r) (x : ι) :
    IsReal (u x * Ideal.rsqrt ((∑ i, u i * u i) * c + e)) := by
  classical
  have hs : 0 ≤ ∑ i, u i * u i := Finset.sum_nonneg fun i _ => sq_nonneg' _
  obtain ⟨c', hc', rfl⟩ := hc
  have hy : 0 ≤ (∑ i, u i * u i) * (c' : EReal) := mul_nonneg hs (by exact_mod_cast hc'.le)
  obtain ⟨h0, h1, h2⟩ := rsqrt_cases hy he
  have hf : IsReal (Ideal.rsqrt ((∑ i, u i * u i) * (c' : EReal) + e)) := fin_of_ne (ne_of_gt (lt_of_lt_of_le (by simp) h0)) h1
  by_cases hx : IsReal (u x)
  · exact fin_mul hx hf
  · have ht : u x * u x = ⊤ := by
      have : u x = ⊥ ∨ u x = ⊤ := by
        by_contra hn
        push Not at hn
        exact hx (fin_of_ne hn.1 hn.2)
      rcases this with h | h <;> rw [h] <;> simp
    have hsum : ∑ i, u i * u i = ⊤ := by
      have := Finset.single_le_sum (f := fun i => u i * u i) (fun i _ => sq_nonneg' _) (Finset.mem_univ x)
      exact top_le_iff.1 (ht ▸ this)
    have : (∑ i, u i * u i) * (c' : EReal) = ⊤ := by rw [hsum]; exact EReal.top_mul_coe_of_pos hc'
    rw [h2 this, mul_zero]
    exact fin_zero

/-! ## The rotation -/

theorem rot_sub {i : EReal} (h0 : 0 ≤ i) (h1 : i ≠ ⊤) (t c g t' s g' : EReal) :
    (t * c * g + t' * (-s) * g') * i = t * i * g * c - t' * i * g' * s := by
  rw [mul_comm, EReal.left_distrib_of_nonneg_of_ne_top h0 h1, sub_eq_add_neg, ← mul_neg]
  congr 1 <;> simp only [mul_comm, mul_left_comm, mul_assoc]

theorem rot_add {i : EReal} (h0 : 0 ≤ i) (h1 : i ≠ ⊤) (t c g t' s g' : EReal) :
    (t * c * g + t' * s * g') * i = t * i * g * c + t' * i * g' * s := by
  rw [mul_comm, EReal.left_distrib_of_nonneg_of_ne_top h0 h1]
  congr 1 <;> simp only [mul_comm, mul_left_comm, mul_assoc]

/-! ## Softmax under a shift -/

theorem exp_fin (r : ℝ) : Ideal.exp (r : EReal) = (Real.exp r : EReal) := rfl
theorem exp2_fin (r : ℝ) : Ideal.exp2 (r : EReal) = (Real.rpow 2 r : EReal) := rfl

theorem rpow_shift (x b M : ℝ) : Real.rpow 2 (x * (Real.log 2)⁻¹ - b) = Real.exp (x - M) * Real.exp (M - b * Real.log 2) := by
  have h2 : (0 : ℝ) < Real.log 2 := Real.log_pos (by norm_num)
  show (2 : ℝ) ^ (x * (Real.log 2)⁻¹ - b) = _
  rw [Real.rpow_def_of_pos (by norm_num), ← Real.exp_add]
  congr 1
  field_simp
  ring

/-- Weights in powers of two under one shift, divided by their sum, give what exponentials under another do. -/
theorem soft_eq {n : ℕ} [NeZero n] (x : Fin n → ℝ) (v : Fin n → EReal) (b M : ℝ) :
    Ideal.div (∑ k, Ideal.exp2 (((x k * (Real.log 2)⁻¹ : ℝ) : EReal) - (b : EReal)) * v k) (∑ k, Ideal.exp2 (((x k * (Real.log 2)⁻¹ : ℝ) : EReal) - (b : EReal)) * 1)
      = ∑ k, Ideal.div (Ideal.exp ((x k : EReal) - (M : EReal))) (∑ k', Ideal.exp ((x k' : EReal) - (M : EReal))) * v k := by
  have e1 : ∀ k, Ideal.exp2 (((x k * (Real.log 2)⁻¹ : ℝ) : EReal) - (b : EReal)) = ((Real.exp (x k - M) * Real.exp (M - b * Real.log 2) : ℝ) : EReal) := fun k => by
    rw [← EReal.coe_sub, exp2_fin, rpow_shift (x k) b M]
  have e2 : ∀ k, Ideal.exp ((x k : EReal) - (M : EReal)) = ((Real.exp (x k - M) : ℝ) : EReal) := fun k => by
    rw [← EReal.coe_sub, exp_fin]
  simp only [e1, e2, mul_one]
  rw [← coe_sum, ← coe_sum]
  set c := Real.exp (M - b * Real.log 2) with hc
  have hcp : 0 < c := Real.exp_pos _
  have hW : 0 < ∑ k, Real.exp (x k - M) := Finset.sum_pos (fun k _ => Real.exp_pos _) ⟨0, Finset.mem_univ _⟩
  rw [← Finset.sum_mul]
  set W := ∑ k, Real.exp (x k - M) with hWd
  have hne : ((W * c : ℝ) : EReal) ≠ 0 := by exact_mod_cast (mul_pos hW hcp).ne'
  have hne' : ((W : ℝ) : EReal) ≠ 0 := by exact_mod_cast hW.ne'
  unfold Ideal.div
  rw [if_neg hne]
  simp only [if_neg hne']
  rw [← EReal.coe_inv, ← EReal.coe_inv, mul_sum_of _ _ (by exact_mod_cast (inv_pos.2 (mul_pos hW hcp)).le) (EReal.coe_ne_top _)]
  refine Finset.sum_congr rfl fun k _ => ?_
  rw [mul_right_comm, ← EReal.coe_mul, ← EReal.coe_mul]
  congr 2
  field_simp

/-! ## The largest of finitely many reals -/

theorem fold_max_fin {ι : Type} [Fintype ι] [Nonempty ι] (f : ι → EReal) (hf : ∀ i, IsReal (f i)) (a : EReal) (ha : a = ⊥) : IsReal (Finset.fold max a f Finset.univ) := by
  subst ha
  have h : Finset.fold max ⊥ f Finset.univ = Finset.univ.sup f := rfl
  rw [h]
  obtain ⟨i, _, hi⟩ := Finset.exists_mem_eq_sup Finset.univ Finset.univ_nonempty f
  rw [hi]
  exact hf i

/-- A half of a sum of a lane and its double. -/
theorem half_add {h a : EReal} (hh : h = ((1 / 2 : ℝ) : EReal)) (ha : 0 ≤ a) : h * a + h * a = a := by
  subst hh
  induction a with
  | bot => simp at ha
  | coe r => rw [← EReal.coe_mul, ← EReal.coe_add]; congr 1; ring
  | top => rw [EReal.coe_mul_top_of_pos (by norm_num)]; rfl

theorem ofBits_half : Ideal.ofBits .f32 0x3F000000#32 = ((1 / 2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_192 : Ideal.ofBits .f32 0x43400000#32 = ((192 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num
theorem ofBits_eps : ∃ r : ℝ, 0 < r ∧ Ideal.ofBits .f32 0x358637BD#32 = r := by
  refine ⟨_, ?_, by simp [Ideal.ofBits, Ideal.ieee, -EReal.coe_mul]; rfl⟩
  norm_num
theorem ofBits_ninf : Ideal.ofBits .f32 0xFF800000#32 = ⊥ := by
  simp [Ideal.ofBits, Ideal.ieee]
theorem ofBits_inf : Ideal.ofBits .f32 0x7F800000#32 = ⊤ := by
  simp [Ideal.ofBits, Ideal.ieee]

theorem div_of (x : EReal) (r : ℝ) (hr : 0 < r) : Ideal.div x (r : EReal) = x * ((1 / r : ℝ) : EReal) := by
  unfold Ideal.div
  rw [if_neg (by exact_mod_cast hr.ne'), ← EReal.coe_inv, one_div]

end Cert.MlaMath

end
-- ==== Proof.MlaGain.lean ====
/- What the precondition says: the two head gains are real numbers. -/
module

public import proofs.«01_k».proof.Pre_gains_finite
public import proofs.«01_k».proof.Proof.MlaMath
public import Idealize.ShloMosaic.Lib.ReduceAll

@[expose] public section

noncomputable section

namespace Cert.MlaGain

open Idealize.ShloMosaic Cert.MlaMath Cert.Pre_gains_finite

/-- The shape facts of the precondition's own operations. -/
instance facts : Cert.Pre_gains_finite.Facts where
  bcast_S_S192 := by decide
  reducesTo_S192_S_d0 := by decide
  h_S_ := by decide

instance : Subsingleton S_.Idx := ⟨fun a b => funext fun k => k.elim0⟩

/-- An extended real whose absolute value is below infinity is a real number. -/
theorem real_of_abs (x : EReal) (h : cmpf (F := Ideal) (s := S_) (φ := .f32) .olt (fun _ => FloatOps.absf (F := Ideal) (φ := .f32) x) (constant S_ .f32 0x7F800000#32) (fun a => a.elim0) = 1#1) :
    IsReal x := by
  have e : cmpf (F := Ideal) (s := S_) (φ := .f32) .olt (fun _ => FloatOps.absf (F := Ideal) (φ := .f32) x) (constant S_ .f32 0x7F800000#32) (fun a => a.elim0)
      = BitVec.ofBool (decide (max x (-x) < Ideal.ofBits .f32 0x7F800000#32)) := rfl
  rw [e, ofBits_inf] at h
  have h' : max x (-x) < ⊤ := by
    by_contra hn
    rw [decide_eq_false hn] at h
    exact absurd h (by decide)
  obtain ⟨h1, h2⟩ := max_lt_iff.1 h'
  refine fin_of_ne ?_ ?_
  · rintro rfl
    simp at h2
  · exact h1.ne

/-- One of the two conjuncts. -/
theorem all_real (g : FVec Ideal S192 .f32) (j : S_.Idx)
    (h : Host.reduce IntOp.andi (cmpf .olt (Host.absf g) (broadcastInDim S192 ![] Facts.bcast_S_S192 (constant S_ .f32 0x7F800000#32))) (constantI S_ 1 1#1)
      Facts.reducesTo_S192_S_d0 Facts.h_S_ j = 1#1) (i : S192.Idx) : IsReal (g i) :=
  real_of_abs (g i) (Host.reduce_andi_all _ _ _ _ j h i)

/-- The precondition, of both gains. -/
theorem gains (x0 : FVec Ideal S32x2048x512 .bf16) (x1 : FVec Ideal S256 .f32) (x2 : FVec Ideal S256x768 .f32) (x3 : FVec Ideal S128 .f32)
    (x4 : FVec Ideal S128x1024 .f32) (x5 x6 : FVec Ideal S192 .f32) (h : fn (F := Ideal) x0 x1 x2 x3 x4 x5 x6 = fun _ => 1#1) :
    (∀ i, IsReal (x5 i)) ∧ ∀ i, IsReal (x6 i) := by
  have h0 := congrFun h (fun a => a.elim0)
  have ha (a b : BitVec 1) (hab : a &&& b = 1#1) : a = 1#1 ∧ b = 1#1 := by
    revert a b
    decide
  obtain ⟨h5, h6⟩ := ha _ _ h0
  exact ⟨all_real x5 _ h5, all_real x6 _ h6⟩

end Cert.MlaGain
end
-- ==== Proof.MlaPay.lean ====
/- What the kernel's vector expressions hold at an index, at the extended reals: attention of one query tile, and the query, key and value tiles. -/
module

public import proofs.«01_k».proof.Proof.MlaTrip
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.ShloMosaic.Tactic
open Cert.Kernel3Ideal Cert.Kernel3Ideal.Gen

theorem shift_lt {o n m : ℕ} (ho : o + n ≤ m) (r : Fin n) : o + r.val < m := by omega

theorem at256 (x : Fin 128) : 256 + x.val < 512 := by omega
theorem at384 (x : Fin 128) : 384 + x.val < 512 := by omega
theorem at256h (h : Fin 4) (e : Fin 256) : 256 * h.val + e.val < 1024 := by omega
theorem at256q (x : Fin 256) : x.val < 512 := by omega

/-- The norms' epsilon. -/
abbrev eps : EReal := Ideal.ofBits .f32 0x358637BD#32

/-- The named reciprocal of the head width. -/
abbrev inv192 : EReal := Named.named (F := Ideal) κ "inv_192" (φ := .f32) 0x3BAAAAAB#32

/-- The named scale of the scores, in powers of two. -/
abbrev qkScale : EReal := Named.named (F := Ideal) κ "qk_scale" (φ := .f32) 0x3DD53B95#32

/-! ## Attention of a query tile -/

/-- The weighted sum of the values over the weights' sum, the scores `s` shifted by `b`. -/
def softOut {n : ℕ} (s : Fin n → EReal) (b : EReal) (v l : Fin n → EReal) : EReal :=
  Ideal.div (∑ k, (FloatOps.exp2 (F := Ideal) (φ := .f32) (s k - b) : EReal) * v k) (∑ k, (FloatOps.exp2 (F := Ideal) (φ := .f32) (s k - b) : EReal) * l k)

/-- The largest of the scores. -/
def rowMax {n : ℕ} (s : Fin n → EReal) : EReal := Finset.fold max (Ideal.ofBits FTy.f32 0xFF800000#32) s Finset.univ

theorem attend_max_at (q : Vec Ideal S1x1x512x256 .bf16) (K V : Vec Ideal S1x2048x256 .bf16) (r : Fin 512) (j : Fin 128) :
    k0_pay118 (F := Ideal) q K V (ix3 0 r j)
      = softOut (fun k : Fin 2048 => ∑ x, q (ix4 0 0 r x) * K (ix3 0 k x)) (rowMax fun k : Fin 2048 => ∑ x, q (ix4 0 0 r x) * K (ix3 0 k x))
          (fun k => V (ix3 0 k ⟨j, by omega⟩)) (fun k => V (ix3 0 k ⟨128 + j, by omega⟩)) := by
  pointwise [k0_pay118, softOut, rowMax]

theorem attend_safe_at (b : Ideal .f32) (q : Vec Ideal S1x1x512x256 .bf16) (K0 V0 K1 V1 : Vec Ideal S1x1024x256 .bf16)
    (K V : Fin 2048 → Fin 256 → EReal) (hK0 : ∀ k x, K0 (ix3 0 k x) = K ⟨k, by omega⟩ x) (hK1 : ∀ k x, K1 (ix3 0 k x) = K ⟨1024 + k, by omega⟩ x)
    (hV0 : ∀ k x, V0 (ix3 0 k x) = V ⟨k, by omega⟩ x) (hV1 : ∀ k x, V1 (ix3 0 k x) = V ⟨1024 + k, by omega⟩ x) (r : Fin 512) (j : Fin 128) :
    k0_pay87 (F := Ideal) (k0_pay86 b q K0 V0 q K1 V1) (ix3 0 r j)
      = softOut (fun k : Fin 2048 => ∑ x, q (ix4 0 0 r x) * K k x) b (fun k => V k ⟨j, by omega⟩) (fun k => V k ⟨128 + j, by omega⟩) := by
  pointwise [k0_pay87, k0_pay86, softOut]
  simp only [hK0, hK1, hV0, hV1]
  rw [Fin.sum_univ_two_halves 1024 1024 rfl, Fin.sum_univ_two_halves 1024 1024 rfl]

/-! ## Keys and values -/

theorem sel64 (x : Fin 128) (a b : EReal) :
    (Scalar.select (IntOp.cmpi .slt (BitVec.ofNat 32 x.val) 64#32) a b : EReal) = if x.val < 64 then a else b := by
  have h : ∀ x : Fin 128, IntOp.cmpi .slt (BitVec.ofNat 32 x.val) 64#32 = if x.val < 64 then 1#1 else 0#1 := by decide +kernel
  rw [h x]; split <;> rfl

theorem sel32 (x : Fin 128) (a b : EReal) :
    (Scalar.select (IntOp.cmpi .slt (BitVec.ofNat 32 x.val) 32#32) a b : EReal) = if x.val < 32 then a else b := by
  have h : ∀ x : Fin 128, IntOp.cmpi .slt (BitVec.ofNat 32 x.val) 32#32 = if x.val < 32 then 1#1 else 0#1 := by decide +kernel
  rw [h x]; split <;> rfl

section Block

variable (Z : FVec Ideal S1x2048x512 .bf16) (C S : FVec Ideal S2048x128 .f32) (gcq : FVec Ideal S1x256 .f32) (Wq : FVec Ideal S256x1024 .bf16)
  (gckv : FVec Ideal S1x128 .f32) (Wkv : FVec Ideal S128x1024 .bf16) (gq gk : FVec Ideal S3x128 .f32)

/-- The latent key and value row, normed. -/
def ckvn (r : Fin 2048) (j : Fin 128) : EReal :=
  Z (ix3 0 r ⟨256 + j, by omega⟩)
    * Ideal.rsqrt (Ideal.div (∑ x : Fin 128, Z (ix3 0 r ⟨256 + x, by omega⟩) * Z (ix3 0 r ⟨256 + x, by omega⟩)) (Ideal.ofBits .f32 0x43000000#32) + eps)
    * gckv (ix2 0 j)

/-- The row's products with the key and value weight. -/
def kvAll (r : Fin 2048) (e : Fin 1024) : EReal := ∑ x, ckvn Z gckv r x * Wkv (ix2 x e)

/-- One over the root mean square of head `h`'s key. -/
def kInv (h : Fin 4) (r : Fin 2048) : EReal :=
  Ideal.rsqrt ((∑ x : Fin 128, (kvAll Z gckv Wkv r ⟨256 * h + x, by omega⟩ * kvAll Z gckv Wkv r ⟨256 * h + x, by omega⟩
    + if x.val < 64 then Z (ix3 0 r ⟨384 + x, by omega⟩) * Z (ix3 0 r ⟨384 + x, by omega⟩) else 0)) * inv192 + eps)

/-- The rotated lanes of the keys before their norm. -/
def kRope (r : Fin 2048) (j : Fin 128) : EReal :=
  Z (ix3 0 r ⟨384 + j, by omega⟩) * C (ix2 r j) * gk (ix2 1 j)
    + (if j.val < 32 then Z (ix3 0 r ⟨384 + (j.val + 128 - 96) % 128, by omega⟩) else Z (ix3 0 r ⟨384 + (j.val + 128 - 32) % 128, by omega⟩))
      * S (ix2 r j) * gk (ix2 2 j)

/-- Head `h`'s key. -/
def keyAt (h : Fin 4) (r : Fin 2048) (j : Fin 256) : EReal :=
  if hj : j.val < 128 then kvAll Z gckv Wkv r ⟨256 * h + j, by omega⟩ * kInv Z gckv Wkv h r * gk (ix2 0 ⟨j, hj⟩)
  else kRope Z C S gk r ⟨j - 128, by omega⟩ * kInv Z gckv Wkv h r

/-- Head `h`'s value. -/
def valAt (h : Fin 4) (r : Fin 2048) (j : Fin 128) : EReal := kvAll Z gckv Wkv r ⟨256 * h + (128 + j), by omega⟩

variable (zc zt : Vec Ideal S1x1024x128 .bf16) (cs sn : Vec Ideal S1024x128 .f32) (W : Vec Ideal S128x256 .bf16) (o : ℕ) (ho : o + 1024 ≤ 2048) (h : Fin 4)
  (hzc : ∀ (b : Fin 1024) (x : Fin 128), zc (ix3 0 b x) = Z (ix3 0 ⟨o + b, shift_lt ho b⟩ ⟨256 + x, at256 x⟩))
  (hzt : ∀ (b : Fin 1024) (x : Fin 128), zt (ix3 0 b x) = Z (ix3 0 ⟨o + b, shift_lt ho b⟩ ⟨384 + x, at384 x⟩))
  (hcs : ∀ (b : Fin 1024) (x : Fin 128), cs (ix2 b x) = C (ix2 ⟨o + b, shift_lt ho b⟩ x))
  (hsn : ∀ (b : Fin 1024) (x : Fin 128), sn (ix2 b x) = S (ix2 ⟨o + b, shift_lt ho b⟩ x))
  (hW : ∀ (x : Fin 128) (e : Fin 256), W (ix2 x e) = Wkv (ix2 x ⟨256 * h + e, at256h h e⟩))

include hzc in
theorem ckv_at (r : Fin 1024) (j : Fin 128) : k0_pay4 (F := Ideal) zc gckv (ix2 r j) = ckvn Z gckv ⟨o + r, shift_lt ho r⟩ j := by
  pointwise [k0_pay4, ckvn]
  simp only [hzc]

include hzc hzt hW in
theorem nope_at (r : Fin 1024) (j : Fin 128) :
    k0_pay13 (F := Ideal) (k0_pay3 gk) (k0_pay4 zc gckv) (k0_pay6 zt) W (ix3 0 r j) = keyAt Z C S gckv Wkv gk h ⟨o + r, shift_lt ho r⟩ ⟨j, by omega⟩ := by
  rw [keyAt, dif_pos j.isLt]
  have hc := ckv_at Z gckv zc o ho hzc
  generalize k0_pay4 (F := Ideal) zc gckv = ckv at hc ⊢
  pointwise [k0_pay13, k0_pay12, k0_pay11, k0_pay10, k0_pay6, k0_pay5, k0_pay3]
  simp only [hc, hzt, hW, sel64, kvAll, kInv]

include hzc hzt hcs hsn hW in
theorem rope_at (r : Fin 1024) (j : Fin 128) :
    k0_pay14 (F := Ideal) (k0_pay3 gk) (k0_pay4 zc gckv) (k0_pay6 zt) (k0_pay7 zt) (k0_pay8 gk zt cs) sn W (ix3 0 r j)
      = keyAt Z C S gckv Wkv gk h ⟨o + r, shift_lt ho r⟩ ⟨128 + j, by omega⟩ := by
  rw [keyAt, dif_neg (by simp)]
  have hj : (⟨128 + j.val - 128, by omega⟩ : Fin 128) = j := Fin.ext (by simp)
  simp only [hj]
  have hc := ckv_at Z gckv zc o ho hzc
  generalize k0_pay4 (F := Ideal) zc gckv = ckv at hc ⊢
  pointwise [k0_pay14, k0_pay9, k0_pay8, k0_pay7, k0_pay12, k0_pay11, k0_pay10, k0_pay6, k0_pay5, k0_pay3]
  simp only [hc, hzt, hW, hcs, hsn, sel64, sel32, kvAll, kInv, kRope]

include hzc hW in
theorem value_at (r : Fin 1024) (j : Fin 128) :
    k0_pay15 (F := Ideal) (k0_pay4 zc gckv) W (ix3 0 r j) = valAt Z gckv Wkv h ⟨o + r, shift_lt ho r⟩ j := by
  have hc := ckv_at Z gckv zc o ho hzc
  generalize k0_pay4 (F := Ideal) zc gckv = ckv at hc ⊢
  pointwise [k0_pay15, k0_pay10]
  simp only [hc, hW, kvAll, valAt]

end Block

/-! ## Queries -/

/-- The pair of block sums' matrix. -/
def ones2 : FVec Ideal S256x256 .bf16 := k0_pay141 k0_pay137 k0_pay138 k0_pay139 k0_pay140

theorem ones2_at (i j : Fin 256) : ones2 (ix2 i j) = if i.val / 128 = j.val / 128 then 1 else 0 := by
  have h1 : ∀ i : Fin 256, (k0_pay137 (ix2 i 0) : BitVec 32) = BitVec.ofNat 32 (i.val / 128) := by decide +kernel
  have h2 : ∀ j : Fin 256, (Scalar.select (IntOp.andi (k0_pay139 (ix2 0 j)) (k0_pay140 (ix2 0 j))) (IntOp.subi (k0_pay138 (ix2 0 j)) 1#32) (k0_pay138 (ix2 0 j)) : BitVec 32) = BitVec.ofNat 32 (j.val / 128) := by decide +kernel
  have h3 : ∀ a b : Fin 2, IntOp.cmpi .eq (BitVec.ofNat 32 a.val) (BitVec.ofNat 32 b.val) = if a.val = b.val then 1#1 else 0#1 := by decide
  show Scalar.select (IntOp.cmpi .eq (k0_pay137 (ix2 i 0)) (Scalar.select (IntOp.andi (k0_pay139 (ix2 0 j)) (k0_pay140 (ix2 0 j))) (IntOp.subi (k0_pay138 (ix2 0 j)) 1#32) (k0_pay138 (ix2 0 j)))) (Ideal.ofBits .f32 0x3F800000#32) (Ideal.ofBits .f32 0x00000000#32) = _
  rw [h1, h2, h3 ⟨i.val / 128, by omega⟩ ⟨j.val / 128, by omega⟩]
  rw [Ideal.ofBits_one_f32, Ideal.ofBits_zero_f32]
  split <;> rfl

/-- The squares whose block sums are the heads' sums of squares: the rotated lanes are held twice. -/
def sqw (qn t : FVec Ideal S512x128 .f32) : FVec Ideal S512x128 .f32 :=
  addf (mulf qn qn) (mulf (broadcast S512x128 (Scalar.ofBits .f32 0x3F000000#32)) (mulf t t))

/-- Two heads' sums of squares at once. -/
def grp (a b : FVec Ideal S512x128 .f32) : FVec Ideal S512x256 .f32 :=
  matmul dot_S512x256_S256x256_S512x256_1_0_0_1_n_n none
    (truncf .bf16 (concatenate S512x256 1 [⟨S512x128, a⟩, ⟨S512x128, b⟩] concatenates_S512x128_S512x128_S512x256_d1) bitsLt_bf16_f32) ones2
    (constant S512x256 .f32 0x00000000#32)

theorem grp_lo (a b : FVec Ideal S512x128 .f32) (r : Fin 512) (j : Fin 128) : grp a b (ix2 r ⟨j, by omega⟩) = ∑ x, a (ix2 r x) := by
  unfold grp
  have h1 (x : Fin 128) : (x : ℕ) / 128 = 0 := by omega
  have h2 (x : Fin 128) : (128 + x : ℕ) / 128 = 1 := by omega
  pointwise [sumSplitAll]
  simp only [ones2_at, h1, h2, h1 j, if_true, reduceIte, OfNat.one_ne_ofNat, one_ne_zero, mul_one, mul_zero, Finset.sum_const_zero, add_zero]

theorem grp_hi (a b : FVec Ideal S512x128 .f32) (r : Fin 512) (j : Fin 128) : grp a b (ix2 r ⟨128 + j, by omega⟩) = ∑ x, b (ix2 r x) := by
  unfold grp
  have h1 (x : Fin 128) : (x : ℕ) / 128 = 0 := by omega
  have h2 (x : Fin 128) : (128 + x : ℕ) / 128 = 1 := by omega
  pointwise [sumSplitAll]
  simp only [ones2_at, h1, h2, if_true, reduceIte, zero_ne_one, mul_one, mul_zero, Finset.sum_const_zero, zero_add]

/-- Head `h`'s query tile from its products, its sum of squares and the tables times the gains. -/
def qHead (g : FVec Ideal S3x128 .f32) (cg sg ss qn t : FVec Ideal S512x128 .f32) : FVec Ideal S1x1x512x256 .bf16 :=
  let inv := mulf (rsqrt (addf (mulf ss (broadcast S512x128 (Named.named κ "inv_192" 0x3BAAAAAB#32))) (broadcast S512x128 (Scalar.ofBits .f32 0x358637BD#32))))
    (broadcast S512x128 (Named.named κ "qk_scale" 0x3DD53B95#32))
  shapeCast S1x1x512x256 (truncf .bf16 (concatenate S512x256 1
    [⟨S512x128, mulf (mulf qn inv) (broadcastTo S512x128 (extractStridedSlice S1x128 ![0, 0] g slices_S3x128_o0_0_S1x128) broadcasts_S1x128_S512x128)⟩,
     ⟨S512x128, mulf (addf (mulf t cg) (mulf (dynamicRotate 1 64#32 none t rotates_S512x128_d1) sg)) inv⟩]
    concatenates_S512x128_S512x128_S512x256_d1) bitsLt_bf16_f32) shapeCasts_S512x256_S1x1x512x256

theorem qHead_lo (g : FVec Ideal S3x128 .f32) (cg sg ss qn t : FVec Ideal S512x128 .f32) (r : Fin 512) (j : Fin 128) :
    qHead g cg sg ss qn t (ix4 0 0 r ⟨j, by omega⟩) = qn (ix2 r j) * (Ideal.rsqrt (ss (ix2 r j) * inv192 + eps) * qkScale) * g (ix2 0 j) := by
  unfold qHead
  pointwise []

theorem qHead_hi (g : FVec Ideal S3x128 .f32) (cg sg ss qn t : FVec Ideal S512x128 .f32) (r : Fin 512) (j : Fin 128) :
    qHead g cg sg ss qn t (ix4 0 0 r ⟨128 + j, by omega⟩)
      = (t (ix2 r j) * cg (ix2 r j) + t (ix2 r ⟨(j.val + 128 - 64) % 128, by omega⟩) * sg (ix2 r j)) * (Ideal.rsqrt (ss (ix2 r j) * inv192 + eps) * qkScale) := by
  unfold qHead
  pointwise []

/-- The latent query row, normed. -/
def cqn (Z : FVec Ideal S1x2048x512 .bf16) (gcq : FVec Ideal S1x256 .f32) (r : Fin 2048) (x : Fin 256) : EReal :=
  Z (ix3 0 r ⟨x, by omega⟩)
    * Ideal.rsqrt ((∑ y : Fin 256, Z (ix3 0 r ⟨y, by omega⟩) * Z (ix3 0 r ⟨y, by omega⟩)) * Ideal.ofBits .f32 0x3B800000#32 + eps) * gcq (ix2 0 x)

section Query

variable (Z : FVec Ideal S1x2048x512 .bf16) (C S : FVec Ideal S2048x128 .f32) (gcq : FVec Ideal S1x256 .f32) (Wq : FVec Ideal S256x1024 .bf16)
  (gq : FVec Ideal S3x128 .f32)

/-- The row's products with the query weight. -/
def qAll (r : Fin 2048) (e : Fin 1024) : EReal := ∑ x, cqn Z gcq r x * Wq (ix2 x e)

/-- One over the root mean square of head `h`'s query, times the scores' scale. -/
def qInv (h : Fin 4) (r : Fin 2048) : EReal :=
  Ideal.rsqrt ((∑ x : Fin 128, (qAll Z gcq Wq r ⟨256 * h + x, by omega⟩ * qAll Z gcq Wq r ⟨256 * h + x, by omega⟩
    + Ideal.ofBits .f32 0x3F000000#32 * (qAll Z gcq Wq r ⟨256 * h + (128 + x), by omega⟩ * qAll Z gcq Wq r ⟨256 * h + (128 + x), by omega⟩))) * inv192 + eps) * qkScale

/-- Head `h`'s query. -/
def qryAt (h : Fin 4) (r : Fin 2048) (j : Fin 256) : EReal :=
  if hj : j.val < 128 then qAll Z gcq Wq r ⟨256 * h + j, by omega⟩ * qInv Z gcq Wq h r * gq (ix2 0 ⟨j, hj⟩)
  else (qAll Z gcq Wq r ⟨256 * h + (128 + (j.val - 128)), by omega⟩ * (C (ix2 r ⟨j - 128, by omega⟩) * gq (ix2 1 ⟨j - 128, by omega⟩))
    + qAll Z gcq Wq r ⟨256 * h + (128 + ((j.val - 128) + 128 - 64) % 128), by omega⟩ * (S (ix2 r ⟨j - 128, by omega⟩) * gq (ix2 2 ⟨j - 128, by omega⟩))) * qInv Z gcq Wq h r

variable (zq : Vec Ideal S1x512x256 .bf16) (cs sn : Vec Ideal S512x128 .f32) (o : ℕ) (ho : o + 512 ≤ 2048)
  (hzq : ∀ (b : Fin 512) (x : Fin 256), zq (ix3 0 b x) = Z (ix3 0 ⟨o + b, shift_lt ho b⟩ ⟨x, at256q x⟩))
  (hcs : ∀ (b : Fin 512) (x : Fin 128), cs (ix2 b x) = C (ix2 ⟨o + b, shift_lt ho b⟩ x))
  (hsn : ∀ (b : Fin 512) (x : Fin 128), sn (ix2 b x) = S (ix2 ⟨o + b, shift_lt ho b⟩ x))

include hzq in
theorem qAll_at (r : Fin 512) (j : Fin 1024) : k0_pay67 (F := Ideal) zq gcq Wq (ix2 r j) = qAll Z gcq Wq ⟨o + r, shift_lt ho r⟩ j := by
  pointwise [k0_pay67]
  simp only [hzq, qAll, cqn]

include hzq hcs hsn in
/-- A head's query tile, given where its parts come from. -/
theorem qHead_at (h : Fin 4) (ss qn t : FVec Ideal S512x128 .f32) (hqn : ∀ r j, qn (ix2 r j) = k0_pay67 (F := Ideal) zq gcq Wq (ix2 r ⟨256 * h + j, by omega⟩))
    (ht : ∀ r j, t (ix2 r j) = k0_pay67 (F := Ideal) zq gcq Wq (ix2 r ⟨256 * h + (128 + j), by omega⟩))
    (hss : ∀ r j, ss (ix2 r j) = ∑ x, sqw qn t (ix2 r x)) (r : Fin 512) (j : Fin 256) :
    qHead gq (k0_pay68 gq cs) (k0_pay69 gq sn) ss qn t (ix4 0 0 r j) = qryAt Z C S gcq Wq gq h ⟨o + r, shift_lt ho r⟩ j := by
  have hq := qAll_at Z gcq Wq zq o ho hzq
  have hs (r : Fin 512) (x : Fin 128) : sqw qn t (ix2 r x) = qn (ix2 r x) * qn (ix2 r x) + Ideal.ofBits .f32 0x3F000000#32 * (t (ix2 r x) * t (ix2 r x)) := by
    pointwise [sqw]
  have hc (r : Fin 512) (x : Fin 128) : k0_pay68 gq cs (ix2 r x) = C (ix2 ⟨o + r, shift_lt ho r⟩ x) * gq (ix2 1 x) := by
    pointwise [k0_pay68]; simp only [hcs]
  have hn (r : Fin 512) (x : Fin 128) : k0_pay69 gq sn (ix2 r x) = S (ix2 ⟨o + r, shift_lt ho r⟩ x) * gq (ix2 2 x) := by
    pointwise [k0_pay69]; simp only [hsn]
  by_cases hj : j.val < 128
  · rw [show j = (⟨(⟨j, hj⟩ : Fin 128).val, by omega⟩ : Fin 256) from rfl, qHead_lo, qryAt, dif_pos hj]
    simp only [hss, hs, hqn, ht, hq, qInv]
  · have e : j = (⟨128 + (⟨j - 128, by omega⟩ : Fin 128).val, by simp; omega⟩ : Fin 256) := Fin.ext (by simp; omega)
    rw [qryAt, dif_neg hj]
    conv_lhs => rw [e, qHead_hi]
    simp only [hss, hs, hqn, ht, hq, hc, hn, qInv]

end Query

end Cert.Mla
end
-- ==== Proof.MlaScratch.lean ====
/- What the kernel's body leaves in the key and value scratch before its loop, and in the query scratch at the first grid point. -/
module

public import proofs.«01_k».proof.Proof.MlaRun
public import proofs.«01_k».proof.Proof.MlaPay

@[expose] public section

set_option maxRecDepth 16384

noncomputable section

namespace Cert.Mla

open Idealize.ShloMosaic Idealize.ShloMosaic.TcCoe Idealize.ShloMosaic.Tactic
open Cert.Kernel3Ideal Cert.Kernel3Ideal.Gen

section Scratch

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x256 .f32) (harg5 : arg5.IsWhole)
  (arg6 : Memref sig .tc .vmem S256x1024 .bf16) (harg6 : arg6.IsWhole)
  (arg7 : Memref sig .tc .vmem S1x128 .f32) (harg7 : arg7.IsWhole)
  (arg8 : Memref sig .tc .vmem S128x1024 .bf16) (harg8 : arg8.IsWhole)
  (arg9 : Memref sig .tc .vmem S3x128 .f32) (harg9 : arg9.IsWhole)
  (arg10 : Memref sig .tc .vmem S3x128 .f32) (harg10 : arg10.IsWhole)
  (arg11 : Memref sig .tc .vmem S1x2048x512 .bf16) (harg11 : arg11.IsWhole)
  (arg12 : Memref sig .tc .vmem S4x2048x256 .bf16) (harg12 : arg12.IsWhole)
  (arg13 : Memref sig .tc .vmem S4x2048x256 .bf16) (harg13 : arg13.IsWhole)
  (arg14 : Memref sig .tc .vmem S2x4x512x256 .bf16) (harg14 : arg14.IsWhole)

variable (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ)))

/-- What the ten read blocks hold. -/
abbrev bZ : FVec Ideal S1x2048x512 .bf16 := arg1.view.read (Elt Ideal) f1
abbrev bC : FVec Ideal S2048x128 .f32 := arg3.view.read (Elt Ideal) f3
abbrev bS : FVec Ideal S2048x128 .f32 := arg4.view.read (Elt Ideal) f4
abbrev bGcq : FVec Ideal S1x256 .f32 := arg5.view.read (Elt Ideal) f5
abbrev bWq : FVec Ideal S256x1024 .bf16 := arg6.view.read (Elt Ideal) f6
abbrev bGckv : FVec Ideal S1x128 .f32 := arg7.view.read (Elt Ideal) f7
abbrev bWkv : FVec Ideal S128x1024 .bf16 := arg8.view.read (Elt Ideal) f8
abbrev bGq : FVec Ideal S3x128 .f32 := arg9.view.read (Elt Ideal) f9
abbrev bGk : FVec Ideal S3x128 .f32 := arg10.view.read (Elt Ideal) f10

theorem gains9_eq : gains9 (F := Ideal) c arg9 f9 = bGq c arg9 f9 := View.ld_unit_lit' _ _ (by decide)
theorem gains10_eq : gains10 (F := Ideal) c arg10 f10 = bGk c arg10 f10 := View.ld_unit_lit' _ _ (by decide)

/-- The key scratch's contents. -/
def keyBuf (y : S4x2048x256.Idx) : Elt Ideal .bf16 :=
  keyAt (bZ c arg1 f1) (bC c arg3 f3) (bS c arg4 f4) (bGckv c arg7 f7) (bWkv c arg8 f8) (bGk c arg10 f10) (y 0) (y 1) (y 2)

/-- The value scratch's contents: the values, and ones beside them. -/
def valBuf (y : S4x2048x256.Idx) : Elt Ideal .bf16 :=
  if h : (y 2).val < 128 then valAt (bZ c arg1 f1) (bGckv c arg7 f7) (bWkv c arg8 f8) (y 0) (y 1) ⟨(y 2).val, h⟩ else (1 : EReal)

section Pieces

variable (o n : ℕ) (ho : o + 1024 ≤ 2048) (h : Fin 4) (hn : n = 256 * h.val)
  (i1 : ∀ a, (![0, o, 256] : Fin 3 → ℕ) a + S1x1024x128.size a ≤ S1x2048x512.size a)
  (i2 : ∀ a, (![0, o, 384] : Fin 3 → ℕ) a + S1x1024x128.size a ≤ S1x2048x512.size a)
  (i3 : ∀ a, (![o, 0] : Fin 2 → ℕ) a + S1024x128.size a ≤ S2048x128.size a)
  (iW : ∀ a, (![0, n] : Fin 2 → ℕ) a + S128x256.size a ≤ S128x1024.size a)
  (ig : ∀ a, (![0, 0] : Fin 2 → ℕ) a + S1x128.size a ≤ S1x128.size a)

abbrev lZc : Vec Ideal S1x1024x128 .bf16 := View.readAt (Elt Ideal) arg1.view (Rect.unit (s := S1x2048x512) ![0, o, 256] S1x1024x128.size i1).toLoadRect f1
abbrev lZt : Vec Ideal S1x1024x128 .bf16 := View.readAt (Elt Ideal) arg1.view (Rect.unit (s := S1x2048x512) ![0, o, 384] S1x1024x128.size i2).toLoadRect f1
abbrev lC : Vec Ideal S1024x128 .f32 := View.readAt (Elt Ideal) arg3.view (Rect.unit (s := S2048x128) ![o, 0] S1024x128.size i3).toLoadRect f3
abbrev lS : Vec Ideal S1024x128 .f32 := View.readAt (Elt Ideal) arg4.view (Rect.unit (s := S2048x128) ![o, 0] S1024x128.size i3).toLoadRect f4
abbrev lW : Vec Ideal S128x256 .bf16 := View.readAt (Elt Ideal) arg8.view (Rect.unit (s := S128x1024) ![0, n] S128x256.size iW).toLoadRect f8
abbrev lG : Vec Ideal S1x128 .f32 := View.readAt (Elt Ideal) arg7.view (Rect.unit (s := S1x128) ![0, 0] S1x128.size ig).toLoadRect f7

theorem lZc_at (b : Fin 1024) (x : Fin 128) : lZc c arg1 f1 o i1 (ix3 0 b x) = bZ c arg1 f1 (ix3 0 ⟨o + b, shift_lt ho b⟩ ⟨256 + x, by omega⟩) :=
  View.ld_unit_apply_of _ _ _ _ _ _ fun a => by fin_cases a <;> rfl
theorem lZt_at (b : Fin 1024) (x : Fin 128) : lZt c arg1 f1 o i2 (ix3 0 b x) = bZ c arg1 f1 (ix3 0 ⟨o + b, shift_lt ho b⟩ ⟨384 + x, by omega⟩) :=
  View.ld_unit_apply_of _ _ _ _ _ _ fun a => by fin_cases a <;> rfl
theorem lC_at (b : Fin 1024) (x : Fin 128) : lC c arg3 f3 o i3 (ix2 b x) = bC c arg3 f3 (ix2 ⟨o + b, shift_lt ho b⟩ x) :=
  View.ld_unit_apply_of _ _ _ _ _ _ fun a => by fin_cases a <;> first | rfl | exact (Nat.zero_add _).symm
theorem lS_at (b : Fin 1024) (x : Fin 128) : lS c arg4 f4 o i3 (ix2 b x) = bS c arg4 f4 (ix2 ⟨o + b, shift_lt ho b⟩ x) :=
  View.ld_unit_apply_of _ _ _ _ _ _ fun a => by fin_cases a <;> first | rfl | exact (Nat.zero_add _).symm
include hn in
theorem lW_at (x : Fin 128) (e : Fin 256) : lW c arg8 f8 n iW (ix2 x e) = bWkv c arg8 f8 (ix2 x ⟨256 * h + e, by omega⟩) := by
  subst hn
  exact View.ld_unit_apply_of _ _ _ _ _ _ fun a => by fin_cases a <;> first | rfl | exact (Nat.zero_add _).symm
theorem lG_eq : lG c arg7 f7 ig = bGckv c arg7 f7 := View.ld_unit_lit' _ _ (by decide)

include ho hn in
theorem nope_piece (x : S1x1024x128.Idx) (y : S4x2048x256.Idx) (hy : ∀ a, (y a).val = (![h.val, o, 0] : Fin 3 → ℕ) a + 1 * (x a).val) :
    k0_pay13 (F := Ideal) (k0_pay3 (gains10 c arg10 f10)) (k0_pay4 (lZc c arg1 f1 o i1) (lG c arg7 f7 ig)) (k0_pay6 (lZt c arg1 f1 o i2)) (lW c arg8 f8 n iW) x
      = keyBuf c arg1 arg3 arg4 arg7 arg8 arg10 f1 f3 f4 f7 f8 f10 y := by
  have b1 : (x 1).val < 1024 := (x 1).isLt
  have b2 : (x 2).val < 128 := (x 2).isLt
  have b0 : (x 0).val < 1 := (x 0).isLt
  have y0 : (y 0).val = h.val + 1 * (x 0).val := hy 0
  have y1 : (y 1).val = o + 1 * (x 1).val := hy 1
  have y2 : (y 2).val = 0 + 1 * (x 2).val := hy 2
  have ex : x = ix3 0 ⟨(x 1).val, b1⟩ ⟨(x 2).val, b2⟩ := funext fun a => by fin_cases a <;> first | rfl | exact Fin.ext (Nat.lt_one_iff.mp b0)
  rw [ex, gains10_eq, lG_eq, nope_at _ _ _ _ _ _ _ _ _ o ho h (lZc_at c arg1 f1 o n ho h i1) (lZt_at c arg1 f1 o n ho h i2) (lW_at c arg8 f8 o n h hn iW)]
  unfold keyBuf
  congr 1 <;> apply Fin.ext
  · show h.val = (y 0).val; omega
  · show o + (x 1).val = (y 1).val; omega
  · show (x 2).val = (y 2).val; omega

include ho hn in
theorem rope_piece (x : S1x1024x128.Idx) (y : S4x2048x256.Idx) (hy : ∀ a, (y a).val = (![h.val, o, 128] : Fin 3 → ℕ) a + 1 * (x a).val) :
    k0_pay14 (F := Ideal) (k0_pay3 (gains10 c arg10 f10)) (k0_pay4 (lZc c arg1 f1 o i1) (lG c arg7 f7 ig)) (k0_pay6 (lZt c arg1 f1 o i2)) (k0_pay7 (lZt c arg1 f1 o i2))
        (k0_pay8 (gains10 c arg10 f10) (lZt c arg1 f1 o i2) (lC c arg3 f3 o i3)) (lS c arg4 f4 o i3) (lW c arg8 f8 n iW) x
      = keyBuf c arg1 arg3 arg4 arg7 arg8 arg10 f1 f3 f4 f7 f8 f10 y := by
  have b1 : (x 1).val < 1024 := (x 1).isLt
  have b2 : (x 2).val < 128 := (x 2).isLt
  have b0 : (x 0).val < 1 := (x 0).isLt
  have y0 : (y 0).val = h.val + 1 * (x 0).val := hy 0
  have y1 : (y 1).val = o + 1 * (x 1).val := hy 1
  have y2 : (y 2).val = 128 + 1 * (x 2).val := hy 2
  have ex : x = ix3 0 ⟨(x 1).val, b1⟩ ⟨(x 2).val, b2⟩ := funext fun a => by fin_cases a <;> first | rfl | exact Fin.ext (Nat.lt_one_iff.mp b0)
  rw [ex, gains10_eq, lG_eq, rope_at _ _ _ _ _ _ _ _ _ _ _ o ho h (lZc_at c arg1 f1 o n ho h i1) (lZt_at c arg1 f1 o n ho h i2) (lC_at c arg3 f3 o ho i3) (lS_at c arg4 f4 o ho i3) (lW_at c arg8 f8 o n h hn iW)]
  unfold keyBuf
  congr 1 <;> apply Fin.ext
  · show h.val = (y 0).val; omega
  · show o + (x 1).val = (y 1).val; omega
  · show 128 + (x 2).val = (y 2).val; omega

include ho hn in
theorem value_piece (x : S1x1024x128.Idx) (y : S4x2048x256.Idx) (hy : ∀ a, (y a).val = (![h.val, o, 0] : Fin 3 → ℕ) a + 1 * (x a).val) :
    k0_pay15 (F := Ideal) (k0_pay4 (lZc c arg1 f1 o i1) (lG c arg7 f7 ig)) (lW c arg8 f8 n iW) x
      = valBuf c arg1 arg7 arg8 f1 f7 f8 y := by
  have b1 : (x 1).val < 1024 := (x 1).isLt
  have b2 : (x 2).val < 128 := (x 2).isLt
  have b0 : (x 0).val < 1 := (x 0).isLt
  have y0 : (y 0).val = h.val + 1 * (x 0).val := hy 0
  have y1 : (y 1).val = o + 1 * (x 1).val := hy 1
  have y2 : (y 2).val = 0 + 1 * (x 2).val := hy 2
  have ex : x = ix3 0 ⟨(x 1).val, b1⟩ ⟨(x 2).val, b2⟩ := funext fun a => by fin_cases a <;> first | rfl | exact Fin.ext (Nat.lt_one_iff.mp b0)
  rw [ex, lG_eq, value_at _ _ _ _ _ o ho h (lZc_at c arg1 f1 o n ho h i1) (lW_at c arg8 f8 o n h hn iW)]
  unfold valBuf
  rw [dif_pos (by omega)]
  congr 1 <;> apply Fin.ext
  · simp only [y0]; omega
  · simp only [y1]; omega
  · simp only [y2]; omega

end Pieces

set_option maxHeartbeats 2000000 in
theorem next_keys (h1 : ¬ Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : ¬ k0_cond3 i = 1#1) (y : S4x2048x256.Idx) :
    arg12.view.read (Elt Ideal) (arg12.view.writes (Elt Ideal) f12 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) y = keyBuf c arg1 arg3 arg4 arg7 arg8 arg10 f1 f3 f4 f7 f8 f10 y := by
  unfold preNext
  dsimp only
  refine View.read_writes_apply_of_pieces _ _ (keyBuf c arg1 arg3 arg4 arg7 arg8 arg10 f1 f3 f4 f7 f8 f10) _ ?_ y (View.cover_of_tiledBy _ ![1, 1024, 128] (by sl_kernel_rfl) y)
  refine List.forall_mem_cons.2 ⟨fun x => ?_, ?_⟩
  · exact rope_piece c arg1 arg3 arg4 arg7 arg8 arg10 f1 f3 f4 f7 f8 f10 1024 768 (by decide) 3 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 768 (by decide) 3 rfl _ _ _ _ x _ fun a => by fin_cases a <;> rfl
  refine List.forall_mem_cons.2 ⟨fun x => ?_, ?_⟩
  · exact rope_piece c arg1 arg3 arg4 arg7 arg8 arg10 f1 f3 f4 f7 f8 f10 1024 512 (by decide) 2 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 512 (by decide) 2 rfl _ _ _ _ x _ fun a => by fin_cases a <;> rfl
  refine List.forall_mem_cons.2 ⟨fun x => ?_, ?_⟩
  · exact rope_piece c arg1 arg3 arg4 arg7 arg8 arg10 f1 f3 f4 f7 f8 f10 1024 256 (by decide) 1 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 256 (by decide) 1 rfl _ _ _ _ x _ fun a => by fin_cases a <;> rfl
  refine List.forall_mem_cons.2 ⟨fun x => ?_, ?_⟩
  · exact rope_piece c arg1 arg3 arg4 arg7 arg8 arg10 f1 f3 f4 f7 f8 f10 1024 0 (by decide) 0 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 0 (by decide) 0 rfl _ _ _ _ x _ fun a => by fin_cases a <;> rfl
  refine List.forall_mem_cons.2 ⟨fun x => ?_, ?_⟩
  · exact rope_piece c arg1 arg3 arg4 arg7 arg8 arg10 f1 f3 f4 f7 f8 f10 0 768 (by decide) 3 rfl _ _ _ _ _ x _ fun a => by fin_cases a <;> rfl
  refine List.forall_mem_cons.2 ⟨fun x => ?_, ?_⟩
  · exact nope_piece c arg1 arg3 arg4 arg7 arg8 arg10 f1 f3 f4 f7 f8 f10 0 768 (by decide) 3 rfl _ _ _ _ x _ fun a => by fin_cases a <;> rfl
  refine List.forall_mem_cons.2 ⟨fun x => ?_, ?_⟩
  · exact rope_piece c arg1 arg3 arg4 arg7 arg8 arg10 f1 f3 f4 f7 f8 f10 0 512 (by decide) 2 rfl _ _ _ _ _ x _ fun a => by fin_cases a <;> rfl
  refine List.forall_mem_cons.2 ⟨fun x => ?_, ?_⟩
  · exact nope_piece c arg1 arg3 arg4 arg7 arg8 arg10 f1 f3 f4 f7 f8 f10 0 512 (by decide) 2 rfl _ _ _ _ x _ fun a => by fin_cases a <;> rfl
  refine List.forall_mem_cons.2 ⟨fun x => ?_, ?_⟩
  · exact rope_piece c arg1 arg3 arg4 arg7 arg8 arg10 f1 f3 f4 f7 f8 f10 0 256 (by decide) 1 rfl _ _ _ _ _ x _ fun a => by fin_cases a <;> rfl
  refine List.forall_mem_cons.2 ⟨fun x => ?_, ?_⟩
  · exact nope_piece c arg1 arg3 arg4 arg7 arg8 arg10 f1 f3 f4 f7 f8 f10 0 256 (by decide) 1 rfl _ _ _ _ x _ fun a => by fin_cases a <;> rfl
  refine List.forall_mem_cons.2 ⟨fun x => ?_, ?_⟩
  · exact rope_piece c arg1 arg3 arg4 arg7 arg8 arg10 f1 f3 f4 f7 f8 f10 0 0 (by decide) 0 rfl _ _ _ _ _ x _ fun a => by fin_cases a <;> rfl
  refine List.forall_mem_cons.2 ⟨fun x => ?_, ?_⟩
  · exact nope_piece c arg1 arg3 arg4 arg7 arg8 arg10 f1 f3 f4 f7 f8 f10 0 0 (by decide) 0 rfl _ _ _ _ x _ fun a => by fin_cases a <;> rfl
  exact fun p hp => absurd hp List.not_mem_nil

set_option maxHeartbeats 2000000 in
theorem first_keys (h1 : Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : k0_cond3 i = 1#1) (y : S4x2048x256.Idx) :
    arg12.view.read (Elt Ideal) (arg12.view.writes (Elt Ideal) f12 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) y = keyBuf c arg1 arg3 arg4 arg7 arg8 arg10 f1 f3 f4 f7 f8 f10 y := by
  unfold preFirst
  dsimp only
  refine View.read_writes_apply_of_pieces _ _ (keyBuf c arg1 arg3 arg4 arg7 arg8 arg10 f1 f3 f4 f7 f8 f10) _ ?_ y (View.cover_of_tiledBy _ ![1, 1024, 128] (by sl_kernel_rfl) y)
  refine List.forall_mem_cons.2 ⟨fun x => ?_, ?_⟩
  · exact rope_piece c arg1 arg3 arg4 arg7 arg8 arg10 f1 f3 f4 f7 f8 f10 1024 768 (by decide) 3 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 768 (by decide) 3 rfl _ _ _ _ x _ fun a => by fin_cases a <;> rfl
  refine List.forall_mem_cons.2 ⟨fun x => ?_, ?_⟩
  · exact rope_piece c arg1 arg3 arg4 arg7 arg8 arg10 f1 f3 f4 f7 f8 f10 1024 512 (by decide) 2 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 512 (by decide) 2 rfl _ _ _ _ x _ fun a => by fin_cases a <;> rfl
  refine List.forall_mem_cons.2 ⟨fun x => ?_, ?_⟩
  · exact rope_piece c arg1 arg3 arg4 arg7 arg8 arg10 f1 f3 f4 f7 f8 f10 1024 256 (by decide) 1 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 256 (by decide) 1 rfl _ _ _ _ x _ fun a => by fin_cases a <;> rfl
  refine List.forall_mem_cons.2 ⟨fun x => ?_, ?_⟩
  · exact rope_piece c arg1 arg3 arg4 arg7 arg8 arg10 f1 f3 f4 f7 f8 f10 1024 0 (by decide) 0 rfl _ _ _ _ _ x _ fun a => by fin_cases a <;> rfl
  refine List.forall_mem_cons.2 ⟨fun x => ?_, ?_⟩
  · exact nope_piece c arg1 arg3 arg4 arg7 arg8 arg10 f1 f3 f4 f7 f8 f10 1024 0 (by decide) 0 rfl _ _ _ _ x _ fun a => by fin_cases a <;> rfl
  refine List.forall_mem_cons.2 ⟨fun x => ?_, ?_⟩
  · exact rope_piece c arg1 arg3 arg4 arg7 arg8 arg10 f1 f3 f4 f7 f8 f10 0 768 (by decide) 3 rfl _ _ _ _ _ x _ fun a => by fin_cases a <;> rfl
  refine List.forall_mem_cons.2 ⟨fun x => ?_, ?_⟩
  · exact nope_piece c arg1 arg3 arg4 arg7 arg8 arg10 f1 f3 f4 f7 f8 f10 0 768 (by decide) 3 rfl _ _ _ _ x _ fun a => by fin_cases a <;> rfl
  refine List.forall_mem_cons.2 ⟨fun x => ?_, ?_⟩
  · exact rope_piece c arg1 arg3 arg4 arg7 arg8 arg10 f1 f3 f4 f7 f8 f10 0 512 (by decide) 2 rfl _ _ _ _ _ x _ fun a => by fin_cases a <;> rfl
  refine List.forall_mem_cons.2 ⟨fun x => ?_, ?_⟩
  · exact nope_piece c arg1 arg3 arg4 arg7 arg8 arg10 f1 f3 f4 f7 f8 f10 0 512 (by decide) 2 rfl _ _ _ _ x _ fun a => by fin_cases a <;> rfl
  refine List.forall_mem_cons.2 ⟨fun x => ?_, ?_⟩
  · exact rope_piece c arg1 arg3 arg4 arg7 arg8 arg10 f1 f3 f4 f7 f8 f10 0 256 (by decide) 1 rfl _ _ _ _ _ x _ fun a => by fin_cases a <;> rfl
  refine List.forall_mem_cons.2 ⟨fun x => ?_, ?_⟩
  · exact nope_piece c arg1 arg3 arg4 arg7 arg8 arg10 f1 f3 f4 f7 f8 f10 0 256 (by decide) 1 rfl _ _ _ _ x _ fun a => by fin_cases a <;> rfl
  refine List.forall_mem_cons.2 ⟨fun x => ?_, ?_⟩
  · exact rope_piece c arg1 arg3 arg4 arg7 arg8 arg10 f1 f3 f4 f7 f8 f10 0 0 (by decide) 0 rfl _ _ _ _ _ x _ fun a => by fin_cases a <;> rfl
  refine List.forall_mem_cons.2 ⟨fun x => ?_, ?_⟩
  · exact nope_piece c arg1 arg3 arg4 arg7 arg8 arg10 f1 f3 f4 f7 f8 f10 0 0 (by decide) 0 rfl _ _ _ _ x _ fun a => by fin_cases a <;> rfl
  exact fun p hp => absurd hp List.not_mem_nil

set_option maxHeartbeats 2000000 in
theorem first_vals (h1 : Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : k0_cond3 i = 1#1) (y : S4x2048x256.Idx) :
    arg13.view.read (Elt Ideal) (arg13.view.writes (Elt Ideal) f13 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) y = valBuf c arg1 arg7 arg8 f1 f7 f8 y := by
  unfold preFirst
  dsimp only
  refine View.read_writes_apply_of_pieces _ _ (valBuf c arg1 arg7 arg8 f1 f7 f8) _ ?_ y (View.cover_of_tiledBy _ ![1, 1024, 128] (by sl_kernel_rfl) y)
  refine List.forall_mem_cons.2 ⟨fun x => ?_, ?_⟩
  · exact value_piece c arg1 arg7 arg8 f1 f7 f8 1024 768 (by decide) 3 rfl _ _ _ x _ fun a => by fin_cases a <;> rfl
  refine List.forall_mem_cons.2 ⟨fun x => ?_, ?_⟩
  · exact value_piece c arg1 arg7 arg8 f1 f7 f8 1024 512 (by decide) 2 rfl _ _ _ x _ fun a => by fin_cases a <;> rfl
  refine List.forall_mem_cons.2 ⟨fun x => ?_, ?_⟩
  · exact value_piece c arg1 arg7 arg8 f1 f7 f8 1024 256 (by decide) 1 rfl _ _ _ x _ fun a => by fin_cases a <;> rfl
  refine List.forall_mem_cons.2 ⟨fun x => ?_, ?_⟩
  · exact value_piece c arg1 arg7 arg8 f1 f7 f8 1024 0 (by decide) 0 rfl _ _ _ x _ fun a => by fin_cases a <;> rfl
  refine List.forall_mem_cons.2 ⟨fun x => ?_, ?_⟩
  · exact value_piece c arg1 arg7 arg8 f1 f7 f8 0 768 (by decide) 3 rfl _ _ _ x _ fun a => by fin_cases a <;> rfl
  refine List.forall_mem_cons.2 ⟨fun x => ?_, ?_⟩
  · exact value_piece c arg1 arg7 arg8 f1 f7 f8 0 512 (by decide) 2 rfl _ _ _ x _ fun a => by fin_cases a <;> rfl
  refine List.forall_mem_cons.2 ⟨fun x => ?_, ?_⟩
  · exact value_piece c arg1 arg7 arg8 f1 f7 f8 0 256 (by decide) 1 rfl _ _ _ x _ fun a => by fin_cases a <;> rfl
  refine List.forall_mem_cons.2 ⟨fun x => ?_, ?_⟩
  · exact value_piece c arg1 arg7 arg8 f1 f7 f8 0 0 (by decide) 0 rfl _ _ _ x _ fun a => by fin_cases a <;> rfl
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  exact fun p hp => absurd hp List.not_mem_nil

/-- The four pieces of ones. -/
def onesPieces : List (View.Piece (Elt Ideal) S4x2048x256 .bf16) :=
  [⟨Rect.unit (s := S4x2048x256) ![3, 0, 128] S1x2048x128.size inb_S4x2048x256_S1x2048x128_3_0_128, k0_pay145 (F := Ideal)⟩,
   ⟨Rect.unit (s := S4x2048x256) ![2, 0, 128] S1x2048x128.size inb_S4x2048x256_S1x2048x128_2_0_128, k0_pay144 (F := Ideal)⟩,
   ⟨Rect.unit (s := S4x2048x256) ![1, 0, 128] S1x2048x128.size inb_S4x2048x256_S1x2048x128_1_0_128, k0_pay143 (F := Ideal)⟩,
   ⟨Rect.unit (s := S4x2048x256) ![0, 0, 128] S1x2048x128.size inb_S4x2048x256_S1x2048x128_0_0_128, k0_pay142 (F := Ideal)⟩]

set_option maxHeartbeats 2000000 in
/-- At a later point the ones of the first are still there. -/
theorem next_vals (h1 : ¬ Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : ¬ k0_cond3 i = 1#1)
    (hf : ∀ y : S4x2048x256.Idx, ¬ (y 2).val < 128 → arg13.view.read (Elt Ideal) f13 y = 1) (y : S4x2048x256.Idx) :
    arg13.view.read (Elt Ideal) (arg13.view.writes (Elt Ideal) f13 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) y = valBuf c arg1 arg7 arg8 f1 f7 f8 y := by
  have hones : arg13.view.writes (Elt Ideal) f13 onesPieces = f13 := by
    have hG : ∀ p ∈ onesPieces, ∀ x : p.1.shape.Idx, p.2 x = (1 : EReal) ∧ ¬ (p.1.emb x 2).val < 128 := by
      unfold onesPieces
      refine List.forall_mem_cons.2 ⟨fun x => ⟨Ideal.ofBits_one_bf16, by show ¬ (128 + 1 * (x 2).val < 128); omega⟩, ?_⟩
      refine List.forall_mem_cons.2 ⟨fun x => ⟨Ideal.ofBits_one_bf16, by show ¬ (128 + 1 * (x 2).val < 128); omega⟩, ?_⟩
      refine List.forall_mem_cons.2 ⟨fun x => ⟨Ideal.ofBits_one_bf16, by show ¬ (128 + 1 * (x 2).val < 128); omega⟩, ?_⟩
      refine List.forall_mem_cons.2 ⟨fun x => ⟨Ideal.ofBits_one_bf16, by show ¬ (128 + 1 * (x 2).val < 128); omega⟩, ?_⟩
      exact fun p hp => absurd hp List.not_mem_nil
    refine View.contents_ext _ (fun y => ?_) fun i hi => View.writes_apply_of_forall_ne _ _ _ hi
    by_cases hy : ∃ p ∈ onesPieces, y ∈ p.1.set
    · refine (View.read_writes_apply_of_pieces _ _ (fun y => arg13.view.read (Elt Ideal) f13 y) _ ?_ y hy)
      exact fun p hp x => ((hG p hp x).1.trans (hf _ (hG p hp x).2).symm)
    · exact View.read_writes_apply_of_forall_not_mem _ _ _ _ fun p hp hm => hy ⟨p, hp, hm⟩
  rw [← hones, ← View.writes_append]
  unfold onesPieces preNext
  dsimp only [List.cons_append, List.nil_append]
  refine View.read_writes_apply_of_pieces _ _ (valBuf c arg1 arg7 arg8 f1 f7 f8) _ ?_ y (View.cover_of_tiledBy _ ![1, 1024, 128] (by sl_kernel_rfl) y)
  refine List.forall_mem_cons.2 ⟨fun x => ?_, ?_⟩
  · exact value_piece c arg1 arg7 arg8 f1 f7 f8 1024 768 (by decide) 3 rfl _ _ _ x _ fun a => by fin_cases a <;> rfl
  refine List.forall_mem_cons.2 ⟨fun x => ?_, ?_⟩
  · exact value_piece c arg1 arg7 arg8 f1 f7 f8 1024 512 (by decide) 2 rfl _ _ _ x _ fun a => by fin_cases a <;> rfl
  refine List.forall_mem_cons.2 ⟨fun x => ?_, ?_⟩
  · exact value_piece c arg1 arg7 arg8 f1 f7 f8 1024 256 (by decide) 1 rfl _ _ _ x _ fun a => by fin_cases a <;> rfl
  refine List.forall_mem_cons.2 ⟨fun x => ?_, ?_⟩
  · exact value_piece c arg1 arg7 arg8 f1 f7 f8 1024 0 (by decide) 0 rfl _ _ _ x _ fun a => by fin_cases a <;> rfl
  refine List.forall_mem_cons.2 ⟨fun x => ?_, ?_⟩
  · exact value_piece c arg1 arg7 arg8 f1 f7 f8 0 768 (by decide) 3 rfl _ _ _ x _ fun a => by fin_cases a <;> rfl
  refine List.forall_mem_cons.2 ⟨fun x => ?_, ?_⟩
  · exact value_piece c arg1 arg7 arg8 f1 f7 f8 0 512 (by decide) 2 rfl _ _ _ x _ fun a => by fin_cases a <;> rfl
  refine List.forall_mem_cons.2 ⟨fun x => ?_, ?_⟩
  · exact value_piece c arg1 arg7 arg8 f1 f7 f8 0 256 (by decide) 1 rfl _ _ _ x _ fun a => by fin_cases a <;> rfl
  refine List.forall_mem_cons.2 ⟨fun x => ?_, ?_⟩
  · exact value_piece c arg1 arg7 arg8 f1 f7 f8 0 0 (by decide) 0 rfl _ _ _ x _ fun a => by fin_cases a <;> rfl
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  refine List.forall_mem_cons.2 ⟨fun x => ?_, ?_⟩
  · rw [valBuf, dif_neg (by show ¬ (128 + 1 * (x 2).val < 128); omega)]
    exact Ideal.ofBits_one_bf16
  exact fun p hp => absurd hp List.not_mem_nil

end Scratch

end Cert.Mla
end
-- ==== Proof.MlaQuery.lean ====
/- The four heads' query tiles, as the kernel's expressions build them from the row tile's products. -/
module

public import proofs.«01_k».proof.Proof.MlaPay
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.ShloMosaic.Tactic
open Cert.Kernel3Ideal Cert.Kernel3Ideal.Gen

/-- Head 0's query tile from the row tile's products. -/
def tile0 (g : FVec Ideal S3x128 .f32) (cg sg : FVec Ideal S512x128 .f32) (A : FVec Ideal S512x1024 .f32) : FVec Ideal S1x1x512x256 .bf16 :=
  qHead g cg sg (extractStridedSlice S512x128 ![0, 0] (grp (sqw (extractStridedSlice S512x128 ![0, 0] A slices_S512x1024_o0_0_S512x128) (extractStridedSlice S512x128 ![0, 128] A slices_S512x1024_o0_128_S512x128)) (sqw (extractStridedSlice S512x128 ![0, 256] A slices_S512x1024_o0_256_S512x128) (extractStridedSlice S512x128 ![0, 384] A slices_S512x1024_o0_384_S512x128))) slices_S512x256_o0_0_S512x128)
    (extractStridedSlice S512x128 ![0, 0] A slices_S512x1024_o0_0_S512x128) (extractStridedSlice S512x128 ![0, 128] A slices_S512x1024_o0_128_S512x128)

/-- Head 1's query tile from the row tile's products. -/
def tile1 (g : FVec Ideal S3x128 .f32) (cg sg : FVec Ideal S512x128 .f32) (A : FVec Ideal S512x1024 .f32) : FVec Ideal S1x1x512x256 .bf16 :=
  qHead g cg sg (extractStridedSlice S512x128 ![0, 128] (grp (sqw (extractStridedSlice S512x128 ![0, 0] A slices_S512x1024_o0_0_S512x128) (extractStridedSlice S512x128 ![0, 128] A slices_S512x1024_o0_128_S512x128)) (sqw (extractStridedSlice S512x128 ![0, 256] A slices_S512x1024_o0_256_S512x128) (extractStridedSlice S512x128 ![0, 384] A slices_S512x1024_o0_384_S512x128))) slices_S512x256_o0_128_S512x128)
    (extractStridedSlice S512x128 ![0, 256] A slices_S512x1024_o0_256_S512x128) (extractStridedSlice S512x128 ![0, 384] A slices_S512x1024_o0_384_S512x128)

/-- Head 2's query tile from the row tile's products. -/
def tile2 (g : FVec Ideal S3x128 .f32) (cg sg : FVec Ideal S512x128 .f32) (A : FVec Ideal S512x1024 .f32) : FVec Ideal S1x1x512x256 .bf16 :=
  qHead g cg sg (extractStridedSlice S512x128 ![0, 0] (grp (sqw (extractStridedSlice S512x128 ![0, 512] A slices_S512x1024_o0_512_S512x128) (extractStridedSlice S512x128 ![0, 640] A slices_S512x1024_o0_640_S512x128)) (sqw (extractStridedSlice S512x128 ![0, 768] A slices_S512x1024_o0_768_S512x128) (extractStridedSlice S512x128 ![0, 896] A slices_S512x1024_o0_896_S512x128))) slices_S512x256_o0_0_S512x128)
    (extractStridedSlice S512x128 ![0, 512] A slices_S512x1024_o0_512_S512x128) (extractStridedSlice S512x128 ![0, 640] A slices_S512x1024_o0_640_S512x128)

/-- Head 3's query tile from the row tile's products. -/
def tile3 (g : FVec Ideal S3x128 .f32) (cg sg : FVec Ideal S512x128 .f32) (A : FVec Ideal S512x1024 .f32) : FVec Ideal S1x1x512x256 .bf16 :=
  qHead g cg sg (extractStridedSlice S512x128 ![0, 128] (grp (sqw (extractStridedSlice S512x128 ![0, 512] A slices_S512x1024_o0_512_S512x128) (extractStridedSlice S512x128 ![0, 640] A slices_S512x1024_o0_640_S512x128)) (sqw (extractStridedSlice S512x128 ![0, 768] A slices_S512x1024_o0_768_S512x128) (extractStridedSlice S512x128 ![0, 896] A slices_S512x1024_o0_896_S512x128))) slices_S512x256_o0_128_S512x128)
    (extractStridedSlice S512x128 ![0, 768] A slices_S512x1024_o0_768_S512x128) (extractStridedSlice S512x128 ![0, 896] A slices_S512x1024_o0_896_S512x128)

theorem slice_lo (A : FVec Ideal S512x256 .f32) (r : Fin 512) (j : Fin 128) :
    extractStridedSlice S512x128 ![0, 0] A slices_S512x256_o0_0_S512x128 (ix2 r j) = A (ix2 r ⟨j, by omega⟩) :=
  congrArg A (funext fun a => by fin_cases a <;> exact Fin.ext (by first | rfl | exact Nat.zero_add _))
theorem slice_hi (A : FVec Ideal S512x256 .f32) (r : Fin 512) (j : Fin 128) :
    extractStridedSlice S512x128 ![0, 128] A slices_S512x256_o0_128_S512x128 (ix2 r j) = A (ix2 r ⟨128 + j, by omega⟩) :=
  congrArg A (funext fun a => by fin_cases a <;> exact Fin.ext (by first | rfl | exact Nat.zero_add _))

section

variable (Z : FVec Ideal S1x2048x512 .bf16) (C S : FVec Ideal S2048x128 .f32) (gcq : FVec Ideal S1x256 .f32) (Wq : FVec Ideal S256x1024 .bf16)
  (gq : FVec Ideal S3x128 .f32)
variable (zq : Vec Ideal S1x512x256 .bf16) (cs sn : Vec Ideal S512x128 .f32) (o : ℕ) (ho : o + 512 ≤ 2048)
  (hzq : ∀ (b : Fin 512) (x : Fin 256), zq (ix3 0 b x) = Z (ix3 0 ⟨o + b, shift_lt ho b⟩ ⟨x, at256q x⟩))
  (hcs : ∀ (b : Fin 512) (x : Fin 128), cs (ix2 b x) = C (ix2 ⟨o + b, shift_lt ho b⟩ x))
  (hsn : ∀ (b : Fin 512) (x : Fin 128), sn (ix2 b x) = S (ix2 ⟨o + b, shift_lt ho b⟩ x))

include hzq hcs hsn in
theorem tile0_at (r : Fin 512) (j : Fin 256) :
    tile0 gq (k0_pay68 gq cs) (k0_pay69 gq sn) (k0_pay67 zq gcq Wq) (ix4 0 0 r j) = qryAt Z C S gcq Wq gq 0 ⟨o + r, shift_lt ho r⟩ j := by
  unfold tile0
  refine qHead_at Z C S gcq Wq gq zq cs sn o ho hzq hcs hsn 0 _ _ _ (fun r j => ?_) (fun r j => ?_) (fun r j => ?_) r j
  · exact congrArg (k0_pay67 (F := Ideal) zq gcq Wq) (funext fun a => by fin_cases a <;> exact Fin.ext (by first | rfl | exact Nat.zero_add _))
  · exact congrArg (k0_pay67 (F := Ideal) zq gcq Wq) (funext fun a => by fin_cases a <;> exact Fin.ext (by first | rfl | exact Nat.zero_add _ | (show 128 + j.val = 256 * 0 + (128 + j.val); omega)))
  · exact (slice_lo _ _ _).trans (grp_lo _ _ r j)

include hzq hcs hsn in
theorem tile1_at (r : Fin 512) (j : Fin 256) :
    tile1 gq (k0_pay68 gq cs) (k0_pay69 gq sn) (k0_pay67 zq gcq Wq) (ix4 0 0 r j) = qryAt Z C S gcq Wq gq 1 ⟨o + r, shift_lt ho r⟩ j := by
  unfold tile1
  refine qHead_at Z C S gcq Wq gq zq cs sn o ho hzq hcs hsn 1 _ _ _ (fun r j => ?_) (fun r j => ?_) (fun r j => ?_) r j
  · exact congrArg (k0_pay67 (F := Ideal) zq gcq Wq) (funext fun a => by fin_cases a <;> exact Fin.ext (by first | rfl | exact Nat.zero_add _))
  · exact congrArg (k0_pay67 (F := Ideal) zq gcq Wq) (funext fun a => by fin_cases a <;> exact Fin.ext (by first | rfl | exact Nat.zero_add _ | (show 384 + j.val = 256 * 1 + (128 + j.val); omega)))
  · exact (slice_hi _ _ _).trans (grp_hi _ _ r j)

include hzq hcs hsn in
theorem tile2_at (r : Fin 512) (j : Fin 256) :
    tile2 gq (k0_pay68 gq cs) (k0_pay69 gq sn) (k0_pay67 zq gcq Wq) (ix4 0 0 r j) = qryAt Z C S gcq Wq gq 2 ⟨o + r, shift_lt ho r⟩ j := by
  unfold tile2
  refine qHead_at Z C S gcq Wq gq zq cs sn o ho hzq hcs hsn 2 _ _ _ (fun r j => ?_) (fun r j => ?_) (fun r j => ?_) r j
  · exact congrArg (k0_pay67 (F := Ideal) zq gcq Wq) (funext fun a => by fin_cases a <;> exact Fin.ext (by first | rfl | exact Nat.zero_add _))
  · exact congrArg (k0_pay67 (F := Ideal) zq gcq Wq) (funext fun a => by fin_cases a <;> exact Fin.ext (by first | rfl | exact Nat.zero_add _ | (show 640 + j.val = 256 * 2 + (128 + j.val); omega)))
  · exact (slice_lo _ _ _).trans (grp_lo _ _ r j)

include hzq hcs hsn in
theorem tile3_at (r : Fin 512) (j : Fin 256) :
    tile3 gq (k0_pay68 gq cs) (k0_pay69 gq sn) (k0_pay67 zq gcq Wq) (ix4 0 0 r j) = qryAt Z C S gcq Wq gq 3 ⟨o + r, shift_lt ho r⟩ j := by
  unfold tile3
  refine qHead_at Z C S gcq Wq gq zq cs sn o ho hzq hcs hsn 3 _ _ _ (fun r j => ?_) (fun r j => ?_) (fun r j => ?_) r j
  · exact congrArg (k0_pay67 (F := Ideal) zq gcq Wq) (funext fun a => by fin_cases a <;> exact Fin.ext (by first | rfl | exact Nat.zero_add _))
  · exact congrArg (k0_pay67 (F := Ideal) zq gcq Wq) (funext fun a => by fin_cases a <;> exact Fin.ext (by first | rfl | exact Nat.zero_add _ | (show 896 + j.val = 256 * 3 + (128 + j.val); omega)))
  · exact (slice_hi _ _ _).trans (grp_hi _ _ r j)

end

section Kernel

variable (ones : FVec Ideal S256x256 .bf16) (g : Vec Ideal S3x128 .f32) (a : BitVec 32)
  (zn z : Vec Ideal S1x512x256 .bf16) (gcq : Vec Ideal S1x256 .f32) (Wq : Vec Ideal S256x1024 .bf16) (cs sn : Vec Ideal S512x128 .f32)

theorem bit_cases (b : BitVec 1) : b = 0#1 ∨ b = 1#1 := by revert b; decide

theorem safe_select (b : BitVec 1) (hb : IntOp.cmpi .eq a 3#32 = b) :
    k0_pay98 (F := Ideal) (k0_pay97 a zn z gcq) Wq = k0_pay67 (if b = 1#1 then zn else z) gcq Wq := by
  unfold k0_pay98 k0_pay97 k0_pay67
  have hb' : Scalar.cmpi .eq a 3#32 = b := hb
  simp only [hb']
  rcases bit_cases b with rfl | rfl <;> rfl

theorem max_select (b : BitVec 1) (hb : IntOp.cmpi .eq a 3#32 = b) :
    k0_pay125 (F := Ideal) (k0_pay124 a zn z) gcq Wq = k0_pay67 (if b = 1#1 then zn else z) gcq Wq := by
  unfold k0_pay125 k0_pay124 k0_pay67
  have hb' : Scalar.cmpi .eq a 3#32 = b := hb
  simp only [hb']
  rcases bit_cases b with rfl | rfl <;> rfl

abbrev sQ : FVec Ideal S512x1024 .f32 := k0_pay98 (k0_pay97 a zn z gcq) Wq
abbrev mQ : FVec Ideal S512x1024 .f32 := k0_pay125 (k0_pay124 a zn z) gcq Wq
abbrev fQ : FVec Ideal S512x1024 .f32 := k0_pay67 z gcq Wq

theorem safe0 : k0_pay105 g (k0_pay102 ones2 (k0_pay97 a zn z gcq) Wq) (k0_pay103 g (k0_pay97 a zn z gcq) Wq cs sn) (k0_pay104 ones2 (k0_pay97 a zn z gcq) Wq)
    = tile0 g (k0_pay68 g cs) (k0_pay69 g sn) (sQ a zn z gcq Wq) := rfl
theorem safe1 : k0_pay106 g (sQ a zn z gcq Wq) (k0_pay99 g cs) (k0_pay100 g sn) (k0_pay101 ones2 (k0_pay97 a zn z gcq) Wq)
    = tile1 g (k0_pay68 g cs) (k0_pay69 g sn) (sQ a zn z gcq Wq) := rfl
theorem safe2 : k0_pay113 ones2 g (k0_pay99 g cs) (k0_pay100 g sn) (k0_pay107 (sQ a zn z gcq Wq)) (k0_pay108 (sQ a zn z gcq Wq)) (k0_pay109 (sQ a zn z gcq Wq))
      (k0_pay110 (sQ a zn z gcq Wq)) (k0_pay111 (sQ a zn z gcq Wq))
    = tile2 g (k0_pay68 g cs) (k0_pay69 g sn) (sQ a zn z gcq Wq) := rfl
theorem safe3 : k0_pay1 (k0_pay114 ones2 (k0_pay109 (sQ a zn z gcq Wq)) (k0_pay110 (sQ a zn z gcq Wq)) (k0_pay111 (sQ a zn z gcq Wq)))
      (k0_pay115 (sQ a zn z gcq Wq) (k0_pay99 g cs) (k0_pay100 g sn))
      (k0_pay116 ones2 (sQ a zn z gcq Wq) (k0_pay109 (sQ a zn z gcq Wq)) (k0_pay110 (sQ a zn z gcq Wq)) (k0_pay111 (sQ a zn z gcq Wq))) (k0_pay117 g)
    = tile3 g (k0_pay68 g cs) (k0_pay69 g sn) (sQ a zn z gcq Wq) := rfl
theorem max0 : k0_pay132 ones2 g (k0_pay126 g cs) (k0_pay127 g sn) (k0_pay128 (k0_pay124 a zn z) gcq Wq) (k0_pay129 (k0_pay124 a zn z) gcq Wq) (k0_pay130 (k0_pay124 a zn z) gcq Wq)
    = tile0 g (k0_pay68 g cs) (k0_pay69 g sn) (mQ a zn z gcq Wq) := rfl
theorem max1 : k0_pay134 (k0_pay133 ones2 g (mQ a zn z gcq Wq) (k0_pay126 g cs) (k0_pay127 g sn) (k0_pay130 (k0_pay124 a zn z) gcq Wq))
    = tile1 g (k0_pay68 g cs) (k0_pay69 g sn) (mQ a zn z gcq Wq) := rfl
theorem max2 : k0_pay136 ones2 g (mQ a zn z gcq Wq) (k0_pay126 g cs) (k0_pay127 g sn)
    = tile2 g (k0_pay68 g cs) (k0_pay69 g sn) (mQ a zn z gcq Wq) := rfl
theorem max3 : k0_pay2 g (mQ a zn z gcq Wq) (k0_pay126 g cs) (k0_pay127 g sn) (k0_pay135 ones2 (mQ a zn z gcq Wq))
    = tile3 g (k0_pay68 g cs) (k0_pay69 g sn) (mQ a zn z gcq Wq) := rfl

end Kernel

end Cert.Mla
end
-- ==== Proof.MlaTile.lean ====
/- One trip of the loop and the whole loop: what the result's block and the query scratch hold afterwards. -/
module

public import proofs.«01_k».proof.Proof.MlaScratch
public import proofs.«01_k».proof.Proof.MlaQuery

@[expose] public section

set_option maxRecDepth 16384

noncomputable section

namespace Cert.Mla

open Idealize.ShloMosaic Idealize.ShloMosaic.TcCoe Idealize.ShloMosaic.Tactic
open Cert.Kernel3Ideal Cert.Kernel3Ideal.Gen

theorem mem_unit {s : Shape} (off off' size : Fin s.rank → ℕ) (inb : ∀ a, off a + size a ≤ s.size a) (e : off = off') (y : s.Idx)
    (h : ∀ a, off' a ≤ (y a).val ∧ (y a).val < off' a + size a) : y ∈ (Rect.unit (s := s) off size inb).set := by
  subst e
  exact Rect.mem_set_unit.2 h

theorem not_mem_unit {s : Shape} (off off' size : Fin s.rank → ℕ) (inb : ∀ a, off a + size a ≤ s.size a) (e : off = off') (y : s.Idx) (a : Fin s.rank)
    (h : (y a).val < off' a ∨ off' a + size a ≤ (y a).val) : y ∉ (Rect.unit (s := s) off size inb).set := by
  subst e
  intro hm
  have := Rect.mem_set_unit.1 hm a
  omega

/-- The scores of one query row. -/
def scores (KB : S4x2048x256.Idx → EReal) (h : Fin 4) (q : Fin 256 → EReal) : Fin 2048 → EReal := fun k => ∑ x, q x * KB (ix3 h k x)

/-- One entry of the attention's result, the scores shifted by `sh`. -/
def att (sh : (Fin 2048 → EReal) → EReal) (KB VB : S4x2048x256.Idx → EReal) (h : Fin 4) (q : Fin 256 → EReal) (j : Fin 128) : EReal :=
  softOut (scores KB h q) (sh (scores KB h q)) (fun k => VB (ix3 h k ⟨j, by omega⟩)) (fun k => VB (ix3 h k ⟨128 + j, by omega⟩))

/-- The head and the column within it of a column of the result. -/
def hd (y : S1x2048x512.Idx) : Fin 4 := ⟨(y 2).val / 128, by have : (y 2).val < 512 := (y 2).isLt; omega⟩
def cl (y : S1x2048x512.Idx) : Fin 128 := ⟨(y 2).val % 128, by omega⟩

/-- The result's block at an index, the scores shifted by `sh`. -/
def attY (KB VB : S4x2048x256.Idx → EReal) (Q : Fin 4 → Fin 2048 → Fin 256 → EReal) (sh : (Fin 2048 → EReal) → EReal) (y : S1x2048x512.Idx) : Elt Ideal .bf16 :=
  att sh KB VB (hd y) (Q (hd y) (y 1))
    (cl y)

section Slot

variable (Z : FVec Ideal S1x2048x512 .bf16) (C S : FVec Ideal S2048x128 .f32) (gcq : FVec Ideal S1x256 .f32) (Wq : FVec Ideal S256x1024 .bf16)
  (gq : FVec Ideal S3x128 .f32)

/-- A slot of the query scratch that holds the tile of rows from `o` on. -/
def slotQ (o : ℕ) (ho : o + 512 ≤ 2048) (y : S2x4x512x256.Idx) : Elt Ideal .bf16 :=
  qryAt Z C S gcq Wq gq (y 1) ⟨o + (y 2).val, shift_lt ho (y 2)⟩ (y 3)

variable (zq : Vec Ideal S1x512x256 .bf16) (cs sn : Vec Ideal S512x128 .f32) (o : ℕ) (ho : o + 512 ≤ 2048)
  (hzq : ∀ (b : Fin 512) (x : Fin 256), zq (ix3 0 b x) = Z (ix3 0 ⟨o + b, shift_lt ho b⟩ ⟨x, at256q x⟩))
  (hcs : ∀ (b : Fin 512) (x : Fin 128), cs (ix2 b x) = C (ix2 ⟨o + b, shift_lt ho b⟩ x))
  (hsn : ∀ (b : Fin 512) (x : Fin 128), sn (ix2 b x) = S (ix2 ⟨o + b, shift_lt ho b⟩ x))
  (s : ℕ) (off : Fin 4 → ℕ)

include hzq hcs hsn in
theorem qtile0 (e : off = ![s, 0, 0, 0]) (x : S1x1x512x256.Idx) (y : S2x4x512x256.Idx) (hy : ∀ a, (y a).val = off a + 1 * (x a).val) :
    tile0 gq (k0_pay68 gq cs) (k0_pay69 gq sn) (k0_pay67 zq gcq Wq) x = slotQ Z C S gcq Wq gq o ho y := by
  subst e
  have b0 : (x 0).val < 1 := (x 0).isLt
  have b1 : (x 1).val < 1 := (x 1).isLt
  have b2 : (x 2).val < 512 := (x 2).isLt
  have b3 : (x 3).val < 256 := (x 3).isLt
  have y1 : (y 1).val = 0 + 1 * (x 1).val := hy 1
  have y2 : (y 2).val = 0 + 1 * (x 2).val := hy 2
  have y3 : (y 3).val = 0 + 1 * (x 3).val := hy 3
  have ex : x = ix4 0 0 ⟨(x 2).val, b2⟩ ⟨(x 3).val, b3⟩ :=
    funext fun a => by fin_cases a <;> first | rfl | exact Fin.ext (Nat.lt_one_iff.mp b0) | exact Fin.ext (Nat.lt_one_iff.mp b1)
  rw [ex, tile0_at Z C S gcq Wq gq zq cs sn o ho hzq hcs hsn]
  unfold slotQ
  congr 1 <;> apply Fin.ext
  · show 0 = (y 1).val; omega
  · show o + (x 2).val = o + (y 2).val; omega
  · show (x 3).val = (y 3).val; omega

include hzq hcs hsn in
theorem qtile1 (e : off = ![s, 1, 0, 0]) (x : S1x1x512x256.Idx) (y : S2x4x512x256.Idx) (hy : ∀ a, (y a).val = off a + 1 * (x a).val) :
    tile1 gq (k0_pay68 gq cs) (k0_pay69 gq sn) (k0_pay67 zq gcq Wq) x = slotQ Z C S gcq Wq gq o ho y := by
  subst e
  have b0 : (x 0).val < 1 := (x 0).isLt
  have b1 : (x 1).val < 1 := (x 1).isLt
  have b2 : (x 2).val < 512 := (x 2).isLt
  have b3 : (x 3).val < 256 := (x 3).isLt
  have y1 : (y 1).val = 1 + 1 * (x 1).val := hy 1
  have y2 : (y 2).val = 0 + 1 * (x 2).val := hy 2
  have y3 : (y 3).val = 0 + 1 * (x 3).val := hy 3
  have ex : x = ix4 0 0 ⟨(x 2).val, b2⟩ ⟨(x 3).val, b3⟩ :=
    funext fun a => by fin_cases a <;> first | rfl | exact Fin.ext (Nat.lt_one_iff.mp b0) | exact Fin.ext (Nat.lt_one_iff.mp b1)
  rw [ex, tile1_at Z C S gcq Wq gq zq cs sn o ho hzq hcs hsn]
  unfold slotQ
  congr 1 <;> apply Fin.ext
  · show 1 = (y 1).val; omega
  · show o + (x 2).val = o + (y 2).val; omega
  · show (x 3).val = (y 3).val; omega

include hzq hcs hsn in
theorem qtile2 (e : off = ![s, 2, 0, 0]) (x : S1x1x512x256.Idx) (y : S2x4x512x256.Idx) (hy : ∀ a, (y a).val = off a + 1 * (x a).val) :
    tile2 gq (k0_pay68 gq cs) (k0_pay69 gq sn) (k0_pay67 zq gcq Wq) x = slotQ Z C S gcq Wq gq o ho y := by
  subst e
  have b0 : (x 0).val < 1 := (x 0).isLt
  have b1 : (x 1).val < 1 := (x 1).isLt
  have b2 : (x 2).val < 512 := (x 2).isLt
  have b3 : (x 3).val < 256 := (x 3).isLt
  have y1 : (y 1).val = 2 + 1 * (x 1).val := hy 1
  have y2 : (y 2).val = 0 + 1 * (x 2).val := hy 2
  have y3 : (y 3).val = 0 + 1 * (x 3).val := hy 3
  have ex : x = ix4 0 0 ⟨(x 2).val, b2⟩ ⟨(x 3).val, b3⟩ :=
    funext fun a => by fin_cases a <;> first | rfl | exact Fin.ext (Nat.lt_one_iff.mp b0) | exact Fin.ext (Nat.lt_one_iff.mp b1)
  rw [ex, tile2_at Z C S gcq Wq gq zq cs sn o ho hzq hcs hsn]
  unfold slotQ
  congr 1 <;> apply Fin.ext
  · show 2 = (y 1).val; omega
  · show o + (x 2).val = o + (y 2).val; omega
  · show (x 3).val = (y 3).val; omega

include hzq hcs hsn in
theorem qtile3 (e : off = ![s, 3, 0, 0]) (x : S1x1x512x256.Idx) (y : S2x4x512x256.Idx) (hy : ∀ a, (y a).val = off a + 1 * (x a).val) :
    tile3 gq (k0_pay68 gq cs) (k0_pay69 gq sn) (k0_pay67 zq gcq Wq) x = slotQ Z C S gcq Wq gq o ho y := by
  subst e
  have b0 : (x 0).val < 1 := (x 0).isLt
  have b1 : (x 1).val < 1 := (x 1).isLt
  have b2 : (x 2).val < 512 := (x 2).isLt
  have b3 : (x 3).val < 256 := (x 3).isLt
  have y1 : (y 1).val = 3 + 1 * (x 1).val := hy 1
  have y2 : (y 2).val = 0 + 1 * (x 2).val := hy 2
  have y3 : (y 3).val = 0 + 1 * (x 3).val := hy 3
  have ex : x = ix4 0 0 ⟨(x 2).val, b2⟩ ⟨(x 3).val, b3⟩ :=
    funext fun a => by fin_cases a <;> first | rfl | exact Fin.ext (Nat.lt_one_iff.mp b0) | exact Fin.ext (Nat.lt_one_iff.mp b1)
  rw [ex, tile3_at Z C S gcq Wq gq zq cs sn o ho hzq hcs hsn]
  unfold slotQ
  congr 1 <;> apply Fin.ext
  · show 3 = (y 1).val; omega
  · show o + (x 2).val = o + (y 2).val; omega
  · show (x 3).val = (y 3).val; omega

end Slot

section Att

variable (c : Dev nD)
  (arg12 : Memref sig .tc .vmem S4x2048x256 .bf16) (arg13 : Memref sig .tc .vmem S4x2048x256 .bf16) (arg14 : Memref sig .tc .vmem S2x4x512x256 .bf16)
  (f12 : Buf (Elt Ideal) (arg12.view.loc (c : Thread nD τ))) (f13 : Buf (Elt Ideal) (arg13.view.loc (c : Thread nD τ))) (g14 : Buf (Elt Ideal) (arg14.view.loc (c : Thread nD τ)))
  (KB VB : S4x2048x256.Idx → EReal) (Q : Fin 4 → Fin 2048 → Fin 256 → EReal) (k s : ℕ) (hk : 512 * k + 512 ≤ 2048)
  (hK : ∀ y, arg12.view.read (Elt Ideal) f12 y = KB y) (hV : ∀ y, arg13.view.read (Elt Ideal) f13 y = VB y)
  (hQ : ∀ y : S2x4x512x256.Idx, (y 0).val = s → arg14.view.read (Elt Ideal) g14 y = Q (y 1) ⟨512 * k + (y 2).val, shift_lt hk (y 2)⟩ (y 3))
  (hs : s < 2) (b : EReal)

variable (h : Fin 4) (oq : Fin 4 → ℕ) (iq : ∀ a, oq a + S1x1x512x256.size a ≤ S2x4x512x256.size a) (eq : oq = ![s, h.val, 0, 0])
  (oo : Fin 3 → ℕ) (d : ℕ) (hdd : d = 128 * h.val) (eo : oo = ![0, 512 * k, d])

abbrev lq : Vec Ideal S1x1x512x256 .bf16 := View.readAt (Elt Ideal) arg14.view (Rect.unit (s := S2x4x512x256) oq S1x1x512x256.size iq).toLoadRect g14

include hQ eq hs in
theorem lq_at (r : Fin 512) (x : Fin 256) : lq c arg14 g14 oq iq (ix4 0 0 r x) = Q h ⟨512 * k + r, shift_lt hk r⟩ x := by
  subst eq
  refine Eq.trans (View.ld_unit_apply_of (arg14.view.read (Elt Ideal) g14) _ _ iq (ix4 0 0 r x) (ix4 ⟨s, hs⟩ h r x) fun a => by fin_cases a <;> first | rfl | exact (Nat.zero_add _).symm) ?_
  exact hQ _ rfl

include hK in
theorem lK_at (n o : ℕ) (ho : o + n ≤ 2048) (inb : ∀ a, (![h.val, o, 0] : Fin 3 → ℕ) a + (⟨3, ![1, n, 256]⟩ : Shape).size a ≤ S4x2048x256.size a) (r : Fin n) (x : Fin 256) :
    (View.readAt (Elt Ideal) arg12.view (Rect.unit (s := S4x2048x256) ![h.val, o, 0] (⟨3, ![1, n, 256]⟩ : Shape).size inb).toLoadRect f12 : Vec Ideal ⟨3, ![1, n, 256]⟩ .bf16) (ix3 0 r x)
      = KB (ix3 h ⟨o + r, shift_lt ho r⟩ x) := by
  refine Eq.trans (View.ld_unit_apply_of (arg12.view.read (Elt Ideal) f12) _ _ inb (ix3 0 r x) (ix3 h ⟨o + r, shift_lt ho r⟩ x) fun a => by fin_cases a <;> first | rfl | exact (Nat.zero_add _).symm) ?_
  exact hK _

include hdd eo in
theorem attY_of (sh : (Fin 2048 → EReal) → EReal) (x : S1x512x128.Idx) (y : S1x2048x512.Idx) (hy : ∀ a, (y a).val = oo a + 1 * (x a).val)
    (b1 : (x 1).val < 512) (b2 : (x 2).val < 128) :
    att sh KB VB h (Q h ⟨512 * k + (x 1).val, shift_lt hk ⟨(x 1).val, b1⟩⟩) ⟨(x 2).val, b2⟩ = attY KB VB Q sh y := by
  subst eo hdd
  have y1 : (y 1).val = 512 * k + 1 * (x 1).val := hy 1
  have y2 : (y 2).val = 128 * h.val + 1 * (x 2).val := hy 2
  unfold attY
  have e1 : h = hd y := Fin.ext (by show h.val = (y 2).val / 128; omega)
  have e2 : (⟨512 * k + (x 1).val, shift_lt hk ⟨(x 1).val, b1⟩⟩ : Fin 2048) = y 1 := Fin.ext (by show 512 * k + (x 1).val = (y 1).val; omega)
  have e3 : (⟨(x 2).val, b2⟩ : Fin 128) = (cl y) := Fin.ext (by show (x 2).val = (y 2).val % 128; omega)
  rw [← e1, e2, e3]

include hQ hK hV eq hs hdd eo in
theorem max_piece (iK : ∀ a, (![h.val, 0, 0] : Fin 3 → ℕ) a + S1x2048x256.size a ≤ S4x2048x256.size a) (x : S1x512x128.Idx) (y : S1x2048x512.Idx)
    (hy : ∀ a, (y a).val = oo a + 1 * (x a).val) :
    k0_pay118 (F := Ideal) (lq c arg14 g14 oq iq) (View.readAt (Elt Ideal) arg12.view (Rect.unit (s := S4x2048x256) ![h.val, 0, 0] S1x2048x256.size iK).toLoadRect f12)
        (View.readAt (Elt Ideal) arg13.view (Rect.unit (s := S4x2048x256) ![h.val, 0, 0] S1x2048x256.size iK).toLoadRect f13) x
      = attY KB VB Q rowMax y := by
  have b0 : (x 0).val < 1 := (x 0).isLt
  have b1 : (x 1).val < 512 := (x 1).isLt
  have b2 : (x 2).val < 128 := (x 2).isLt
  have ex : x = ix3 0 ⟨(x 1).val, b1⟩ ⟨(x 2).val, b2⟩ := funext fun a => by fin_cases a <;> first | rfl | exact Fin.ext (Nat.lt_one_iff.mp b0)
  rw [← attY_of KB VB Q k hk h oo d hdd eo rowMax x y hy b1 b2]
  conv_lhs => rw [ex, attend_max_at]
  have e0 (k : Fin 2048) : (⟨0 + k.val, shift_lt (n := 2048) (o := 0) (by decide) k⟩ : Fin 2048) = k := Fin.ext (Nat.zero_add _)
  have hk' := lK_at c arg12 f12 KB hK h 2048 0 (by decide) iK
  have hv' := lK_at c arg13 f13 VB hV h 2048 0 (by decide) iK
  simp only [e0] at hk' hv'
  simp only [lq_at c arg14 g14 Q k s hk hQ hs h oq iq eq]
  unfold att scores
  exact congr (congr (congr (congrArg softOut (funext fun k => Finset.sum_congr rfl fun x _ => congrArg _ (hk' k x))) (congrArg rowMax (funext fun k => Finset.sum_congr rfl fun x _ => congrArg _ (hk' k x))))
    (funext fun k => hv' k _)) (funext fun k => hv' k _)

include hQ hK hV eq hs hdd eo in
theorem safe_piece (iK : ∀ a, (![h.val, 0, 0] : Fin 3 → ℕ) a + S1x1024x256.size a ≤ S4x2048x256.size a)
    (iK1 : ∀ a, (![h.val, 1024, 0] : Fin 3 → ℕ) a + S1x1024x256.size a ≤ S4x2048x256.size a) (x : S1x512x128.Idx) (y : S1x2048x512.Idx)
    (hy : ∀ a, (y a).val = oo a + 1 * (x a).val) :
    k0_pay87 (F := Ideal) (k0_pay86 b (lq c arg14 g14 oq iq) (View.readAt (Elt Ideal) arg12.view (Rect.unit (s := S4x2048x256) ![h.val, 0, 0] S1x1024x256.size iK).toLoadRect f12)
        (View.readAt (Elt Ideal) arg13.view (Rect.unit (s := S4x2048x256) ![h.val, 0, 0] S1x1024x256.size iK).toLoadRect f13)
        (lq c arg14 g14 oq iq) (View.readAt (Elt Ideal) arg12.view (Rect.unit (s := S4x2048x256) ![h.val, 1024, 0] S1x1024x256.size iK1).toLoadRect f12)
        (View.readAt (Elt Ideal) arg13.view (Rect.unit (s := S4x2048x256) ![h.val, 1024, 0] S1x1024x256.size iK1).toLoadRect f13)) x
      = attY KB VB Q (fun _ => b) y := by
  have b0 : (x 0).val < 1 := (x 0).isLt
  have b1 : (x 1).val < 512 := (x 1).isLt
  have b2 : (x 2).val < 128 := (x 2).isLt
  have ex : x = ix3 0 ⟨(x 1).val, b1⟩ ⟨(x 2).val, b2⟩ := funext fun a => by fin_cases a <;> first | rfl | exact Fin.ext (Nat.lt_one_iff.mp b0)
  have e0 (k : Fin 1024) : (⟨0 + k.val, shift_lt (n := 1024) (m := 2048) (o := 0) (by decide) k⟩ : Fin 2048) = ⟨k.val, by omega⟩ := Fin.ext (Nat.zero_add _)
  have hk0 := lK_at c arg12 f12 KB hK h 1024 0 (by decide) iK
  have hv0 := lK_at c arg13 f13 VB hV h 1024 0 (by decide) iK
  have hk1 := lK_at c arg12 f12 KB hK h 1024 1024 (by decide) iK1
  have hv1 := lK_at c arg13 f13 VB hV h 1024 1024 (by decide) iK1
  simp only [e0] at hk0 hv0
  rw [← attY_of KB VB Q k hk h oo d hdd eo (fun _ => b) x y hy b1 b2]
  conv_lhs => rw [ex, attend_safe_at b _ _ _ _ _ (fun k x => KB (ix3 h k x)) (fun k x => VB (ix3 h k x)) hk0 hk1 hv0 hv1]
  simp only [lq_at c arg14 g14 Q k s hk hQ hs h oq iq eq]
  rfl

end Att

section Loop

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x256 .f32) (harg5 : arg5.IsWhole)
  (arg6 : Memref sig .tc .vmem S256x1024 .bf16) (harg6 : arg6.IsWhole)
  (arg7 : Memref sig .tc .vmem S1x128 .f32) (harg7 : arg7.IsWhole)
  (arg8 : Memref sig .tc .vmem S128x1024 .bf16) (harg8 : arg8.IsWhole)
  (arg9 : Memref sig .tc .vmem S3x128 .f32) (harg9 : arg9.IsWhole)
  (arg10 : Memref sig .tc .vmem S3x128 .f32) (harg10 : arg10.IsWhole)
  (arg11 : Memref sig .tc .vmem S1x2048x512 .bf16) (harg11 : arg11.IsWhole)
  (arg12 : Memref sig .tc .vmem S4x2048x256 .bf16) (harg12 : arg12.IsWhole)
  (arg13 : Memref sig .tc .vmem S4x2048x256 .bf16) (harg13 : arg13.IsWhole)
  (arg14 : Memref sig .tc .vmem S2x4x512x256 .bf16) (harg14 : arg14.IsWhole)

variable (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ)))

theorem tile_le (n : ℕ) : 512 * (n % 4) + 512 ≤ 2048 := by omega

/-- The rows that the queries prepared for trip `n` come from: the next block's first tile after the last. -/
def tileZ (n : ℕ) : FVec Ideal S1x2048x512 .bf16 := if n = 4 then bZ c arg2 f2 else bZ c arg1 f1

/-- The query slot of trip `n`. -/
def tileQ (n : ℕ) (y : S2x4x512x256.Idx) : Elt Ideal .bf16 :=
  slotQ (tileZ c arg1 arg2 f1 f2 n) (bC c arg3 f3) (bS c arg4 f4) (bGcq c arg5 f5) (bWq c arg6 f6) (bGq c arg9 f9) (512 * (n % 4)) (tile_le n) y

theorem iv_eq : ∀ k : Fin k0_t1_loop.trips, IntOp.cmpi .eq (Scf.iv 0#32 1#32 k.val) 3#32 = (if k.val = 3 then 1#1 else 0#1) := by decide +kernel
theorem off1_eq : ∀ k : Fin k0_t1_loop.trips, k0_off1 k = ![k.val % 2, 0, 0, 0] := by decide +kernel
theorem off3_eq : ∀ k : Fin k0_t1_loop.trips, k0_off3 k = ![k.val % 2, 1, 0, 0] := by decide +kernel
theorem off5_eq : ∀ k : Fin k0_t1_loop.trips, k0_off5 k = ![k.val % 2, 2, 0, 0] := by decide +kernel
theorem off7_eq : ∀ k : Fin k0_t1_loop.trips, k0_off7 k = ![k.val % 2, 3, 0, 0] := by decide +kernel
theorem off15_eq : ∀ k : Fin k0_t1_loop.trips, k0_off15 k = ![k.val % 2, 0, 0, 0] := by decide +kernel
theorem off17_eq : ∀ k : Fin k0_t1_loop.trips, k0_off17 k = ![k.val % 2, 1, 0, 0] := by decide +kernel
theorem off19_eq : ∀ k : Fin k0_t1_loop.trips, k0_off19 k = ![k.val % 2, 2, 0, 0] := by decide +kernel
theorem off21_eq : ∀ k : Fin k0_t1_loop.trips, k0_off21 k = ![k.val % 2, 3, 0, 0] := by decide +kernel
theorem off11_eq : ∀ k : Fin k0_t1_loop.trips, k0_off11 k = ![(k.val + 1) % 2, 0, 0, 0] := by decide +kernel
theorem off12_eq : ∀ k : Fin k0_t1_loop.trips, k0_off12 k = ![(k.val + 1) % 2, 1, 0, 0] := by decide +kernel
theorem off13_eq : ∀ k : Fin k0_t1_loop.trips, k0_off13 k = ![(k.val + 1) % 2, 2, 0, 0] := by decide +kernel
theorem off14_eq : ∀ k : Fin k0_t1_loop.trips, k0_off14 k = ![(k.val + 1) % 2, 3, 0, 0] := by decide +kernel
theorem off25_eq : ∀ k : Fin k0_t1_loop.trips, k0_off25 k = ![(k.val + 1) % 2, 0, 0, 0] := by decide +kernel
theorem off26_eq : ∀ k : Fin k0_t1_loop.trips, k0_off26 k = ![(k.val + 1) % 2, 1, 0, 0] := by decide +kernel
theorem off27_eq : ∀ k : Fin k0_t1_loop.trips, k0_off27 k = ![(k.val + 1) % 2, 2, 0, 0] := by decide +kernel
theorem off28_eq : ∀ k : Fin k0_t1_loop.trips, k0_off28 k = ![(k.val + 1) % 2, 3, 0, 0] := by decide +kernel

section

variable (k : Fin k0_t1_loop.trips)

abbrev safeZ : Vec Ideal S1x512x256 .bf16 := View.readAt (Elt Ideal) arg1.view (Rect.unit (s := S1x2048x512) (k0_off9 k) S1x512x256.size (k0_off9_inb k)).toLoadRect f1
abbrev safeN : Vec Ideal S1x512x256 .bf16 := View.readAt (Elt Ideal) arg2.view (Rect.unit (s := S1x2048x512) ![0, 0, 0] S1x512x256.size inb_S1x2048x512_S1x512x256_0_0_0).toLoadRect f2
abbrev safeC : Vec Ideal S512x128 .f32 := View.readAt (Elt Ideal) arg3.view (Rect.unit (s := S2048x128) (k0_off10 k) S512x128.size (k0_off10_inb k)).toLoadRect f3
abbrev safeS : Vec Ideal S512x128 .f32 := View.readAt (Elt Ideal) arg4.view (Rect.unit (s := S2048x128) (k0_off10 k) S512x128.size (k0_off10_inb k)).toLoadRect f4
abbrev safeG : Vec Ideal S1x256 .f32 := View.readAt (Elt Ideal) arg5.view (Rect.unit (s := S1x256) ![0, 0] S1x256.size inb_S1x256_S1x256_0_0).toLoadRect f5
abbrev safeW : Vec Ideal S256x1024 .bf16 := View.readAt (Elt Ideal) arg6.view (Rect.unit (s := S256x1024) ![0, 0] S256x1024.size inb_S256x1024_S256x1024_0_0).toLoadRect f6

theorem safeC_at (b : Fin 512) (x : Fin 128) : safeC c arg3 f3 k (ix2 b x) = bC c arg3 f3 (ix2 ⟨512 * ((k.val + 1) % 4) + b, shift_lt (tile_le _) b⟩ x) :=
  View.ld_unit_apply_of _ _ _ _ _ _ fun a => by
    have hk : k.val < 4 := k.isLt
    refine Eq.trans ?_ (congrArg (· + _) (congrFun (k0_off10_eq k) a).symm)
    fin_cases a
    · show 512 * ((k.val + 1) % 4) + b.val = 512 * (if k.val = 3 then 0 else k.val + 1) + b.val
      split <;> omega
    · exact (Nat.zero_add _).symm
theorem safeS_at (b : Fin 512) (x : Fin 128) : safeS c arg4 f4 k (ix2 b x) = bS c arg4 f4 (ix2 ⟨512 * ((k.val + 1) % 4) + b, shift_lt (tile_le _) b⟩ x) :=
  View.ld_unit_apply_of _ _ _ _ _ _ fun a => by
    have hk : k.val < 4 := k.isLt
    refine Eq.trans ?_ (congrArg (· + _) (congrFun (k0_off10_eq k) a).symm)
    fin_cases a
    · show 512 * ((k.val + 1) % 4) + b.val = 512 * (if k.val = 3 then 0 else k.val + 1) + b.val
      split <;> omega
    · exact (Nat.zero_add _).symm
theorem safeG_eq : safeG c arg5 f5 = bGcq c arg5 f5 := View.ld_unit_lit' _ _ (by decide)
theorem safeW_eq : safeW c arg6 f6 = bWq c arg6 f6 := View.ld_unit_lit' _ _ (by decide)
theorem safeZ_at (b : Fin 512) (x : Fin 256) :
    (if (if k.val = 3 then 1#1 else 0#1 : BitVec 1) = 1#1 then safeN c arg2 f2 else safeZ c arg1 f1 k) (ix3 0 b x)
      = tileZ c arg1 arg2 f1 f2 (k.val + 1) (ix3 0 ⟨512 * ((k.val + 1) % 4) + b, shift_lt (tile_le _) b⟩ ⟨x, at256q x⟩) := by
  have hk : k.val < 4 := k.isLt
  unfold tileZ
  by_cases h : k.val = 3
  · rw [if_pos h, if_pos rfl, if_pos (by omega)]
    refine View.ld_unit_apply_of _ _ _ _ _ _ fun a => ?_
    fin_cases a
    · rfl
    · show 512 * ((k.val + 1) % 4) + b.val = 0 + b.val; omega
    · exact (Nat.zero_add _).symm
  · rw [if_neg h, if_neg (by decide), if_neg (by omega)]
    refine View.ld_unit_apply_of _ _ _ _ _ _ fun a => ?_
    refine Eq.trans ?_ (congrArg (· + _) (congrFun (k0_off9_eq k) a).symm)
    fin_cases a
    · rfl
    · show 512 * ((k.val + 1) % 4) + b.val = 512 * (if k.val = 3 then 0 else k.val + 1) + b.val
      rw [if_neg h]; omega
    · exact (Nat.zero_add _).symm

theorem safe_q0 (off : Fin 4 → ℕ) (e : off = ![(k.val + 1) % 2, 0, 0, 0]) (x : S1x1x512x256.Idx) (y : S2x4x512x256.Idx) (hy : ∀ a, (y a).val = off a + 1 * (x a).val) :
    tile0 (bGq c arg9 f9) (k0_pay68 (bGq c arg9 f9) (safeC c arg3 f3 k)) (k0_pay69 (bGq c arg9 f9) (safeS c arg4 f4 k))
        (sQ (Scf.iv 0#32 1#32 k.val) (safeN c arg2 f2) (safeZ c arg1 f1 k) (safeG c arg5 f5) (safeW c arg6 f6)) x
      = tileQ c arg1 arg2 arg3 arg4 arg5 arg6 arg9 f1 f2 f3 f4 f5 f6 f9 (k.val + 1) y := by
  rw [sQ, safe_select _ _ _ _ _ _ (iv_eq k), safeG_eq, safeW_eq]
  exact qtile0 _ _ _ _ _ _ _ _ _ _ (tile_le _) (safeZ_at c arg1 arg2 f1 f2 k) (safeC_at c arg3 f3 k) (safeS_at c arg4 f4 k) _ off e x y hy

theorem safe_q1 (off : Fin 4 → ℕ) (e : off = ![(k.val + 1) % 2, 1, 0, 0]) (x : S1x1x512x256.Idx) (y : S2x4x512x256.Idx) (hy : ∀ a, (y a).val = off a + 1 * (x a).val) :
    tile1 (bGq c arg9 f9) (k0_pay68 (bGq c arg9 f9) (safeC c arg3 f3 k)) (k0_pay69 (bGq c arg9 f9) (safeS c arg4 f4 k))
        (sQ (Scf.iv 0#32 1#32 k.val) (safeN c arg2 f2) (safeZ c arg1 f1 k) (safeG c arg5 f5) (safeW c arg6 f6)) x
      = tileQ c arg1 arg2 arg3 arg4 arg5 arg6 arg9 f1 f2 f3 f4 f5 f6 f9 (k.val + 1) y := by
  rw [sQ, safe_select _ _ _ _ _ _ (iv_eq k), safeG_eq, safeW_eq]
  exact qtile1 _ _ _ _ _ _ _ _ _ _ (tile_le _) (safeZ_at c arg1 arg2 f1 f2 k) (safeC_at c arg3 f3 k) (safeS_at c arg4 f4 k) _ off e x y hy

theorem safe_q2 (off : Fin 4 → ℕ) (e : off = ![(k.val + 1) % 2, 2, 0, 0]) (x : S1x1x512x256.Idx) (y : S2x4x512x256.Idx) (hy : ∀ a, (y a).val = off a + 1 * (x a).val) :
    tile2 (bGq c arg9 f9) (k0_pay68 (bGq c arg9 f9) (safeC c arg3 f3 k)) (k0_pay69 (bGq c arg9 f9) (safeS c arg4 f4 k))
        (sQ (Scf.iv 0#32 1#32 k.val) (safeN c arg2 f2) (safeZ c arg1 f1 k) (safeG c arg5 f5) (safeW c arg6 f6)) x
      = tileQ c arg1 arg2 arg3 arg4 arg5 arg6 arg9 f1 f2 f3 f4 f5 f6 f9 (k.val + 1) y := by
  rw [sQ, safe_select _ _ _ _ _ _ (iv_eq k), safeG_eq, safeW_eq]
  exact qtile2 _ _ _ _ _ _ _ _ _ _ (tile_le _) (safeZ_at c arg1 arg2 f1 f2 k) (safeC_at c arg3 f3 k) (safeS_at c arg4 f4 k) _ off e x y hy

theorem safe_q3 (off : Fin 4 → ℕ) (e : off = ![(k.val + 1) % 2, 3, 0, 0]) (x : S1x1x512x256.Idx) (y : S2x4x512x256.Idx) (hy : ∀ a, (y a).val = off a + 1 * (x a).val) :
    tile3 (bGq c arg9 f9) (k0_pay68 (bGq c arg9 f9) (safeC c arg3 f3 k)) (k0_pay69 (bGq c arg9 f9) (safeS c arg4 f4 k))
        (sQ (Scf.iv 0#32 1#32 k.val) (safeN c arg2 f2) (safeZ c arg1 f1 k) (safeG c arg5 f5) (safeW c arg6 f6)) x
      = tileQ c arg1 arg2 arg3 arg4 arg5 arg6 arg9 f1 f2 f3 f4 f5 f6 f9 (k.val + 1) y := by
  rw [sQ, safe_select _ _ _ _ _ _ (iv_eq k), safeG_eq, safeW_eq]
  exact qtile3 _ _ _ _ _ _ _ _ _ _ (tile_le _) (safeZ_at c arg1 arg2 f1 f2 k) (safeC_at c arg3 f3 k) (safeS_at c arg4 f4 k) _ off e x y hy

set_option maxHeartbeats 2000000 in
theorem safe_query (v78 : EReal) (y : S2x4x512x256.Idx) (hy0 : (y 0).val = (k.val + 1) % 2) :
    arg14.view.read (Elt Ideal) (arg14.view.writes (Elt Ideal) f14 (tripSafe (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 (bGq c arg9 f9) v78 k f1 f2 f3 f4 f5 f6 f12 f13 f14).2.1) y
      = tileQ c arg1 arg2 arg3 arg4 arg5 arg6 arg9 f1 f2 f3 f4 f5 f6 f9 (k.val + 1) y := by
  have b1 : (y 1).val < 4 := (y 1).isLt
  have b2 : (y 2).val < 512 := (y 2).isLt
  have b3 : (y 3).val < 256 := (y 3).isLt
  unfold tripSafe
  dsimp only
  refine View.read_writes_apply_of_pieces _ _ (tileQ c arg1 arg2 arg3 arg4 arg5 arg6 arg9 f1 f2 f3 f4 f5 f6 f9 (k.val + 1)) _ ?_ y ?_
  refine List.forall_mem_cons.2 ⟨fun x => ?_, ?_⟩
  · exact Eq.trans (congrFun (safe3 (bGq c arg9 f9) (Scf.iv 0#32 1#32 k.val) (safeN c arg2 f2) (safeZ c arg1 f1 k) (safeG c arg5 f5) (safeW c arg6 f6) (safeC c arg3 f3 k) (safeS c arg4 f4 k)) x)
      (safe_q3 c arg1 arg2 arg3 arg4 arg5 arg6 arg9 f1 f2 f3 f4 f5 f6 f9 k _ (off14_eq k) x _ fun a => by fin_cases a <;> rfl)
  refine List.forall_mem_cons.2 ⟨fun x => ?_, ?_⟩
  · exact Eq.trans (congrFun (safe2 (bGq c arg9 f9) (Scf.iv 0#32 1#32 k.val) (safeN c arg2 f2) (safeZ c arg1 f1 k) (safeG c arg5 f5) (safeW c arg6 f6) (safeC c arg3 f3 k) (safeS c arg4 f4 k)) x)
      (safe_q2 c arg1 arg2 arg3 arg4 arg5 arg6 arg9 f1 f2 f3 f4 f5 f6 f9 k _ (off13_eq k) x _ fun a => by fin_cases a <;> rfl)
  refine List.forall_mem_cons.2 ⟨fun x => ?_, ?_⟩
  · exact Eq.trans (congrFun (safe1 (bGq c arg9 f9) (Scf.iv 0#32 1#32 k.val) (safeN c arg2 f2) (safeZ c arg1 f1 k) (safeG c arg5 f5) (safeW c arg6 f6) (safeC c arg3 f3 k) (safeS c arg4 f4 k)) x)
      (safe_q1 c arg1 arg2 arg3 arg4 arg5 arg6 arg9 f1 f2 f3 f4 f5 f6 f9 k _ (off12_eq k) x _ fun a => by fin_cases a <;> rfl)
  refine List.forall_mem_cons.2 ⟨fun x => ?_, ?_⟩
  · exact Eq.trans (congrFun (safe0 (bGq c arg9 f9) (Scf.iv 0#32 1#32 k.val) (safeN c arg2 f2) (safeZ c arg1 f1 k) (safeG c arg5 f5) (safeW c arg6 f6) (safeC c arg3 f3 k) (safeS c arg4 f4 k)) x)
      (safe_q0 c arg1 arg2 arg3 arg4 arg5 arg6 arg9 f1 f2 f3 f4 f5 f6 f9 k _ (off11_eq k) x _ fun a => by fin_cases a <;> rfl)
  exact fun p hp => absurd hp List.not_mem_nil
  have hh : (y 1).val = 0 ∨ (y 1).val = 1 ∨ (y 1).val = 2 ∨ (y 1).val = 3 := by omega
  rcases hh with hh | hh | hh | hh
  · exact ⟨_, List.mem_cons_of_mem _ (List.mem_cons_of_mem _ (List.mem_cons_of_mem _ (List.mem_cons_self))), mem_unit _ _ _ (k0_off11_inb k) (off11_eq k) y fun a => by
      fin_cases a
      · show (k.val + 1) % 2 ≤ (y 0).val ∧ (y 0).val < (k.val + 1) % 2 + 1; omega
      · show 0 ≤ (y 1).val ∧ (y 1).val < 0 + 1; omega
      · show 0 ≤ (y 2).val ∧ (y 2).val < 0 + 512; omega
      · show 0 ≤ (y 3).val ∧ (y 3).val < 0 + 256; omega⟩
  · exact ⟨_, List.mem_cons_of_mem _ (List.mem_cons_of_mem _ (List.mem_cons_self)), mem_unit _ _ _ (k0_off12_inb k) (off12_eq k) y fun a => by
      fin_cases a
      · show (k.val + 1) % 2 ≤ (y 0).val ∧ (y 0).val < (k.val + 1) % 2 + 1; omega
      · show 1 ≤ (y 1).val ∧ (y 1).val < 1 + 1; omega
      · show 0 ≤ (y 2).val ∧ (y 2).val < 0 + 512; omega
      · show 0 ≤ (y 3).val ∧ (y 3).val < 0 + 256; omega⟩
  · exact ⟨_, List.mem_cons_of_mem _ (List.mem_cons_self), mem_unit _ _ _ (k0_off13_inb k) (off13_eq k) y fun a => by
      fin_cases a
      · show (k.val + 1) % 2 ≤ (y 0).val ∧ (y 0).val < (k.val + 1) % 2 + 1; omega
      · show 2 ≤ (y 1).val ∧ (y 1).val < 2 + 1; omega
      · show 0 ≤ (y 2).val ∧ (y 2).val < 0 + 512; omega
      · show 0 ≤ (y 3).val ∧ (y 3).val < 0 + 256; omega⟩
  · exact ⟨_, List.mem_cons_self, mem_unit _ _ _ (k0_off14_inb k) (off14_eq k) y fun a => by
      fin_cases a
      · show (k.val + 1) % 2 ≤ (y 0).val ∧ (y 0).val < (k.val + 1) % 2 + 1; omega
      · show 3 ≤ (y 1).val ∧ (y 1).val < 3 + 1; omega
      · show 0 ≤ (y 2).val ∧ (y 2).val < 0 + 512; omega
      · show 0 ≤ (y 3).val ∧ (y 3).val < 0 + 256; omega⟩

set_option maxHeartbeats 2000000 in
theorem safe_out (v54 : FVec Ideal S256x256 .bf16) (v62 : FVec Ideal S3x128 .f32) (v78 : EReal) (KB VB : S4x2048x256.Idx → EReal) (Q : Fin 4 → Fin 2048 → Fin 256 → EReal) (hk : 512 * k.val + 512 ≤ 2048)
    (hK : ∀ y, arg12.view.read (Elt Ideal) f12 y = KB y) (hV : ∀ y, arg13.view.read (Elt Ideal) f13 y = VB y)
    (hQ : ∀ y : S2x4x512x256.Idx, (y 0).val = k.val % 2 → arg14.view.read (Elt Ideal) f14 y = Q (y 1) ⟨512 * k.val + (y 2).val, shift_lt hk (y 2)⟩ (y 3))
    (y : S1x2048x512.Idx) :
    arg11.view.read (Elt Ideal) (arg11.view.writes (Elt Ideal) f11 (tripSafe (F := Ideal) c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 f14).1) y
      = if (y 1).val / 512 = k.val then attY KB VB Q (fun _ => v78) y else arg11.view.read (Elt Ideal) f11 y := by
  have b0 : (y 0).val < 1 := (y 0).isLt
  have b1 : (y 1).val < 2048 := (y 1).isLt
  have b2 : (y 2).val < 512 := (y 2).isLt
  unfold tripSafe
  dsimp only
  by_cases hy : (y 1).val / 512 = k.val
  · rw [if_pos hy]
    refine View.read_writes_apply_of_pieces _ _ (attY KB VB Q (fun _ => v78)) _ ?_ y ?_
    rotate_left
    · have hh : (y 2).val / 128 = 0 ∨ (y 2).val / 128 = 1 ∨ (y 2).val / 128 = 2 ∨ (y 2).val / 128 = 3 := by omega
      rcases hh with hh | hh | hh | hh
      · exact ⟨_, List.mem_cons_of_mem _ (List.mem_cons_of_mem _ (List.mem_cons_of_mem _ (List.mem_cons_self))), mem_unit _ _ _ (k0_off2_inb k) (k0_off2_eq k) y fun a => by
          fin_cases a
          · show 0 ≤ (y 0).val ∧ (y 0).val < 0 + 1; omega
          · show 512 * k.val ≤ (y 1).val ∧ (y 1).val < 512 * k.val + 512; omega
          · show 0 ≤ (y 2).val ∧ (y 2).val < 0 + 128; omega⟩
      · exact ⟨_, List.mem_cons_of_mem _ (List.mem_cons_of_mem _ (List.mem_cons_self)), mem_unit _ _ _ (k0_off4_inb k) (k0_off4_eq k) y fun a => by
          fin_cases a
          · show 0 ≤ (y 0).val ∧ (y 0).val < 0 + 1; omega
          · show 512 * k.val ≤ (y 1).val ∧ (y 1).val < 512 * k.val + 512; omega
          · show 128 ≤ (y 2).val ∧ (y 2).val < 128 + 128; omega⟩
      · exact ⟨_, List.mem_cons_of_mem _ (List.mem_cons_self), mem_unit _ _ _ (k0_off6_inb k) (k0_off6_eq k) y fun a => by
          fin_cases a
          · show 0 ≤ (y 0).val ∧ (y 0).val < 0 + 1; omega
          · show 512 * k.val ≤ (y 1).val ∧ (y 1).val < 512 * k.val + 512; omega
          · show 256 ≤ (y 2).val ∧ (y 2).val < 256 + 128; omega⟩
      · exact ⟨_, List.mem_cons_self, mem_unit _ _ _ (k0_off8_inb k) (k0_off8_eq k) y fun a => by
          fin_cases a
          · show 0 ≤ (y 0).val ∧ (y 0).val < 0 + 1; omega
          · show 512 * k.val ≤ (y 1).val ∧ (y 1).val < 512 * k.val + 512; omega
          · show 384 ≤ (y 2).val ∧ (y 2).val < 384 + 128; omega⟩
    refine List.forall_mem_cons.2 ⟨fun x => ?_, ?_⟩
    · exact safe_piece c arg12 arg13 arg14 f12 f13 f14 KB VB Q k.val (k.val % 2) hk hK hV hQ (Nat.mod_lt _ (by decide)) v78 3 _ (k0_off7_inb k) (off7_eq k) _ 384 rfl (k0_off8_eq k) _ _ x _ fun a => by fin_cases a <;> rfl
    refine List.forall_mem_cons.2 ⟨fun x => ?_, ?_⟩
    · exact safe_piece c arg12 arg13 arg14 f12 f13 f14 KB VB Q k.val (k.val % 2) hk hK hV hQ (Nat.mod_lt _ (by decide)) v78 2 _ (k0_off5_inb k) (off5_eq k) _ 256 rfl (k0_off6_eq k) _ _ x _ fun a => by fin_cases a <;> rfl
    refine List.forall_mem_cons.2 ⟨fun x => ?_, ?_⟩
    · exact safe_piece c arg12 arg13 arg14 f12 f13 f14 KB VB Q k.val (k.val % 2) hk hK hV hQ (Nat.mod_lt _ (by decide)) v78 1 _ (k0_off3_inb k) (off3_eq k) _ 128 rfl (k0_off4_eq k) _ _ x _ fun a => by fin_cases a <;> rfl
    refine List.forall_mem_cons.2 ⟨fun x => ?_, ?_⟩
    · exact safe_piece c arg12 arg13 arg14 f12 f13 f14 KB VB Q k.val (k.val % 2) hk hK hV hQ (Nat.mod_lt _ (by decide)) v78 0 _ (k0_off1_inb k) (off1_eq k) _ 0 rfl (k0_off2_eq k) _ _ x _ fun a => by fin_cases a <;> rfl
    exact fun p hp => absurd hp List.not_mem_nil
  · rw [if_neg hy]
    refine View.read_writes_apply_of_forall_not_mem _ _ _ _ ?_
    refine List.forall_mem_cons.2 ⟨not_mem_unit _ _ _ (k0_off8_inb k) (k0_off8_eq k) y 1 (by show (y 1).val < 512 * k.val ∨ 512 * k.val + 512 ≤ (y 1).val; omega), ?_⟩
    refine List.forall_mem_cons.2 ⟨not_mem_unit _ _ _ (k0_off6_inb k) (k0_off6_eq k) y 1 (by show (y 1).val < 512 * k.val ∨ 512 * k.val + 512 ≤ (y 1).val; omega), ?_⟩
    refine List.forall_mem_cons.2 ⟨not_mem_unit _ _ _ (k0_off4_inb k) (k0_off4_eq k) y 1 (by show (y 1).val < 512 * k.val ∨ 512 * k.val + 512 ≤ (y 1).val; omega), ?_⟩
    refine List.forall_mem_cons.2 ⟨not_mem_unit _ _ _ (k0_off2_inb k) (k0_off2_eq k) y 1 (by show (y 1).val < 512 * k.val ∨ 512 * k.val + 512 ≤ (y 1).val; omega), ?_⟩
    exact fun p hp => absurd hp List.not_mem_nil

end

section

variable (k : Fin k0_t1_loop.trips)

abbrev maxZ : Vec Ideal S1x512x256 .bf16 := View.readAt (Elt Ideal) arg1.view (Rect.unit (s := S1x2048x512) (k0_off23 k) S1x512x256.size (k0_off23_inb k)).toLoadRect f1
abbrev maxN : Vec Ideal S1x512x256 .bf16 := View.readAt (Elt Ideal) arg2.view (Rect.unit (s := S1x2048x512) ![0, 0, 0] S1x512x256.size inb_S1x2048x512_S1x512x256_0_0_0).toLoadRect f2
abbrev maxC : Vec Ideal S512x128 .f32 := View.readAt (Elt Ideal) arg3.view (Rect.unit (s := S2048x128) (k0_off24 k) S512x128.size (k0_off24_inb k)).toLoadRect f3
abbrev maxS : Vec Ideal S512x128 .f32 := View.readAt (Elt Ideal) arg4.view (Rect.unit (s := S2048x128) (k0_off24 k) S512x128.size (k0_off24_inb k)).toLoadRect f4
abbrev maxG : Vec Ideal S1x256 .f32 := View.readAt (Elt Ideal) arg5.view (Rect.unit (s := S1x256) ![0, 0] S1x256.size inb_S1x256_S1x256_0_0).toLoadRect f5
abbrev maxW : Vec Ideal S256x1024 .bf16 := View.readAt (Elt Ideal) arg6.view (Rect.unit (s := S256x1024) ![0, 0] S256x1024.size inb_S256x1024_S256x1024_0_0).toLoadRect f6

theorem maxC_at (b : Fin 512) (x : Fin 128) : maxC c arg3 f3 k (ix2 b x) = bC c arg3 f3 (ix2 ⟨512 * ((k.val + 1) % 4) + b, shift_lt (tile_le _) b⟩ x) :=
  View.ld_unit_apply_of _ _ _ _ _ _ fun a => by
    have hk : k.val < 4 := k.isLt
    refine Eq.trans ?_ (congrArg (· + _) (congrFun (k0_off24_eq k) a).symm)
    fin_cases a
    · show 512 * ((k.val + 1) % 4) + b.val = 512 * (if k.val = 3 then 0 else k.val + 1) + b.val
      split <;> omega
    · exact (Nat.zero_add _).symm
theorem maxS_at (b : Fin 512) (x : Fin 128) : maxS c arg4 f4 k (ix2 b x) = bS c arg4 f4 (ix2 ⟨512 * ((k.val + 1) % 4) + b, shift_lt (tile_le _) b⟩ x) :=
  View.ld_unit_apply_of _ _ _ _ _ _ fun a => by
    have hk : k.val < 4 := k.isLt
    refine Eq.trans ?_ (congrArg (· + _) (congrFun (k0_off24_eq k) a).symm)
    fin_cases a
    · show 512 * ((k.val + 1) % 4) + b.val = 512 * (if k.val = 3 then 0 else k.val + 1) + b.val
      split <;> omega
    · exact (Nat.zero_add _).symm
theorem maxG_eq : maxG c arg5 f5 = bGcq c arg5 f5 := View.ld_unit_lit' _ _ (by decide)
theorem maxW_eq : maxW c arg6 f6 = bWq c arg6 f6 := View.ld_unit_lit' _ _ (by decide)
theorem maxZ_at (b : Fin 512) (x : Fin 256) :
    (if (if k.val = 3 then 1#1 else 0#1 : BitVec 1) = 1#1 then maxN c arg2 f2 else maxZ c arg1 f1 k) (ix3 0 b x)
      = tileZ c arg1 arg2 f1 f2 (k.val + 1) (ix3 0 ⟨512 * ((k.val + 1) % 4) + b, shift_lt (tile_le _) b⟩ ⟨x, at256q x⟩) := by
  have hk : k.val < 4 := k.isLt
  unfold tileZ
  by_cases h : k.val = 3
  · rw [if_pos h, if_pos rfl, if_pos (by omega)]
    refine View.ld_unit_apply_of _ _ _ _ _ _ fun a => ?_
    fin_cases a
    · rfl
    · show 512 * ((k.val + 1) % 4) + b.val = 0 + b.val; omega
    · exact (Nat.zero_add _).symm
  · rw [if_neg h, if_neg (by decide), if_neg (by omega)]
    refine View.ld_unit_apply_of _ _ _ _ _ _ fun a => ?_
    refine Eq.trans ?_ (congrArg (· + _) (congrFun (k0_off23_eq k) a).symm)
    fin_cases a
    · rfl
    · show 512 * ((k.val + 1) % 4) + b.val = 512 * (if k.val = 3 then 0 else k.val + 1) + b.val
      rw [if_neg h]; omega
    · exact (Nat.zero_add _).symm

theorem max_q0 (off : Fin 4 → ℕ) (e : off = ![(k.val + 1) % 2, 0, 0, 0]) (x : S1x1x512x256.Idx) (y : S2x4x512x256.Idx) (hy : ∀ a, (y a).val = off a + 1 * (x a).val) :
    tile0 (bGq c arg9 f9) (k0_pay68 (bGq c arg9 f9) (maxC c arg3 f3 k)) (k0_pay69 (bGq c arg9 f9) (maxS c arg4 f4 k))
        (mQ (Scf.iv 0#32 1#32 k.val) (maxN c arg2 f2) (maxZ c arg1 f1 k) (maxG c arg5 f5) (maxW c arg6 f6)) x
      = tileQ c arg1 arg2 arg3 arg4 arg5 arg6 arg9 f1 f2 f3 f4 f5 f6 f9 (k.val + 1) y := by
  rw [mQ, max_select _ _ _ _ _ _ (iv_eq k), maxG_eq, maxW_eq]
  exact qtile0 _ _ _ _ _ _ _ _ _ _ (tile_le _) (maxZ_at c arg1 arg2 f1 f2 k) (maxC_at c arg3 f3 k) (maxS_at c arg4 f4 k) _ off e x y hy

theorem max_q1 (off : Fin 4 → ℕ) (e : off = ![(k.val + 1) % 2, 1, 0, 0]) (x : S1x1x512x256.Idx) (y : S2x4x512x256.Idx) (hy : ∀ a, (y a).val = off a + 1 * (x a).val) :
    tile1 (bGq c arg9 f9) (k0_pay68 (bGq c arg9 f9) (maxC c arg3 f3 k)) (k0_pay69 (bGq c arg9 f9) (maxS c arg4 f4 k))
        (mQ (Scf.iv 0#32 1#32 k.val) (maxN c arg2 f2) (maxZ c arg1 f1 k) (maxG c arg5 f5) (maxW c arg6 f6)) x
      = tileQ c arg1 arg2 arg3 arg4 arg5 arg6 arg9 f1 f2 f3 f4 f5 f6 f9 (k.val + 1) y := by
  rw [mQ, max_select _ _ _ _ _ _ (iv_eq k), maxG_eq, maxW_eq]
  exact qtile1 _ _ _ _ _ _ _ _ _ _ (tile_le _) (maxZ_at c arg1 arg2 f1 f2 k) (maxC_at c arg3 f3 k) (maxS_at c arg4 f4 k) _ off e x y hy

theorem max_q2 (off : Fin 4 → ℕ) (e : off = ![(k.val + 1) % 2, 2, 0, 0]) (x : S1x1x512x256.Idx) (y : S2x4x512x256.Idx) (hy : ∀ a, (y a).val = off a + 1 * (x a).val) :
    tile2 (bGq c arg9 f9) (k0_pay68 (bGq c arg9 f9) (maxC c arg3 f3 k)) (k0_pay69 (bGq c arg9 f9) (maxS c arg4 f4 k))
        (mQ (Scf.iv 0#32 1#32 k.val) (maxN c arg2 f2) (maxZ c arg1 f1 k) (maxG c arg5 f5) (maxW c arg6 f6)) x
      = tileQ c arg1 arg2 arg3 arg4 arg5 arg6 arg9 f1 f2 f3 f4 f5 f6 f9 (k.val + 1) y := by
  rw [mQ, max_select _ _ _ _ _ _ (iv_eq k), maxG_eq, maxW_eq]
  exact qtile2 _ _ _ _ _ _ _ _ _ _ (tile_le _) (maxZ_at c arg1 arg2 f1 f2 k) (maxC_at c arg3 f3 k) (maxS_at c arg4 f4 k) _ off e x y hy

theorem max_q3 (off : Fin 4 → ℕ) (e : off = ![(k.val + 1) % 2, 3, 0, 0]) (x : S1x1x512x256.Idx) (y : S2x4x512x256.Idx) (hy : ∀ a, (y a).val = off a + 1 * (x a).val) :
    tile3 (bGq c arg9 f9) (k0_pay68 (bGq c arg9 f9) (maxC c arg3 f3 k)) (k0_pay69 (bGq c arg9 f9) (maxS c arg4 f4 k))
        (mQ (Scf.iv 0#32 1#32 k.val) (maxN c arg2 f2) (maxZ c arg1 f1 k) (maxG c arg5 f5) (maxW c arg6 f6)) x
      = tileQ c arg1 arg2 arg3 arg4 arg5 arg6 arg9 f1 f2 f3 f4 f5 f6 f9 (k.val + 1) y := by
  rw [mQ, max_select _ _ _ _ _ _ (iv_eq k), maxG_eq, maxW_eq]
  exact qtile3 _ _ _ _ _ _ _ _ _ _ (tile_le _) (maxZ_at c arg1 arg2 f1 f2 k) (maxC_at c arg3 f3 k) (maxS_at c arg4 f4 k) _ off e x y hy

set_option maxHeartbeats 2000000 in
theorem max_query (v78 : EReal) (y : S2x4x512x256.Idx) (hy0 : (y 0).val = (k.val + 1) % 2) :
    arg14.view.read (Elt Ideal) (arg14.view.writes (Elt Ideal) f14 (tripMax (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 (bGq c arg9 f9) v78 k f1 f2 f3 f4 f5 f6 f12 f13 f14).2.1) y
      = tileQ c arg1 arg2 arg3 arg4 arg5 arg6 arg9 f1 f2 f3 f4 f5 f6 f9 (k.val + 1) y := by
  have b1 : (y 1).val < 4 := (y 1).isLt
  have b2 : (y 2).val < 512 := (y 2).isLt
  have b3 : (y 3).val < 256 := (y 3).isLt
  unfold tripMax
  dsimp only
  refine View.read_writes_apply_of_pieces _ _ (tileQ c arg1 arg2 arg3 arg4 arg5 arg6 arg9 f1 f2 f3 f4 f5 f6 f9 (k.val + 1)) _ ?_ y ?_
  refine List.forall_mem_cons.2 ⟨fun x => ?_, ?_⟩
  · exact Eq.trans (congrFun (max3 (bGq c arg9 f9) (Scf.iv 0#32 1#32 k.val) (maxN c arg2 f2) (maxZ c arg1 f1 k) (maxG c arg5 f5) (maxW c arg6 f6) (maxC c arg3 f3 k) (maxS c arg4 f4 k)) x)
      (max_q3 c arg1 arg2 arg3 arg4 arg5 arg6 arg9 f1 f2 f3 f4 f5 f6 f9 k _ (off28_eq k) x _ fun a => by fin_cases a <;> rfl)
  refine List.forall_mem_cons.2 ⟨fun x => ?_, ?_⟩
  · exact Eq.trans (congrFun (max2 (bGq c arg9 f9) (Scf.iv 0#32 1#32 k.val) (maxN c arg2 f2) (maxZ c arg1 f1 k) (maxG c arg5 f5) (maxW c arg6 f6) (maxC c arg3 f3 k) (maxS c arg4 f4 k)) x)
      (max_q2 c arg1 arg2 arg3 arg4 arg5 arg6 arg9 f1 f2 f3 f4 f5 f6 f9 k _ (off27_eq k) x _ fun a => by fin_cases a <;> rfl)
  refine List.forall_mem_cons.2 ⟨fun x => ?_, ?_⟩
  · exact Eq.trans (congrFun (max1 (bGq c arg9 f9) (Scf.iv 0#32 1#32 k.val) (maxN c arg2 f2) (maxZ c arg1 f1 k) (maxG c arg5 f5) (maxW c arg6 f6) (maxC c arg3 f3 k) (maxS c arg4 f4 k)) x)
      (max_q1 c arg1 arg2 arg3 arg4 arg5 arg6 arg9 f1 f2 f3 f4 f5 f6 f9 k _ (off26_eq k) x _ fun a => by fin_cases a <;> rfl)
  refine List.forall_mem_cons.2 ⟨fun x => ?_, ?_⟩
  · exact Eq.trans (congrFun (max0 (bGq c arg9 f9) (Scf.iv 0#32 1#32 k.val) (maxN c arg2 f2) (maxZ c arg1 f1 k) (maxG c arg5 f5) (maxW c arg6 f6) (maxC c arg3 f3 k) (maxS c arg4 f4 k)) x)
      (max_q0 c arg1 arg2 arg3 arg4 arg5 arg6 arg9 f1 f2 f3 f4 f5 f6 f9 k _ (off25_eq k) x _ fun a => by fin_cases a <;> rfl)
  exact fun p hp => absurd hp List.not_mem_nil
  have hh : (y 1).val = 0 ∨ (y 1).val = 1 ∨ (y 1).val = 2 ∨ (y 1).val = 3 := by omega
  rcases hh with hh | hh | hh | hh
  · exact ⟨_, List.mem_cons_of_mem _ (List.mem_cons_of_mem _ (List.mem_cons_of_mem _ (List.mem_cons_self))), mem_unit _ _ _ (k0_off25_inb k) (off25_eq k) y fun a => by
      fin_cases a
      · show (k.val + 1) % 2 ≤ (y 0).val ∧ (y 0).val < (k.val + 1) % 2 + 1; omega
      · show 0 ≤ (y 1).val ∧ (y 1).val < 0 + 1; omega
      · show 0 ≤ (y 2).val ∧ (y 2).val < 0 + 512; omega
      · show 0 ≤ (y 3).val ∧ (y 3).val < 0 + 256; omega⟩
  · exact ⟨_, List.mem_cons_of_mem _ (List.mem_cons_of_mem _ (List.mem_cons_self)), mem_unit _ _ _ (k0_off26_inb k) (off26_eq k) y fun a => by
      fin_cases a
      · show (k.val + 1) % 2 ≤ (y 0).val ∧ (y 0).val < (k.val + 1) % 2 + 1; omega
      · show 1 ≤ (y 1).val ∧ (y 1).val < 1 + 1; omega
      · show 0 ≤ (y 2).val ∧ (y 2).val < 0 + 512; omega
      · show 0 ≤ (y 3).val ∧ (y 3).val < 0 + 256; omega⟩
  · exact ⟨_, List.mem_cons_of_mem _ (List.mem_cons_self), mem_unit _ _ _ (k0_off27_inb k) (off27_eq k) y fun a => by
      fin_cases a
      · show (k.val + 1) % 2 ≤ (y 0).val ∧ (y 0).val < (k.val + 1) % 2 + 1; omega
      · show 2 ≤ (y 1).val ∧ (y 1).val < 2 + 1; omega
      · show 0 ≤ (y 2).val ∧ (y 2).val < 0 + 512; omega
      · show 0 ≤ (y 3).val ∧ (y 3).val < 0 + 256; omega⟩
  · exact ⟨_, List.mem_cons_self, mem_unit _ _ _ (k0_off28_inb k) (off28_eq k) y fun a => by
      fin_cases a
      · show (k.val + 1) % 2 ≤ (y 0).val ∧ (y 0).val < (k.val + 1) % 2 + 1; omega
      · show 3 ≤ (y 1).val ∧ (y 1).val < 3 + 1; omega
      · show 0 ≤ (y 2).val ∧ (y 2).val < 0 + 512; omega
      · show 0 ≤ (y 3).val ∧ (y 3).val < 0 + 256; omega⟩

set_option maxHeartbeats 2000000 in
theorem max_out (v54 : FVec Ideal S256x256 .bf16) (v62 : FVec Ideal S3x128 .f32) (v78 : EReal) (KB VB : S4x2048x256.Idx → EReal) (Q : Fin 4 → Fin 2048 → Fin 256 → EReal) (hk : 512 * k.val + 512 ≤ 2048)
    (hK : ∀ y, arg12.view.read (Elt Ideal) f12 y = KB y) (hV : ∀ y, arg13.view.read (Elt Ideal) f13 y = VB y)
    (hQ : ∀ y : S2x4x512x256.Idx, (y 0).val = k.val % 2 → arg14.view.read (Elt Ideal) f14 y = Q (y 1) ⟨512 * k.val + (y 2).val, shift_lt hk (y 2)⟩ (y 3))
    (y : S1x2048x512.Idx) :
    arg11.view.read (Elt Ideal) (arg11.view.writes (Elt Ideal) f11 (tripMax (F := Ideal) c i arg1 harg1 arg2 harg2 arg3 harg3 arg4 harg4 arg5 harg5 arg6 harg6 arg7 harg7 arg8 harg8 arg9 harg9 arg10 harg10 arg11 harg11 arg12 harg12 arg13 harg13 arg14 harg14 v54 v62 v78 k f1 f2 f3 f4 f5 f6 f12 f13 f14).1) y
      = if (y 1).val / 512 = k.val then attY KB VB Q rowMax y else arg11.view.read (Elt Ideal) f11 y := by
  have b0 : (y 0).val < 1 := (y 0).isLt
  have b1 : (y 1).val < 2048 := (y 1).isLt
  have b2 : (y 2).val < 512 := (y 2).isLt
  unfold tripMax
  dsimp only
  by_cases hy : (y 1).val / 512 = k.val
  · rw [if_pos hy]
    refine View.read_writes_apply_of_pieces _ _ (attY KB VB Q rowMax) _ ?_ y ?_
    rotate_left
    · have hh : (y 2).val / 128 = 0 ∨ (y 2).val / 128 = 1 ∨ (y 2).val / 128 = 2 ∨ (y 2).val / 128 = 3 := by omega
      rcases hh with hh | hh | hh | hh
      · exact ⟨_, List.mem_cons_of_mem _ (List.mem_cons_of_mem _ (List.mem_cons_of_mem _ (List.mem_cons_self))), mem_unit _ _ _ (k0_off16_inb k) (k0_off16_eq k) y fun a => by
          fin_cases a
          · show 0 ≤ (y 0).val ∧ (y 0).val < 0 + 1; omega
          · show 512 * k.val ≤ (y 1).val ∧ (y 1).val < 512 * k.val + 512; omega
          · show 0 ≤ (y 2).val ∧ (y 2).val < 0 + 128; omega⟩
      · exact ⟨_, List.mem_cons_of_mem _ (List.mem_cons_of_mem _ (List.mem_cons_self)), mem_unit _ _ _ (k0_off18_inb k) (k0_off18_eq k) y fun a => by
          fin_cases a
          · show 0 ≤ (y 0).val ∧ (y 0).val < 0 + 1; omega
          · show 512 * k.val ≤ (y 1).val ∧ (y 1).val < 512 * k.val + 512; omega
          · show 128 ≤ (y 2).val ∧ (y 2).val < 128 + 128; omega⟩
      · exact ⟨_, List.mem_cons_of_mem _ (List.mem_cons_self), mem_unit _ _ _ (k0_off20_inb k) (k0_off20_eq k) y fun a => by
          fin_cases a
          · show 0 ≤ (y 0).val ∧ (y 0).val < 0 + 1; omega
          · show 512 * k.val ≤ (y 1).val ∧ (y 1).val < 512 * k.val + 512; omega
          · show 256 ≤ (y 2).val ∧ (y 2).val < 256 + 128; omega⟩
      · exact ⟨_, List.mem_cons_self, mem_unit _ _ _ (k0_off22_inb k) (k0_off22_eq k) y fun a => by
          fin_cases a
          · show 0 ≤ (y 0).val ∧ (y 0).val < 0 + 1; omega
          · show 512 * k.val ≤ (y 1).val ∧ (y 1).val < 512 * k.val + 512; omega
          · show 384 ≤ (y 2).val ∧ (y 2).val < 384 + 128; omega⟩
    refine List.forall_mem_cons.2 ⟨fun x => ?_, ?_⟩
    · exact max_piece c arg12 arg13 arg14 f12 f13 f14 KB VB Q k.val (k.val % 2) hk hK hV hQ (Nat.mod_lt _ (by decide)) 3 _ (k0_off21_inb k) (off21_eq k) _ 384 rfl (k0_off22_eq k) _ x _ fun a => by fin_cases a <;> rfl
    refine List.forall_mem_cons.2 ⟨fun x => ?_, ?_⟩
    · exact max_piece c arg12 arg13 arg14 f12 f13 f14 KB VB Q k.val (k.val % 2) hk hK hV hQ (Nat.mod_lt _ (by decide)) 2 _ (k0_off19_inb k) (off19_eq k) _ 256 rfl (k0_off20_eq k) _ x _ fun a => by fin_cases a <;> rfl
    refine List.forall_mem_cons.2 ⟨fun x => ?_, ?_⟩
    · exact max_piece c arg12 arg13 arg14 f12 f13 f14 KB VB Q k.val (k.val % 2) hk hK hV hQ (Nat.mod_lt _ (by decide)) 1 _ (k0_off17_inb k) (off17_eq k) _ 128 rfl (k0_off18_eq k) _ x _ fun a => by fin_cases a <;> rfl
    refine List.forall_mem_cons.2 ⟨fun x => ?_, ?_⟩
    · exact max_piece c arg12 arg13 arg14 f12 f13 f14 KB VB Q k.val (k.val % 2) hk hK hV hQ (Nat.mod_lt _ (by decide)) 0 _ (k0_off15_inb k) (off15_eq k) _ 0 rfl (k0_off16_eq k) _ x _ fun a => by fin_cases a <;> rfl
    exact fun p hp => absurd hp List.not_mem_nil
  · rw [if_neg hy]
    refine View.read_writes_apply_of_forall_not_mem _ _ _ _ ?_
    refine List.forall_mem_cons.2 ⟨not_mem_unit _ _ _ (k0_off22_inb k) (k0_off22_eq k) y 1 (by show (y 1).val < 512 * k.val ∨ 512 * k.val + 512 ≤ (y 1).val; omega), ?_⟩
    refine List.forall_mem_cons.2 ⟨not_mem_unit _ _ _ (k0_off20_inb k) (k0_off20_eq k) y 1 (by show (y 1).val < 512 * k.val ∨ 512 * k.val + 512 ≤ (y 1).val; omega), ?_⟩
    refine List.forall_mem_cons.2 ⟨not_mem_unit _ _ _ (k0_off18_inb k) (k0_off18_eq k) y 1 (by show (y 1).val < 512 * k.val ∨ 512 * k.val + 512 ≤ (y 1).val; omega), ?_⟩
    refine List.forall_mem_cons.2 ⟨not_mem_unit _ _ _ (k0_off16_inb k) (k0_off16_eq k) y 1 (by show (y 1).val < 512 * k.val ∨ 512 * k.val + 512 ≤ (y 1).val; omega), ?_⟩
    exact fun p hp => absurd hp List.not_mem_nil

end

end Loop

end Cert.Mla
end
-- ==== Proof.MlaLoop.lean ====
/- What the body leaves in the result's block and in the query scratch. -/
module

public import proofs.«01_k».proof.Proof.MlaTile

@[expose] public section

set_option maxRecDepth 16384

noncomputable section

namespace Cert.Mla

open Idealize.ShloMosaic Idealize.ShloMosaic.TcCoe Idealize.ShloMosaic.Tactic
open Cert.Kernel3Ideal Cert.Kernel3Ideal.Gen

/-- The key scratch, the value scratch and the result's block, from what the read blocks hold. -/
def keyF (Z : FVec Ideal S1x2048x512 .bf16) (C S : FVec Ideal S2048x128 .f32) (gckv : FVec Ideal S1x128 .f32) (Wkv : FVec Ideal S128x1024 .bf16) (gk : FVec Ideal S3x128 .f32)
    (y : S4x2048x256.Idx) : EReal := keyAt Z C S gckv Wkv gk (y 0) (y 1) (y 2)
def valF (Z : FVec Ideal S1x2048x512 .bf16) (gckv : FVec Ideal S1x128 .f32) (Wkv : FVec Ideal S128x1024 .bf16) (y : S4x2048x256.Idx) : EReal :=
  if h : (y 2).val < 128 then valAt Z gckv Wkv (y 0) (y 1) ⟨(y 2).val, h⟩ else (1 : EReal)

/-- Whether the bound on the scores is small enough to shift by. -/
abbrev flag (gq gk : FVec Ideal S3x128 .f32) : BitVec 1 := Scalar.cmpf (F := Ideal) .ole (k0_pay148 (F := Ideal) gq gk) (Scalar.ofBits .f32 0x42700000#32)

/-- The shift of a row of scores: their bound, or where that is too large the largest of them. -/
def shiftOf (b : BitVec 1) (v : EReal) : (Fin 2048 → EReal) → EReal := if b = 1#1 then fun _ => v else rowMax

def blockF (Z : FVec Ideal S1x2048x512 .bf16) (C S : FVec Ideal S2048x128 .f32) (gcq : FVec Ideal S1x256 .f32) (Wq : FVec Ideal S256x1024 .bf16)
    (gckv : FVec Ideal S1x128 .f32) (Wkv : FVec Ideal S128x1024 .bf16) (gq gk : FVec Ideal S3x128 .f32) (y : S1x2048x512.Idx) : Elt Ideal .bf16 :=
  attY (keyF Z C S gckv Wkv gk) (valF Z gckv Wkv) (qryAt Z C S gcq Wq gq) (shiftOf (flag gq gk) (k0_pay148 (F := Ideal) gq gk)) y

theorem pay147_eq (g : Vec Ideal S3x128 .f32) : k0_pay147 (F := Ideal) g = g := by
  funext i
  have e : i = ix2 (i 0) (i 1) := funext fun a => by fin_cases a <;> rfl
  rw [e]
  pointwise [k0_pay147]

section Loop

variable (c : Dev nD) (i : grid0.Coords)
  (arg1 : Memref sig .tc .vmem S1x2048x512 .bf16) (harg1 : arg1.IsWhole)
  (arg2 : Memref sig .tc .vmem S1x2048x512 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x256 .f32) (harg5 : arg5.IsWhole)
  (arg6 : Memref sig .tc .vmem S256x1024 .bf16) (harg6 : arg6.IsWhole)
  (arg7 : Memref sig .tc .vmem S1x128 .f32) (harg7 : arg7.IsWhole)
  (arg8 : Memref sig .tc .vmem S128x1024 .bf16) (harg8 : arg8.IsWhole)
  (arg9 : Memref sig .tc .vmem S3x128 .f32) (harg9 : arg9.IsWhole)
  (arg10 : Memref sig .tc .vmem S3x128 .f32) (harg10 : arg10.IsWhole)
  (arg11 : Memref sig .tc .vmem S1x2048x512 .bf16) (harg11 : arg11.IsWhole)
  (arg12 : Memref sig .tc .vmem S4x2048x256 .bf16) (harg12 : arg12.IsWhole)
  (arg13 : Memref sig .tc .vmem S4x2048x256 .bf16) (harg13 : arg13.IsWhole)
  (arg14 : Memref sig .tc .vmem S2x4x512x256 .bf16) (harg14 : arg14.IsWhole)

variable (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ)))

theorem tileQ_at (n : ℕ) (hn : n < 4) (hk : 512 * n + 512 ≤ 2048) (y : S2x4x512x256.Idx) :
    tileQ c arg1 arg2 arg3 arg4 arg5 arg6 arg9 f1 f2 f3 f4 f5 f6 f9 n y = qryAt (bZ c arg1 f1) (bC c arg3 f3) (bS c arg4 f4) (bGcq c arg5 f5) (bWq c arg6 f6) (bGq c arg9 f9) (y 1) ⟨512 * n + (y 2).val, shift_lt hk (y 2)⟩ (y 3) := by
  unfold tileQ slotQ tileZ
  rw [if_neg (by omega)]
  congr 1
  apply Fin.ext
  show 512 * (n % 4) + (y 2).val = 512 * n + (y 2).val
  omega

set_option maxHeartbeats 1000000 in
/-- Before trip `n` the block holds the rows of the tiles done, and the query slot the tile to do. -/
theorem loop_holds (b : BitVec 1) (v62 : FVec Ideal S3x128 .f32) (e62 : v62 = bGq c arg9 f9) (v78 : EReal) (KB VB : S4x2048x256.Idx → EReal)
    (hK : ∀ y, arg12.view.read (Elt Ideal) f12 y = KB y) (hV : ∀ y, arg13.view.read (Elt Ideal) f13 y = VB y)
    (h0 : ∀ y : S2x4x512x256.Idx, (y 0).val = 0 → arg14.view.read (Elt Ideal) f14 y = tileQ c arg1 arg2 arg3 arg4 arg5 arg6 arg9 f1 f2 f3 f4 f5 f6 f9 0 y) (n : ℕ) (hn : n ≤ 4) :
    (∀ y : S1x2048x512.Idx, (y 1).val / 512 < n → arg11.view.read (Elt Ideal) ((st (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 v62 v78 b f1 f2 f3 f4 f5 f6 f12 f13 f11 f14 n).1) y
        = attY KB VB (qryAt (bZ c arg1 f1) (bC c arg3 f3) (bS c arg4 f4) (bGcq c arg5 f5) (bWq c arg6 f6) (bGq c arg9 f9)) (shiftOf b v78) y)
      ∧ ∀ y : S2x4x512x256.Idx, (y 0).val = n % 2 → arg14.view.read (Elt Ideal) ((st (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 v62 v78 b f1 f2 f3 f4 f5 f6 f12 f13 f11 f14 n).2) y = tileQ c arg1 arg2 arg3 arg4 arg5 arg6 arg9 f1 f2 f3 f4 f5 f6 f9 n y := by
  subst e62
  induction n with
  | zero => exact ⟨fun y hy => absurd hy (Nat.not_lt_zero _), h0⟩
  | succ n ih =>
    obtain ⟨ih1, ih2⟩ := ih (by omega)
    have hlt : n < k0_t1_loop.trips := by show n < 4; omega
    have hk : 512 * n + 512 ≤ 2048 := by omega
    have hQ : ∀ y : S2x4x512x256.Idx, (y 0).val = n % 2 → arg14.view.read (Elt Ideal) ((st (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 (bGq c arg9 f9) v78 b f1 f2 f3 f4 f5 f6 f12 f13 f11 f14 n).2) y
        = qryAt (bZ c arg1 f1) (bC c arg3 f3) (bS c arg4 f4) (bGcq c arg5 f5) (bWq c arg6 f6) (bGq c arg9 f9) (y 1) ⟨512 * n + (y 2).val, shift_lt hk (y 2)⟩ (y 3) :=
      fun y hy => (ih2 y hy).trans (tileQ_at c arg1 arg2 arg3 arg4 arg5 arg6 arg9 f1 f2 f3 f4 f5 f6 f9 n (by omega) hk y)
    have hs := st_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 ones2 (bGq c arg9 f9) v78 b f1 f2 f3 f4 f5 f6 f12 f13 f11 f14 ⟨n, hlt⟩
    rw [hs]
    dsimp only
    by_cases hb : b = 1#1
    · subst hb
      simp only [L11, L14, if_true]
      refine ⟨fun y hy => ?_, fun y hy => safe_query c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f9 f12 f13 _ ⟨n, hlt⟩ v78 y hy⟩
      refine (safe_out c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 _ f12 f13 _ ⟨n, hlt⟩ ones2 (bGq c arg9 f9) v78 KB VB _ hk hK hV hQ y).trans ?_
      rw [shiftOf, if_pos rfl]
      by_cases e : (y 1).val / 512 = n
      · rw [if_pos e]
      · rw [if_neg e]
        exact (ih1 y (by omega)).trans (by rw [shiftOf, if_pos rfl])
    · simp only [L11, L14, if_neg hb]
      refine ⟨fun y hy => ?_, fun y hy => max_query c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f9 f12 f13 _ ⟨n, hlt⟩ v78 y hy⟩
      refine (max_out c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 _ f12 f13 _ ⟨n, hlt⟩ ones2 (bGq c arg9 f9) v78 KB VB _ hk hK hV hQ y).trans ?_
      rw [shiftOf, if_neg hb]
      by_cases e : (y 1).val / 512 = n
      · rw [if_pos e]
      · rw [if_neg e]
        exact (ih1 y (by omega)).trans (by rw [shiftOf, if_neg hb])

abbrev fstZ : Vec Ideal S1x512x256 .bf16 := View.readAt (Elt Ideal) arg1.view (Rect.unit (s := S1x2048x512) ![0, 0, 0] S1x512x256.size inb_S1x2048x512_S1x512x256_0_0_0).toLoadRect f1
abbrev fstC : Vec Ideal S512x128 .f32 := View.readAt (Elt Ideal) arg3.view (Rect.unit (s := S2048x128) ![0, 0] S512x128.size inb_S2048x128_S512x128_0_0).toLoadRect f3
abbrev fstS : Vec Ideal S512x128 .f32 := View.readAt (Elt Ideal) arg4.view (Rect.unit (s := S2048x128) ![0, 0] S512x128.size inb_S2048x128_S512x128_0_0).toLoadRect f4

theorem fstC_at (b : Fin 512) (x : Fin 128) : fstC c arg3 f3 (ix2 b x) = bC c arg3 f3 (ix2 ⟨512 * (0 % 4) + b, shift_lt (tile_le 0) b⟩ x) :=
  View.ld_unit_apply_of _ _ _ _ _ _ fun a => by fin_cases a <;> first | rfl | exact (Nat.zero_add _).symm
theorem fstS_at (b : Fin 512) (x : Fin 128) : fstS c arg4 f4 (ix2 b x) = bS c arg4 f4 (ix2 ⟨512 * (0 % 4) + b, shift_lt (tile_le 0) b⟩ x) :=
  View.ld_unit_apply_of _ _ _ _ _ _ fun a => by fin_cases a <;> first | rfl | exact (Nat.zero_add _).symm
theorem fstZ_at (b : Fin 512) (x : Fin 256) : fstZ c arg1 f1 (ix3 0 b x) = tileZ c arg1 arg2 f1 f2 0 (ix3 0 ⟨512 * (0 % 4) + b, shift_lt (tile_le 0) b⟩ ⟨x, at256q x⟩) :=
  View.ld_unit_apply_of _ _ _ _ _ _ fun a => by fin_cases a <;> first | rfl | exact (Nat.zero_add _).symm

theorem fst_q0 (x : S1x1x512x256.Idx) (y : S2x4x512x256.Idx) (hy : ∀ a, (y a).val = (![0, 0, 0, 0] : Fin 4 → ℕ) a + 1 * (x a).val) :
    tile0 (k0_pay147 (gains9 c arg9 f9)) (k0_pay68 (k0_pay147 (gains9 c arg9 f9)) (fstC c arg3 f3)) (k0_pay69 (k0_pay147 (gains9 c arg9 f9)) (fstS c arg4 f4))
        (k0_pay67 (fstZ c arg1 f1) (safeG c arg5 f5) (safeW c arg6 f6)) x
      = tileQ c arg1 arg2 arg3 arg4 arg5 arg6 arg9 f1 f2 f3 f4 f5 f6 f9 0 y := by
  rw [pay147_eq, gains9_eq, safeG_eq, safeW_eq]
  exact qtile0 _ _ _ _ _ _ _ _ _ _ (tile_le 0) (fstZ_at c arg1 arg2 f1 f2) (fstC_at c arg3 f3) (fstS_at c arg4 f4) 0 _ rfl x y hy

theorem fst_q1 (x : S1x1x512x256.Idx) (y : S2x4x512x256.Idx) (hy : ∀ a, (y a).val = (![0, 1, 0, 0] : Fin 4 → ℕ) a + 1 * (x a).val) :
    tile1 (k0_pay147 (gains9 c arg9 f9)) (k0_pay68 (k0_pay147 (gains9 c arg9 f9)) (fstC c arg3 f3)) (k0_pay69 (k0_pay147 (gains9 c arg9 f9)) (fstS c arg4 f4))
        (k0_pay67 (fstZ c arg1 f1) (safeG c arg5 f5) (safeW c arg6 f6)) x
      = tileQ c arg1 arg2 arg3 arg4 arg5 arg6 arg9 f1 f2 f3 f4 f5 f6 f9 0 y := by
  rw [pay147_eq, gains9_eq, safeG_eq, safeW_eq]
  exact qtile1 _ _ _ _ _ _ _ _ _ _ (tile_le 0) (fstZ_at c arg1 arg2 f1 f2) (fstC_at c arg3 f3) (fstS_at c arg4 f4) 0 _ rfl x y hy

theorem fst_q2 (x : S1x1x512x256.Idx) (y : S2x4x512x256.Idx) (hy : ∀ a, (y a).val = (![0, 2, 0, 0] : Fin 4 → ℕ) a + 1 * (x a).val) :
    tile2 (k0_pay147 (gains9 c arg9 f9)) (k0_pay68 (k0_pay147 (gains9 c arg9 f9)) (fstC c arg3 f3)) (k0_pay69 (k0_pay147 (gains9 c arg9 f9)) (fstS c arg4 f4))
        (k0_pay67 (fstZ c arg1 f1) (safeG c arg5 f5) (safeW c arg6 f6)) x
      = tileQ c arg1 arg2 arg3 arg4 arg5 arg6 arg9 f1 f2 f3 f4 f5 f6 f9 0 y := by
  rw [pay147_eq, gains9_eq, safeG_eq, safeW_eq]
  exact qtile2 _ _ _ _ _ _ _ _ _ _ (tile_le 0) (fstZ_at c arg1 arg2 f1 f2) (fstC_at c arg3 f3) (fstS_at c arg4 f4) 0 _ rfl x y hy

theorem fst_q3 (x : S1x1x512x256.Idx) (y : S2x4x512x256.Idx) (hy : ∀ a, (y a).val = (![0, 3, 0, 0] : Fin 4 → ℕ) a + 1 * (x a).val) :
    tile3 (k0_pay147 (gains9 c arg9 f9)) (k0_pay68 (k0_pay147 (gains9 c arg9 f9)) (fstC c arg3 f3)) (k0_pay69 (k0_pay147 (gains9 c arg9 f9)) (fstS c arg4 f4))
        (k0_pay67 (fstZ c arg1 f1) (safeG c arg5 f5) (safeW c arg6 f6)) x
      = tileQ c arg1 arg2 arg3 arg4 arg5 arg6 arg9 f1 f2 f3 f4 f5 f6 f9 0 y := by
  rw [pay147_eq, gains9_eq, safeG_eq, safeW_eq]
  exact qtile3 _ _ _ _ _ _ _ _ _ _ (tile_le 0) (fstZ_at c arg1 arg2 f1 f2) (fstC_at c arg3 f3) (fstS_at c arg4 f4) 0 _ rfl x y hy

set_option maxHeartbeats 2000000 in
theorem first_query (h1 : Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : k0_cond3 i = 1#1) (y : S2x4x512x256.Idx) (hy0 : (y 0).val = 0) :
    arg14.view.read (Elt Ideal) (arg14.view.writes (Elt Ideal) f14 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) y = tileQ c arg1 arg2 arg3 arg4 arg5 arg6 arg9 f1 f2 f3 f4 f5 f6 f9 0 y := by
  have b1 : (y 1).val < 4 := (y 1).isLt
  have b2 : (y 2).val < 512 := (y 2).isLt
  have b3 : (y 3).val < 256 := (y 3).isLt
  unfold preFirst
  dsimp only
  refine View.read_writes_apply_of_pieces _ _ (tileQ c arg1 arg2 arg3 arg4 arg5 arg6 arg9 f1 f2 f3 f4 f5 f6 f9 0) _ ?_ y ?_
  refine List.forall_mem_cons.2 ⟨fun x => ?_, ?_⟩
  · exact fst_q3 c arg1 arg2 arg3 arg4 arg5 arg6 arg9 f1 f2 f3 f4 f5 f6 f9 x _ fun a => by fin_cases a <;> rfl
  refine List.forall_mem_cons.2 ⟨fun x => ?_, ?_⟩
  · exact fst_q2 c arg1 arg2 arg3 arg4 arg5 arg6 arg9 f1 f2 f3 f4 f5 f6 f9 x _ fun a => by fin_cases a <;> rfl
  refine List.forall_mem_cons.2 ⟨fun x => ?_, ?_⟩
  · exact fst_q1 c arg1 arg2 arg3 arg4 arg5 arg6 arg9 f1 f2 f3 f4 f5 f6 f9 x _ fun a => by fin_cases a <;> rfl
  refine List.forall_mem_cons.2 ⟨fun x => ?_, ?_⟩
  · exact fst_q0 c arg1 arg2 arg3 arg4 arg5 arg6 arg9 f1 f2 f3 f4 f5 f6 f9 x _ fun a => by fin_cases a <;> rfl
  exact fun p hp => absurd hp List.not_mem_nil
  have hh : (y 1).val = 0 ∨ (y 1).val = 1 ∨ (y 1).val = 2 ∨ (y 1).val = 3 := by omega
  rcases hh with hh | hh | hh | hh
  · exact ⟨_, List.mem_cons_of_mem _ (List.mem_cons_of_mem _ (List.mem_cons_of_mem _ (List.mem_cons_self))), mem_unit _ _ _ inb_S2x4x512x256_S1x1x512x256_0_0_0_0 rfl y fun a => by
      fin_cases a
      · show 0 ≤ (y 0).val ∧ (y 0).val < 0 + 1; omega
      · show 0 ≤ (y 1).val ∧ (y 1).val < 0 + 1; omega
      · show 0 ≤ (y 2).val ∧ (y 2).val < 0 + 512; omega
      · show 0 ≤ (y 3).val ∧ (y 3).val < 0 + 256; omega⟩
  · exact ⟨_, List.mem_cons_of_mem _ (List.mem_cons_of_mem _ (List.mem_cons_self)), mem_unit _ _ _ inb_S2x4x512x256_S1x1x512x256_0_1_0_0 rfl y fun a => by
      fin_cases a
      · show 0 ≤ (y 0).val ∧ (y 0).val < 0 + 1; omega
      · show 1 ≤ (y 1).val ∧ (y 1).val < 1 + 1; omega
      · show 0 ≤ (y 2).val ∧ (y 2).val < 0 + 512; omega
      · show 0 ≤ (y 3).val ∧ (y 3).val < 0 + 256; omega⟩
  · exact ⟨_, List.mem_cons_of_mem _ (List.mem_cons_self), mem_unit _ _ _ inb_S2x4x512x256_S1x1x512x256_0_2_0_0 rfl y fun a => by
      fin_cases a
      · show 0 ≤ (y 0).val ∧ (y 0).val < 0 + 1; omega
      · show 2 ≤ (y 1).val ∧ (y 1).val < 2 + 1; omega
      · show 0 ≤ (y 2).val ∧ (y 2).val < 0 + 512; omega
      · show 0 ≤ (y 3).val ∧ (y 3).val < 0 + 256; omega⟩
  · exact ⟨_, List.mem_cons_self, mem_unit _ _ _ inb_S2x4x512x256_S1x1x512x256_0_3_0_0 rfl y fun a => by
      fin_cases a
      · show 0 ≤ (y 0).val ∧ (y 0).val < 0 + 1; omega
      · show 3 ≤ (y 1).val ∧ (y 1).val < 3 + 1; omega
      · show 0 ≤ (y 2).val ∧ (y 2).val < 0 + 512; omega
      · show 0 ≤ (y 3).val ∧ (y 3).val < 0 + 256; omega⟩

/-- What the first grid point leaves in the result's block and in the query scratch. -/
theorem first_holds (h1 : Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : k0_cond3 i = 1#1) :
    (∀ y, arg11.view.read (Elt Ideal) (st (F := Ideal) c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := Ideal) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt Ideal) f12 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) f11 (arg14.view.writes (Elt Ideal) f14 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) k0_t1_loop.trips).1 y = blockF (bZ c arg1 f1) (bC c arg3 f3) (bS c arg4 f4) (bGcq c arg5 f5) (bWq c arg6 f6) (bGckv c arg7 f7) (bWkv c arg8 f8) (bGq c arg9 f9) (bGk c arg10 f10) y)
      ∧ (∀ y : S2x4x512x256.Idx, (y 0).val = 0 → arg14.view.read (Elt Ideal) (st (F := Ideal) c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := Ideal) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt Ideal) f12 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) f11 (arg14.view.writes (Elt Ideal) f14 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) k0_t1_loop.trips).2 y = tileQ c arg1 arg2 arg3 arg4 arg5 arg6 arg9 f1 f2 f3 f4 f5 f6 f9 4 y)
      ∧ ∀ y : S4x2048x256.Idx, ¬ (y 2).val < 128 → arg13.view.read (Elt Ideal) (arg13.view.writes (Elt Ideal) f13 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) y = 1 := by
  have hv := first_vals c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 h1 h2 h3
  have := loop_holds c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f9 f11 (arg12.view.writes (Elt Ideal) f12 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.2.1) (arg14.view.writes (Elt Ideal) f14 (preFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1)
    (flag (gains9 c arg9 f9) (gains10 c arg10 f10)) (k0_pay147 (gains9 c arg9 f9)) ((pay147_eq _).trans (gains9_eq c arg9 f9)) (k0_pay148 (F := Ideal) (gains9 c arg9 f9) (gains10 c arg10 f10)) (keyBuf c arg1 arg3 arg4 arg7 arg8 arg10 f1 f3 f4 f7 f8 f10) (valBuf c arg1 arg7 arg8 f1 f7 f8)
    (first_keys c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 h1 h2 h3) hv (first_query c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 h1 h2 h3) 4 le_rfl
  refine ⟨fun y => ?_, fun y hy => ?_, fun y hy => (hv y).trans (by unfold valBuf; rw [dif_neg hy])⟩
  · refine (this.1 y (by have : (y 1).val < 2048 := (y 1).isLt; omega)).trans ?_
    rw [gains9_eq, gains10_eq]
    rfl
  · exact this.2 y hy

/-- What the later grid points leave in the result's block and in the query scratch. -/
theorem next_holds (h1 : ¬ Scalar.cmpi .ne (Scalar.extui (Scalar.cmpi .eq (BitVec.ofNat 32 (i 0).val) 0#32) : BitVec 32) 0#32 = 1#1) (h2 : Scalar.cmpi .ne (Scalar.extui (Scalar.cmpi .sge (BitVec.ofNat 32 (i 0).val) 0#32) : BitVec 32) 0#32 = 1#1) (h3 : ¬ k0_cond3 i = 1#1)
    (hf : ∀ y : S4x2048x256.Idx, ¬ (y 2).val < 128 → arg13.view.read (Elt Ideal) f13 y = 1)
    (h0 : ∀ y : S2x4x512x256.Idx, (y 0).val = 0 → arg14.view.read (Elt Ideal) f14 y = tileQ c arg1 arg2 arg3 arg4 arg5 arg6 arg9 f1 f2 f3 f4 f5 f6 f9 0 y) :
    (∀ y, arg11.view.read (Elt Ideal) (st (F := Ideal) c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := Ideal) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt Ideal) f12 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f11 f14 k0_t1_loop.trips).1 y = blockF (bZ c arg1 f1) (bC c arg3 f3) (bS c arg4 f4) (bGcq c arg5 f5) (bWq c arg6 f6) (bGckv c arg7 f7) (bWkv c arg8 f8) (bGq c arg9 f9) (bGk c arg10 f10) y)
      ∧ (∀ y : S2x4x512x256.Idx, (y 0).val = 0 → arg14.view.read (Elt Ideal) (st (F := Ideal) c i arg1 harg1 arg2 harg2 arg3 harg3 arg4 harg4 arg5 harg5 arg6 harg6 arg7 harg7 arg8 harg8 arg9 harg9 arg10 harg10 arg11 harg11 arg12 harg12 arg13 harg13 arg14 harg14 (k0_pay141 (F := Ideal) k0_pay137 k0_pay138 k0_pay139 k0_pay140) (k0_pay147 (gains9 c arg9 f9)) (k0_pay148 (gains9 c arg9 f9) (gains10 c arg10 f10)) (Scalar.cmpf .ole (k0_pay148 (gains9 c arg9 f9) (gains10 c arg10 f10)) (Scalar.ofBits .f32 0x42700000#32)) f1 f2 f3 f4 f5 f6 (arg12.view.writes (Elt Ideal) f12 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f11 f14 k0_t1_loop.trips).2 y = tileQ c arg1 arg2 arg3 arg4 arg5 arg6 arg9 f1 f2 f3 f4 f5 f6 f9 4 y)
      ∧ ∀ y : S4x2048x256.Idx, ¬ (y 2).val < 128 → arg13.view.read (Elt Ideal) (arg13.view.writes (Elt Ideal) f13 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) y = 1 := by
  have hv := next_vals c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 h1 h2 h3 hf
  have := loop_holds c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f9 f11 (arg12.view.writes (Elt Ideal) f12 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).1) (arg13.view.writes (Elt Ideal) f13 (preNext (F := Ideal) c i arg1 harg1 arg2 harg2 arg3 harg3 arg4 harg4 arg5 harg5 arg6 harg6 arg7 harg7 arg8 harg8 arg9 harg9 arg10 harg10 arg11 harg11 arg12 harg12 arg13 harg13 arg14 harg14 h1 h2 h3 f1 f2 f3 f4 f5 f6 f7 f8 f9 f10 f11 f12 f13 f14).2.1) f14
    (flag (gains9 c arg9 f9) (gains10 c arg10 f10)) (k0_pay147 (gains9 c arg9 f9)) ((pay147_eq _).trans (gains9_eq c arg9 f9)) (k0_pay148 (F := Ideal) (gains9 c arg9 f9) (gains10 c arg10 f10)) (keyBuf c arg1 arg3 arg4 arg7 arg8 arg10 f1 f3 f4 f7 f8 f10) (valBuf c arg1 arg7 arg8 f1 f7 f8)
    (next_keys c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 h1 h2 h3) hv (h0) 4 le_rfl
  refine ⟨fun y => ?_, fun y hy => ?_, fun y hy => (hv y).trans (by unfold valBuf; rw [dif_neg hy])⟩
  · refine (this.1 y (by have : (y 1).val < 2048 := (y 1).isLt; omega)).trans ?_
    rw [gains9_eq, gains10_eq]
    rfl
  · exact this.2 y hy

end Loop

end Cert.Mla
end
-- ==== Proof.MlaFinal.lean ====
/- The attention call's launch, with what each grid point leaves in the result and in the scratch buffers. -/
module

public import proofs.«01_k».proof.Proof.MlaFrame
public import proofs.«01_k».proof.Proof.MlaLoop
public import Idealize.ShloMosaic.Lib.Claim

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel3Ideal Cert.Kernel3Ideal.Gen

local notation "𝕄" => MT nD τ sig Unit (Elt Ideal) ℕ (UR sig nD τ) ℕ

/-- The windows' block indices. -/
theorem idx : ∀ t : Fin cfg0.N, win0_0.index t = ![t.val, 0, 0] ∧ win0_1.index t = ![min (t.val + 1) 31, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val, 0, 0] ∧ t.val < 32 ∧ ((grid0.coords t) 0).val = t.val :=
  (by decide +kernel : ∀ t : Fin grid0.N, win0_0.index t = ![t.val, 0, 0] ∧ win0_1.index t = ![min (t.val + 1) 31, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val, 0, 0] ∧ t.val < 32 ∧ ((grid0.coords t) 0).val = t.val)

variable (m : (ℓ : Loc nD τ sig) → Buf (Elt Ideal) ℓ) (ρ : Dev nD → PrngReg)

abbrev kZ (c : Dev nD) (t : Fin cfg0.N) : FVec Ideal S1x2048x512 .bf16 := iblk m c 0 t
abbrev kZn (c : Dev nD) (t : Fin cfg0.N) : FVec Ideal S1x2048x512 .bf16 := iblk m c 1 t
abbrev kC (c : Dev nD) (t : Fin cfg0.N) : FVec Ideal S2048x128 .f32 := iblk m c 2 t
abbrev kS (c : Dev nD) (t : Fin cfg0.N) : FVec Ideal S2048x128 .f32 := iblk m c 3 t
abbrev kGcq (c : Dev nD) (t : Fin cfg0.N) : FVec Ideal S1x256 .f32 := iblk m c 4 t
abbrev kWq (c : Dev nD) (t : Fin cfg0.N) : FVec Ideal S256x1024 .bf16 := iblk m c 5 t
abbrev kGckv (c : Dev nD) (t : Fin cfg0.N) : FVec Ideal S1x128 .f32 := iblk m c 6 t
abbrev kWkv (c : Dev nD) (t : Fin cfg0.N) : FVec Ideal S128x1024 .bf16 := iblk m c 7 t
abbrev kGq (c : Dev nD) (t : Fin cfg0.N) : FVec Ideal S3x128 .f32 := iblk m c 8 t
abbrev kGk (c : Dev nD) (t : Fin cfg0.N) : FVec Ideal S3x128 .f32 := iblk m c 9 t

/-- The block window 1 reads is the next one of window 0; the tables, weights and gains stay. -/
theorem next_Z (c : Dev nD) (t t' : Fin cfg0.N) (h : t'.val = t.val + 1) : kZn m c t = kZ m c t' := by
  have h' := (idx t').2.2.2.2.2.2.2.2.2.2.2.1
  funext y
  blk_simp [iblk, idx t, idx t']
  blk_ext [idx t, idx t']
theorem same_C (c : Dev nD) (t t' : Fin cfg0.N) : kC m c t = kC m c t' := by
  funext y
  blk_simp [iblk, idx t, idx t']
  blk_ext [idx t, idx t']
theorem same_S (c : Dev nD) (t t' : Fin cfg0.N) : kS m c t = kS m c t' := by
  funext y
  blk_simp [iblk, idx t, idx t']
  blk_ext [idx t, idx t']
theorem same_Gcq (c : Dev nD) (t t' : Fin cfg0.N) : kGcq m c t = kGcq m c t' := by
  funext y
  blk_simp [iblk, idx t, idx t']
  blk_ext [idx t, idx t']
theorem same_Wq (c : Dev nD) (t t' : Fin cfg0.N) : kWq m c t = kWq m c t' := by
  funext y
  blk_simp [iblk, idx t, idx t']
  blk_ext [idx t, idx t']
theorem same_Gq (c : Dev nD) (t t' : Fin cfg0.N) : kGq m c t = kGq m c t' := by
  funext y
  blk_simp [iblk, idx t, idx t']
  blk_ext [idx t, idx t']

/-- What the scratch buffers hold when grid point `k` starts: nothing is known before the first; later the value scratch's upper half is one, and the query scratch's
first slot holds the queries of the block's first tile. -/
def onesAt (k : ℕ) (d : S4x2048x256.Idx → EReal) : Prop := 0 < k → ∀ y : S4x2048x256.Idx, ¬ (y 2).val < 128 → d y = 1
def slotAt (c : Dev nD) (k : ℕ) (d : S2x4x512x256.Idx → EReal) : Prop :=
  ∀ t : Fin cfg0.N, t.val = k → 0 < k → ∀ y : S2x4x512x256.Idx, (y 0).val = 0 →
    d y = slotQ (kZ m c t) (kC m c t) (kS m c t) (kGcq m c t) (kWq m c t) (kGq m c t) 0 (by decide) y

def PhiV (c : Dev nD) (k : ℕ) : sProp 𝕄 :=
  iprop(((∃ d, owns (c : Thread nD τ) scM0 fullShare d) ∗ (∃ d, ⌜onesAt k d⌝ ∗ owns (c : Thread nD τ) scM1 fullShare d) ∗ (∃ d, ⌜slotAt m c k d⌝ ∗ owns (c : Thread nD τ) scM2 fullShare d)) ∗ ∃ r, prngReg c r)

def outBlk (c : Dev nD) (t : Fin cfg0.N) : S1x2048x512.Idx → Elt Ideal .bf16 :=
  blockF (kZ m c t) (kC m c t) (kS m c t) (kGcq m c t) (kWq m c t) (kGckv m c t) (kWkv m c t) (kGq m c t) (kGk m c t)

/-- The proof data of the run. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ k := PhiV m c k.val
  q w := Pipeline.shareOf spec0 w
  owed _ := 0

theorem dats_A (c : Dev nD) (w : Fin cfg0.W) : (dats m 0 c).A w = V m c (Pipeline.arrRef spec0 w) := by dsimp only [dats]
theorem vafter_0 (c : Dev nD) (t : Fin cfg0.N) : (dats m 0 c).after 0 t = iblk m c 0 t := by dsimp only [dats]
theorem vafter_1 (c : Dev nD) (t : Fin cfg0.N) : (dats m 0 c).after 1 t = iblk m c 1 t := by dsimp only [dats]
theorem vafter_2 (c : Dev nD) (t : Fin cfg0.N) : (dats m 0 c).after 2 t = iblk m c 2 t := by dsimp only [dats]
theorem vafter_3 (c : Dev nD) (t : Fin cfg0.N) : (dats m 0 c).after 3 t = iblk m c 3 t := by dsimp only [dats]
theorem vafter_4 (c : Dev nD) (t : Fin cfg0.N) : (dats m 0 c).after 4 t = iblk m c 4 t := by dsimp only [dats]
theorem vafter_5 (c : Dev nD) (t : Fin cfg0.N) : (dats m 0 c).after 5 t = iblk m c 5 t := by dsimp only [dats]
theorem vafter_6 (c : Dev nD) (t : Fin cfg0.N) : (dats m 0 c).after 6 t = iblk m c 6 t := by dsimp only [dats]
theorem vafter_7 (c : Dev nD) (t : Fin cfg0.N) : (dats m 0 c).after 7 t = iblk m c 7 t := by dsimp only [dats]
theorem vafter_8 (c : Dev nD) (t : Fin cfg0.N) : (dats m 0 c).after 8 t = iblk m c 8 t := by dsimp only [dats]
theorem vafter_9 (c : Dev nD) (t : Fin cfg0.N) : (dats m 0 c).after 9 t = iblk m c 9 t := by dsimp only [dats]
theorem vbefore_0 (c : Dev nD) (t : Fin cfg0.N) (d) : (dats m 0 c).before 0 t d = iblk m c 0 t :=
  before0_0_of m (dats m 0 c) (dats_A m c 0) (vafter_0 m c) t d
theorem vbefore_1 (c : Dev nD) (t : Fin cfg0.N) (d) : (dats m 0 c).before 1 t d = iblk m c 1 t :=
  before0_1_of m (dats m 0 c) (dats_A m c 1) (vafter_1 m c) t d
theorem vbefore_2 (c : Dev nD) (t : Fin cfg0.N) (d) : (dats m 0 c).before 2 t d = iblk m c 2 t :=
  before0_2_of m (dats m 0 c) (dats_A m c 2) (vafter_2 m c) t d
theorem vbefore_3 (c : Dev nD) (t : Fin cfg0.N) (d) : (dats m 0 c).before 3 t d = iblk m c 3 t :=
  before0_3_of m (dats m 0 c) (dats_A m c 3) (vafter_3 m c) t d
theorem vbefore_4 (c : Dev nD) (t : Fin cfg0.N) (d) : (dats m 0 c).before 4 t d = iblk m c 4 t :=
  before0_4_of m (dats m 0 c) (dats_A m c 4) (vafter_4 m c) t d
theorem vbefore_5 (c : Dev nD) (t : Fin cfg0.N) (d) : (dats m 0 c).before 5 t d = iblk m c 5 t :=
  before0_5_of m (dats m 0 c) (dats_A m c 5) (vafter_5 m c) t d
theorem vbefore_6 (c : Dev nD) (t : Fin cfg0.N) (d) : (dats m 0 c).before 6 t d = iblk m c 6 t :=
  before0_6_of m (dats m 0 c) (dats_A m c 6) (vafter_6 m c) t d
theorem vbefore_7 (c : Dev nD) (t : Fin cfg0.N) (d) : (dats m 0 c).before 7 t d = iblk m c 7 t :=
  before0_7_of m (dats m 0 c) (dats_A m c 7) (vafter_7 m c) t d
theorem vbefore_8 (c : Dev nD) (t : Fin cfg0.N) (d) : (dats m 0 c).before 8 t d = iblk m c 8 t :=
  before0_8_of m (dats m 0 c) (dats_A m c 8) (vafter_8 m c) t d
theorem vbefore_9 (c : Dev nD) (t : Fin cfg0.N) (d) : (dats m 0 c).before 9 t d = iblk m c 9 t :=
  before0_9_of m (dats m 0 c) (dats_A m c 9) (vafter_9 m c) t d
theorem vafter_10 (c : Dev nD) (t : Fin cfg0.N) : (dats m 0 c).after 10 t = outBlk m c t := by dsimp only [dats]

def vPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def vPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any grid point. -/
theorem v_body (c : Dev nD) (t : Fin cfg0.N) :
    vPre m c t ⊢ wp frame (wpE (defs₀ (F := Ideal)) Variants.none c none) Set.univ (bodyAt0 t) (fun _ => vPost m c t) := by
  unfold vPre vPost bodyAt0
  simp only [vbefore_0, vbefore_1, vbefore_2, vbefore_3, vbefore_4, vbefore_5, vbefore_6, vbefore_7, vbefore_8, vbefore_9]
  rw [show (dats m 0 c).owesAt () t.succ = (dats m 0 c).owesAt () t.castSucc from rfl,
    vafter_0, vafter_1, vafter_2, vafter_3, vafter_4, vafter_5, vafter_6, vafter_7, vafter_8, vafter_9, vafter_10]
  rw [show (dats m 0 c).Φ t.castSucc = PhiV m c t.val from rfl, show (dats m 0 c).Φ t.succ = PhiV m c (t.val + 1) from rfl]
  unfold PhiV
  unfold owns
  iintro ⟨⟨⟨⟨%d12, %f12, -, H12⟩, ⟨%d13, %h13, %f13, %e13, H13⟩, ⟨%d14, %h14, %f14, %e14, H14⟩⟩, Hg⟩, Ho, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, -, H11⟩⟩
  by_cases h0 : ((grid0.coords t) 0).val = 0
  · have hc1 := (first_eq_iff (grid0.coords t)).mpr h0
    have hc3 := (first_cond_iff (grid0.coords t)).mpr h0
    have hv := first_holds c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) f1 f2 f3 f4 f5 f6 f7 f8 f9 f10 f11 f12 f13 f14 hc1 (first_sge _) hc3
    have hout := hv.1
    have hslot := hv.2.1
    have hones := hv.2.2
    clear hv
    iapply (wp_use (runFirst c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) hc1 (first_sge _) hc3 f1 f2 f3 f4 f5 f6 f7 f8 f9 f10 f11 f12 f13 f14))
    isplitl [H1 H2 H3 H4 H5 H6 H7 H8 H9 H10 H12 H13 H14 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      iexact H11
    iintro %_ ⟨H1, H2, H3, H4, H5, H6, H7, H8, H9, H10, H12, H13, H14, H11⟩
    isplitl [H12 H13 H14 Hg]
    · isplitl [H12 H13 H14]
      · isplitl [H12]
        · iexists _; iexists _; isplitr
          swap; · iexact H12
          ipureintro; rfl
        isplitl [H13]
        · iexists _; isplitr
          swap
          · iexists _; isplitr
            swap; · iexact H13
            ipureintro; rfl
          ipureintro; exact fun _ y hy => hones y hy
        iexists _; isplitr
        swap
        · iexists _; isplitr
          swap; · iexact H14
          ipureintro; rfl
        ipureintro
        intro t' ht' _ y hy
        refine (hslot y hy).trans ?_
        unfold tileQ tileZ
        rw [if_pos rfl, ← next_Z m c t t' ht', ← same_C m c t t', ← same_S m c t t', ← same_Gcq m c t t', ← same_Wq m c t t', ← same_Gq m c t t',
          show kZn m c t = _ from h2.symm, show kC m c t = _ from h3.symm, show kS m c t = _ from h4.symm, show kGcq m c t = _ from h5.symm, show kWq m c t = _ from h6.symm, show kGq m c t = _ from h9.symm]
        rfl
      iexact Hg
    isplitl [Ho]; · iexact Ho
    isplitl [H1]
    · iexists f1; isplitr
      swap; · iexact H1
      ipureintro; exact h1
    isplitl [H2]
    · iexists f2; isplitr
      swap; · iexact H2
      ipureintro; exact h2
    isplitl [H3]
    · iexists f3; isplitr
      swap; · iexact H3
      ipureintro; exact h3
    isplitl [H4]
    · iexists f4; isplitr
      swap; · iexact H4
      ipureintro; exact h4
    isplitl [H5]
    · iexists f5; isplitr
      swap; · iexact H5
      ipureintro; exact h5
    isplitl [H6]
    · iexists f6; isplitr
      swap; · iexact H6
      ipureintro; exact h6
    isplitl [H7]
    · iexists f7; isplitr
      swap; · iexact H7
      ipureintro; exact h7
    isplitl [H8]
    · iexists f8; isplitr
      swap; · iexact H8
      ipureintro; exact h8
    isplitl [H9]
    · iexists f9; isplitr
      swap; · iexact H9
      ipureintro; exact h9
    isplitl [H10]
    · iexists f10; isplitr
      swap; · iexact H10
      ipureintro; exact h10
    iexists _; isplitr
    swap; · iexact H11
    ipureintro
    funext y
    refine (hout y).trans ?_
    unfold outBlk
    rw [show kZ m c t = _ from h1.symm, show kC m c t = _ from h3.symm, show kS m c t = _ from h4.symm, show kGcq m c t = _ from h5.symm, show kWq m c t = _ from h6.symm,
      show kGckv m c t = _ from h7.symm, show kWkv m c t = _ from h8.symm, show kGq m c t = _ from h9.symm, show kGk m c t = _ from h10.symm]
    rfl
  · have hc1 := mt (first_eq_iff (grid0.coords t)).mp h0
    have hc3 := mt (first_cond_iff (grid0.coords t)).mp h0
    have hpos : 0 < t.val := by have := (idx t).2.2.2.2.2.2.2.2.2.2.2.2; omega
    have hv := next_holds c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) f1 f2 f3 f4 f5 f6 f7 f8 f9 f10 f11 f12 f13 f14 hc1 (first_sge _) hc3
      (fun y hy => (congrFun e13 y).trans (h13 hpos y hy))
      (fun y hy => ((congrFun e14 y).trans (h14 t rfl hpos y hy)).trans
        (by unfold tileQ tileZ; rw [if_neg (by decide)]; rw [show kZ m c t = _ from h1.symm, show kC m c t = _ from h3.symm, show kS m c t = _ from h4.symm, show kGcq m c t = _ from h5.symm, show kWq m c t = _ from h6.symm, show kGq m c t = _ from h9.symm]; rfl))
    have hout := hv.1
    have hslot := hv.2.1
    have hones := hv.2.2
    clear hv
    iapply (wp_use (runNext c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) scM0 (Memref.isWhole_whole cc0_scratch0) scM1 (Memref.isWhole_whole cc0_scratch1) scM2 (Memref.isWhole_whole cc0_scratch2) hc1 (first_sge _) hc3 f1 f2 f3 f4 f5 f6 f7 f8 f9 f10 f11 f12 f13 f14))
    isplitl [H1 H2 H3 H4 H5 H6 H7 H8 H9 H10 H12 H13 H14 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      iexact H11
    iintro %_ ⟨H1, H2, H3, H4, H5, H6, H7, H8, H9, H10, H12, H13, H14, H11⟩
    isplitl [H12 H13 H14 Hg]
    · isplitl [H12 H13 H14]
      · isplitl [H12]
        · iexists _; iexists _; isplitr
          swap; · iexact H12
          ipureintro; rfl
        isplitl [H13]
        · iexists _; isplitr
          swap
          · iexists _; isplitr
            swap; · iexact H13
            ipureintro; rfl
          ipureintro; exact fun _ y hy => hones y hy
        iexists _; isplitr
        swap
        · iexists _; isplitr
          swap; · iexact H14
          ipureintro; rfl
        ipureintro
        intro t' ht' _ y hy
        refine (hslot y hy).trans ?_
        unfold tileQ tileZ
        rw [if_pos rfl, ← next_Z m c t t' ht', ← same_C m c t t', ← same_S m c t t', ← same_Gcq m c t t', ← same_Wq m c t t', ← same_Gq m c t t',
          show kZn m c t = _ from h2.symm, show kC m c t = _ from h3.symm, show kS m c t = _ from h4.symm, show kGcq m c t = _ from h5.symm, show kWq m c t = _ from h6.symm, show kGq m c t = _ from h9.symm]
        rfl
      iexact Hg
    isplitl [Ho]; · iexact Ho
    isplitl [H1]
    · iexists f1; isplitr
      swap; · iexact H1
      ipureintro; exact h1
    isplitl [H2]
    · iexists f2; isplitr
      swap; · iexact H2
      ipureintro; exact h2
    isplitl [H3]
    · iexists f3; isplitr
      swap; · iexact H3
      ipureintro; exact h3
    isplitl [H4]
    · iexists f4; isplitr
      swap; · iexact H4
      ipureintro; exact h4
    isplitl [H5]
    · iexists f5; isplitr
      swap; · iexact H5
      ipureintro; exact h5
    isplitl [H6]
    · iexists f6; isplitr
      swap; · iexact H6
      ipureintro; exact h6
    isplitl [H7]
    · iexists f7; isplitr
      swap; · iexact H7
      ipureintro; exact h7
    isplitl [H8]
    · iexists f8; isplitr
      swap; · iexact H8
      ipureintro; exact h8
    isplitl [H9]
    · iexists f9; isplitr
      swap; · iexact H9
      ipureintro; exact h9
    isplitl [H10]
    · iexists f10; isplitr
      swap; · iexact H10
      ipureintro; exact h10
    iexists _; isplitr
    swap; · iexact H11
    ipureintro
    funext y
    refine (hout y).trans ?_
    unfold outBlk
    rw [show kZ m c t = _ from h1.symm, show kC m c t = _ from h3.symm, show kS m c t = _ from h4.symm, show kGcq m c t = _ from h5.symm, show kWq m c t = _ from h6.symm,
      show kGckv m c t = _ from h7.symm, show kWkv m c t = _ from h8.symm, show kGq m c t = _ from h9.symm, show kGk m c t = _ from h10.symm]
    rfl

theorem v_obligation (c : Dev nD) : BodyObligationLoose (dats m 0 c) (defs₀ (F := Ideal)) Variants.none () Set.univ := fun t => by
  rw [bigSep_W0, bigSep_W0, body_row]
  exact triple_restated (v_body m c t) rfl .rfl fun _ => .rfl

theorem v_in (c : Dev nD) : Pipeline.ΦA spec0 c ⊢ (dats m 0 c).Φ 0 := by
  rw [PhiA_eq, show (dats m 0 c).Φ 0 = PhiV m c 0 from rfl]
  unfold PhiV
  iintro ⟨⟨H12, ⟨%d13, H13⟩, ⟨%d14, H14⟩⟩, Hg⟩
  isplitl [H12 H13 H14]
  · isplitl [H12]; · iexact H12
    isplitl [H13]
    · iexists d13; isplitr
      swap; · iexact H13
      ipureintro; exact fun h => absurd h (lt_irrefl 0)
    iexists d14; isplitr
    swap; · iexact H14
    ipureintro; exact fun _ _ h => absurd h (lt_irrefl 0)
  iexact Hg

theorem v_out (c : Dev nD) : (dats m 0 c).Φ (Fin.last cfg0.N) ⊢ Pipeline.ΦA spec0 c := by
  rw [PhiA_eq, show (dats m 0 c).Φ (Fin.last cfg0.N) = PhiV m c cfg0.N from rfl]
  unfold PhiV
  iintro ⟨⟨H12, ⟨%d13, -, H13⟩, ⟨%d14, -, H14⟩⟩, Hg⟩
  isplitl [H12 H13 H14]
  · isplitl [H12]; · iexact H12
    isplitl [H13]
    · iexists d13; iexact H13
    iexists d14; iexact H14
  iexact Hg

set_option backward.isDefEq.respectTransparency.types false in
/-- The launch. -/
theorem v_run : θ_run defs (onTc (τ := τ) (main (F := Ideal))) (s₀ m ρ)
    (fun r => Pipeline.FramePost cfgs (dats m) (0 : Fin 1) (V m) r ∧ r.2.sem = fun _ => 0) :=
  Pipeline.θ_run_frame_track_shared cfgs (dats m) (0 : Fin 1) launch₀0 defs₀ Variants.none m ρ main
    (hbody := fun c => v_obligation m c) (hq := fun _ _ _ => rfl)
    (howed := fun _ _ => rfl) (V := V m) (hmain := hmain m Variants.none) (hA := dats_A m) (hin := v_in m) (hout := v_out m) (Q' := _) (hQ' := fun _ h => h)

/-- The result array after the run. -/
theorem final10 (c : Dev nD) (G : S32x2048x512.Idx → Elt Ideal .bf16)
    (hG : ∀ (t : Fin cfg0.N) (y : S1x2048x512.Idx), outBlk m c t y = G (ix3 ⟨t.val, (idx t).2.2.2.2.2.2.2.2.2.2.2.1⟩ (y 1) (y 2))) : (dats m 0 c).arrAt 10 cfg0.N = G := by
  refine (dats m 0 c).arrAt_eq_of_covers 10 _ (by decide +kernel) fun t _ y => ?_
  blk_simp
  rw [vafter_10]
  refine (hG t y).trans (congrArg G ?_)
  blk_ext [idx t]

end Cert.Mla

end
-- ==== Proof.MlaSpec.lean ====
/- The attention written row by row over its arguments: latent norms, head norms, the rotation, the scores, softmax. -/
module

public import proofs.«01_k».proof.Proof.MlaMath
public import proofs.«01_k».proof.Proof.MlaPay

@[expose] public section

noncomputable section

namespace Cert.MlaSpec

open Idealize.ShloMosaic Cert.MlaMath
open Cert.Kernel3Ideal

/-- The norms' epsilon. -/
abbrev eps : EReal := Ideal.ofBits .f32 0x358637BD#32

/-- An entry times one over the root mean square of its row, times its gain; `c` is one over the row's length. -/
def rms {n : ℕ} (u g : Fin n → EReal) (c : ℝ) (x : Fin n) : EReal := u x * Ideal.rsqrt ((∑ i, u i * u i) * (c : EReal) + eps) * g x

/-- A head's row, normed. -/
def nrm (u g : Fin 192 → EReal) (x : Fin 192) : EReal := rms u g (1 / 192) x

/-- A head's row, normed, its last 64 lanes rotated by the angles. -/
def rv (u g : Fin 192 → EReal) (c s : Fin 32 → EReal) (x : Fin 192) : EReal :=
  if h : x.val < 128 then nrm u g x
  else if h2 : x.val < 160 then nrm u g x * c ⟨x.val - 128, by omega⟩ - nrm u g ⟨x.val + 32, by omega⟩ * s ⟨x.val - 128, by omega⟩
  else nrm u g x * c ⟨x.val - 160, by omega⟩ + nrm u g ⟨x.val - 32, by omega⟩ * s ⟨x.val - 160, by omega⟩

theorem nrm_fin (u g : Fin 192 → EReal) (hg : ∀ x, IsReal (g x)) (x : Fin 192) : IsReal (nrm u g x) :=
  fin_mul (norm_fin u _ ⟨1 / 192, by norm_num, rfl⟩ _ ofBits_eps x) (hg x)

theorem rv_fin (u g : Fin 192 → EReal) (c s : Fin 32 → EReal) (hg : ∀ x, IsReal (g x)) (hc : ∀ x, IsReal (c x)) (hs : ∀ x, IsReal (s x)) (x : Fin 192) :
    IsReal (rv u g c s x) := by
  unfold rv
  split
  · exact nrm_fin u g hg x
  split
  · exact fin_sub (fin_mul (nrm_fin u g hg _) (hc _)) (fin_mul (nrm_fin u g hg _) (hs _))
  · exact fin_add (fin_mul (nrm_fin u g hg _) (hc _)) (fin_mul (nrm_fin u g hg _) (hs _))

/-- The lane half a rope width away. -/
def swp (j : Fin 64) : Fin 64 := if h : (j : ℕ) < 32 then ⟨j + 32, by omega⟩ else ⟨j - 32, by omega⟩

theorem swp_swp (j : Fin 64) : swp (swp j) = j := by
  have : ∀ j : Fin 64, swp (swp j) = j := by decide +kernel
  exact this j

theorem sum_swp (f : Fin 64 → EReal) : ∑ j, f (swp j) = ∑ j, f j :=
  Equiv.sum_comp (Function.Involutive.toPerm swp swp_swp) f

theorem sum_pad (f : Fin 64 → EReal) : (∑ x : Fin 128, if h : x.val < 64 then f ⟨x.val, h⟩ else 0) = ∑ x : Fin 64, f x := by
  rw [Fin.sum_univ_two_halves 64 64 rfl]
  have h1 (x : Fin 64) : (x : ℕ) < 64 := x.isLt
  have h2 (x : Fin 64) : ¬ (64 + x : ℕ) < 64 := by omega
  simp only [h1, h2, dite_true, dite_false, Finset.sum_const_zero, add_zero]

theorem sum_192 (f : Fin 192 → EReal) : ∑ x, f x = (∑ x : Fin 128, f ⟨x, by omega⟩) + ∑ x : Fin 64, f ⟨128 + x, by omega⟩ :=
  Fin.sum_univ_two_halves 128 64 rfl f

section
variable (zm : FVec Ideal S32x2048x512 .bf16) (gcq : FVec Ideal S256 .f32) (wuq : FVec Ideal S256x768 .f32) (gckv : FVec Ideal S128 .f32)
  (wukv : FVec Ideal S128x1024 .f32) (gq gk : FVec Ideal S192 .f32) (cs sn : Fin 2048 → Fin 32 → EReal)

theorem e192 (h : Fin 4) (x : Fin 192) : 192 * h.val + x.val < 768 := by omega
theorem e256 (h : Fin 4) (x : Fin 256) : 256 * h.val + x.val < 1024 := by omega

/-- The latent query row, normed. -/
def cq (b : Fin 32) (r : Fin 2048) (x : Fin 256) : EReal := rms (fun x : Fin 256 => zm (ix3 b r ⟨x, by omega⟩)) (fun x => gcq (ix1 x)) (1 / 256) x

/-- The latent key and value row, normed. -/
def ckv (b : Fin 32) (r : Fin 2048) (x : Fin 128) : EReal :=
  rms (fun x : Fin 128 => zm (ix3 b r ⟨256 + x, by omega⟩)) (fun x => gckv (ix1 x)) (1 / 128) x

/-- Head `h`'s query row before its norm. -/
def uq (b : Fin 32) (h : Fin 4) (r : Fin 2048) (x : Fin 192) : EReal := ∑ i, cq zm gcq b r i * wuq (ix2 i ⟨192 * h + x, e192 h x⟩)

/-- The row's products with the key and value weight. -/
def kv (b : Fin 32) (h : Fin 4) (r : Fin 2048) (e : Fin 256) : EReal := ∑ i, ckv zm gckv b r i * wukv (ix2 i ⟨256 * h + e, e256 h e⟩)

/-- Head `h`'s key row before its norm: its own lanes, then the rope lanes all heads share. -/
def uk (b : Fin 32) (h : Fin 4) (r : Fin 2048) (x : Fin 192) : EReal :=
  if hx : x.val < 128 then kv zm gckv wukv b h r ⟨x, by omega⟩ else zm (ix3 b r ⟨384 + (x - 128), by omega⟩)

/-- The score of query row `r` against key row `k`. -/
def score (b : Fin 32) (h : Fin 4) (r k : Fin 2048) : EReal :=
  (∑ x, rv (uq zm gcq wuq b h r) (fun x => gq (ix1 x)) (cs r) (sn r) x * rv (uk zm gckv wukv b h k) (fun x => gk (ix1 x)) (cs k) (sn k) x)
    * (((Real.sqrt 192)⁻¹ : ℝ) : EReal)

/-- The largest score of a query row. -/
def top (b : Fin 32) (h : Fin 4) (r : Fin 2048) : EReal :=
  Finset.fold max (Ideal.ofBits .f32 0xFF800000#32) (fun k => score zm gcq wuq gckv wukv gq gk cs sn b h r k) Finset.univ

/-- The attention's output: the values weighted by softmax of the scores. -/
def out (b : Fin 32) (h : Fin 4) (r : Fin 2048) (j : Fin 128) : EReal :=
  ∑ k, Ideal.div (Ideal.exp (score zm gcq wuq gckv wukv gq gk cs sn b h r k - top zm gcq wuq gckv wukv gq gk cs sn b h r))
      (∑ k', Ideal.exp (score zm gcq wuq gckv wukv gq gk cs sn b h r k' - top zm gcq wuq gckv wukv gq gk cs sn b h r))
    * kv zm gckv wukv b h k ⟨128 + j, by omega⟩

theorem score_fin (hq : ∀ x, IsReal (gq (ix1 x))) (hk : ∀ x, IsReal (gk (ix1 x))) (hc : ∀ r x, IsReal (cs r x)) (hs : ∀ r x, IsReal (sn r x))
    (b : Fin 32) (h : Fin 4) (r k : Fin 2048) : IsReal (score zm gcq wuq gckv wukv gq gk cs sn b h r k) :=
  fin_mul (fin_sum _ _ fun x => fin_mul (rv_fin _ _ _ _ hq (hc r) (hs r) x) (rv_fin _ _ _ _ hk (hc k) (hs k) x)) (fin_coe _)

end

end Cert.MlaSpec
end
-- ==== Proof.MlaHost.lean ====
/- What the host code hands the attention call: the rotary tables, the query weight with its rope columns laid twice, the gain rows. -/
module

public import proofs.«01_k».proof.Proof.MlaFinal
public import proofs.«01_k».proof.Proof.MlaSpec

@[expose] public section

set_option maxRecDepth 65536

noncomputable section

namespace Cert.Mla

open Idealize.ShloMosaic Idealize.ShloMosaic.TcCoe Idealize.ShloMosaic.Tactic Idealize.SL.Sem
open Idealize.ShloMosaic.Pipeline (Dat)
open Cert.Kernel3Ideal Cert.Kernel3Ideal.Gen

variable (m : (ℓ : Loc nD τ sig) → Buf (Elt Ideal) ℓ)

/-- Two bands of 32 columns and a band of 64. -/
def cat3 (a b : FVec Ideal S2048x32 .f32) (z : FVec Ideal S2048x64 .f32) : FVec Ideal S2048x128 .f32 :=
  concatenate S2048x128 1 [⟨S2048x32, a⟩, ⟨S2048x32, b⟩, ⟨S2048x64, z⟩] concatenates_S2048x32_S2048x32_S2048x64_S2048x128_d1

/-- Three rows. -/
def stack3 (a b c : FVec Ideal S1x128 .f32) : FVec Ideal S3x128 .f32 :=
  concatenate S3x128 0 [⟨S1x128, a⟩, ⟨S1x128, b⟩, ⟨S1x128, c⟩] concatenates_S1x128_S1x128_S1x128_S3x128_d0

/-- The rotary angles. -/
def angT : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (mulf (sitofp .f32 (iotaInDim S32 32 0)) (broadcastInDim S32 ![] bcast_S_S32 (constant S_ .f32 0x40000000#32)))
            (broadcastInDim S32 ![] bcast_S_S32 (constant S_ .f32 0x42800000#32)))))))

/-- The band of zero columns. -/
def zeroT : FVec Ideal S2048x64 .f32 := broadcastInDim S2048x64 ![] bcast_S_S2048x64 (constant S_ .f32 0x00000000#32)

/-- The cosine table: the cosines twice, then zeros. -/
def cosT : FVec Ideal S2048x128 .f32 := cat3 (Host.cos angT) (Host.cos angT) zeroT

/-- The sine table: the negated sines, the sines, then zeros. -/
def sinT : FVec Ideal S2048x128 .f32 := cat3 (Host.negf (Host.sin angT)) (Host.sin angT) zeroT

/-- The table of swapped rope columns, from its literal. -/
def tab (l : Fin 64 → BitVec 32) : IVec S64x1 32 :=
  broadcastInDim S64x1 ![0] bcast_S64_S64x1_0 (select (constantI S64 1 0#1)
    (addi (fun i => l (S64.rowMajor i)) (broadcastInDim S64 ![] bcast_S_S64 (constantI S_ 32 192#32))) (fun i => l (S64.rowMajor i)))

/-- The query weight: each head's 192 columns and then its rope columns again, their halves swapped. -/
def wqT (w : FVec Ideal S256x768 .f32) : FVec Ideal S256x1024 .bf16 :=
  truncf .bf16 (shapeCast S256x1024 (concatenate S256x4x256 2 [⟨S256x4x192, shapeCast S256x4x192 w shapeCasts_S256x768_S256x4x192⟩,
    ⟨S256x4x64, Host.gather gather_S256x4x192_S64x1_S256x4x64_01_2_n_n_2_1_25641 (shapeCast S256x4x192 w shapeCasts_S256x768_S256x4x192) (tab lit0)⟩]
    concatenates_S256x4x192_S256x4x64_S256x4x256_d2) shapeCasts_S256x4x256_S256x1024) bitsLt_bf16_f32

/-- The zero half of a gain row. -/
def zero64 : FVec Ideal S64 .f32 := broadcastInDim S64 ![] bcast_S_S64 (constant S_ .f32 0x00000000#32)

/-- The three gain rows: the nope gains, the rope gains, the rope gains with their halves swapped. -/
def gainT (l : Fin 64 → BitVec 32) (g : FVec Ideal S192 .f32) : FVec Ideal S3x128 .f32 :=
  stack3 (broadcastInDim S1x128 ![1] bcast_S128_S1x128_1 (extractStridedSlice S128 ![0] g slices_S192_S128_0))
    (broadcastInDim S1x128 ![1] bcast_S128_S1x128_1 (concatenate S128 0 [⟨S64, extractStridedSlice S64 ![128] g slices_S192_S64_128⟩, ⟨S64, zero64⟩] concatenates_S64_S64_S128_d0))
    (broadcastInDim S1x128 ![1] bcast_S128_S1x128_1 (concatenate S128 0 [⟨S64, Host.gather gather_S192_S64x1_S64_n_0_n_n_0_1_1 g (tab l)⟩, ⟨S64, zero64⟩] concatenates_S64_S64_S128_d0))

/-- The host operations with the concatenations under their names. -/
abbrev hops : List (HloOp τ sig (Elt Ideal)) :=
  [ StableHlo.nullary main_c (fun i => lit0 (S64.rowMajor i)),
    StableHlo.nullary main_c_0 (constantI S64 1 0#1),
    StableHlo.nullary main_c_1 (fun i => lit1 (S64.rowMajor i)),
    StableHlo.nullary main_c_2 (constantI S64 1 0#1),
    StableHlo.nullary main_c_3 (fun i => lit2 (S64.rowMajor i)),
    StableHlo.nullary main_c_4 (constantI S64 1 0#1),
    StableHlo.nullary main_v0 (sitofp (F := Ideal) .f32 (iotaInDim S32 32 0)),
    StableHlo.nullary main_cst (constant (F := Ideal) S_ .f32 0x40000000#32),
    StableHlo.unary main_cst main_v1 (broadcastInDim S32 ![] bcast_S_S32 : (⟨S_, .f32⟩ : BufTy).Contents (Elt Ideal) → (⟨S32, .f32⟩ : BufTy).Contents (Elt Ideal)),
    StableHlo.binary main_v0 main_v1 main_v2 ((mulf (F := Ideal) (s := S32) (φ := .f32)) : (⟨S32, .f32⟩ : BufTy).Contents (Elt Ideal) → (⟨S32, .f32⟩ : BufTy).Contents (Elt Ideal) → (⟨S32, .f32⟩ : BufTy).Contents (Elt Ideal)),
    StableHlo.nullary main_cst_5 (constant (F := Ideal) S_ .f32 0x42800000#32),
    StableHlo.unary main_cst_5 main_v3 (broadcastInDim S32 ![] bcast_S_S32 : (⟨S_, .f32⟩ : BufTy).Contents (Elt Ideal) → (⟨S32, .f32⟩ : BufTy).Contents (Elt Ideal)),
    StableHlo.binary main_v2 main_v3 main_v4 ((Host.divf (F := Ideal) (s := S32) (φ := .f32)) : (⟨S32, .f32⟩ : BufTy).Contents (Elt Ideal) → (⟨S32, .f32⟩ : BufTy).Contents (Elt Ideal) → (⟨S32, .f32⟩ : BufTy).Contents (Elt Ideal)),
    StableHlo.nullary main_cst_6 (constant (F := Ideal) S_ .f32 0x461C4000#32),
    StableHlo.unary main_cst_6 main_v5 (broadcastInDim S32 ![] bcast_S_S32 : (⟨S_, .f32⟩ : BufTy).Contents (Elt Ideal) → (⟨S32, .f32⟩ : BufTy).Contents (Elt Ideal)),
    StableHlo.binary main_v5 main_v4 main_v6 ((Host.powf (F := Ideal) (s := S32) (φ := .f32)) : (⟨S32, .f32⟩ : BufTy).Contents (Elt Ideal) → (⟨S32, .f32⟩ : BufTy).Contents (Elt Ideal) → (⟨S32, .f32⟩ : BufTy).Contents (Elt Ideal)),
    StableHlo.nullary main_cst_7 (constant (F := Ideal) S_ .f32 0x3F800000#32),
    StableHlo.unary main_cst_7 main_v7 (broadcastInDim S32 ![] bcast_S_S32 : (⟨S_, .f32⟩ : BufTy).Contents (Elt Ideal) → (⟨S32, .f32⟩ : BufTy).Contents (Elt Ideal)),
    StableHlo.binary main_v7 main_v6 main_v8 ((Host.divf (F := Ideal) (s := S32) (φ := .f32)) : (⟨S32, .f32⟩ : BufTy).Contents (Elt Ideal) → (⟨S32, .f32⟩ : BufTy).Contents (Elt Ideal) → (⟨S32, .f32⟩ : BufTy).Contents (Elt Ideal)),
    StableHlo.nullary main_v9 (sitofp (F := Ideal) .f32 (iotaInDim S2048 32 0)),
    StableHlo.unary main_v9 main_v10 (broadcastInDim S2048x1 ![0] bcast_S2048_S2048x1_0 : (⟨S2048, .f32⟩ : BufTy).Contents (Elt Ideal) → (⟨S2048x1, .f32⟩ : BufTy).Contents (Elt Ideal)),
    StableHlo.unary main_v8 main_v11 (broadcastInDim S1x32 ![1] bcast_S32_S1x32_1 : (⟨S32, .f32⟩ : BufTy).Contents (Elt Ideal) → (⟨S1x32, .f32⟩ : BufTy).Contents (Elt Ideal)),
    StableHlo.unary main_v10 main_v12 (broadcastInDim S2048x32 ![0, 1] bcast_S2048x1_S2048x32_0_1 : (⟨S2048x1, .f32⟩ : BufTy).Contents (Elt Ideal) → (⟨S2048x32, .f32⟩ : BufTy).Contents (Elt Ideal)),
    StableHlo.unary main_v11 main_v13 (broadcastInDim S2048x32 ![0, 1] bcast_S1x32_S2048x32_0_1 : (⟨S1x32, .f32⟩ : BufTy).Contents (Elt Ideal) → (⟨S2048x32, .f32⟩ : BufTy).Contents (Elt Ideal)),
    StableHlo.binary main_v12 main_v13 main_v14 ((mulf (F := Ideal) (s := S2048x32) (φ := .f32)) : (⟨S2048x32, .f32⟩ : BufTy).Contents (Elt Ideal) → (⟨S2048x32, .f32⟩ : BufTy).Contents (Elt Ideal) → (⟨S2048x32, .f32⟩ : BufTy).Contents (Elt Ideal)),
    StableHlo.unary main_v14 main_v15 ((Host.cos (F := Ideal) (s := S2048x32) (φ := .f32)) : (⟨S2048x32, .f32⟩ : BufTy).Contents (Elt Ideal) → (⟨S2048x32, .f32⟩ : BufTy).Contents (Elt Ideal)),
    StableHlo.unary main_v14 main_v16 ((Host.sin (F := Ideal) (s := S2048x32) (φ := .f32)) : (⟨S2048x32, .f32⟩ : BufTy).Contents (Elt Ideal) → (⟨S2048x32, .f32⟩ : BufTy).Contents (Elt Ideal)),
    StableHlo.nullary main_cst_8 (constant (F := Ideal) S_ .f32 0x00000000#32),
    StableHlo.unary main_cst_8 main_v17 (broadcastInDim S2048x64 ![] bcast_S_S2048x64 : (⟨S_, .f32⟩ : BufTy).Contents (Elt Ideal) → (⟨S2048x64, .f32⟩ : BufTy).Contents (Elt Ideal)),
    StableHlo.nary ![main_v15, main_v15, main_v17] main_v18 (fun u => cat3 (u 0) (u 1) (u 2)),
    StableHlo.unary main_v16 main_v19 ((Host.negf (F := Ideal) (s := S2048x32) (φ := .f32)) : (⟨S2048x32, .f32⟩ : BufTy).Contents (Elt Ideal) → (⟨S2048x32, .f32⟩ : BufTy).Contents (Elt Ideal)),
    StableHlo.nary ![main_v19, main_v16, main_v17] main_v20 (fun u => cat3 (u 0) (u 1) (u 2)),
    StableHlo.reshape main_arg2 main_v21 (rfl : (.f32 : EltTy) = .f32) shapeCasts_S256x768_S256x4x192,
    StableHlo.nullary main_c_9 (constantI S_ 32 192#32),
    StableHlo.unary main_c_9 main_v22 (broadcastInDim S64 ![] bcast_S_S64 : (⟨S_, .i32⟩ : BufTy).Contents (Elt Ideal) → (⟨S64, .i32⟩ : BufTy).Contents (Elt Ideal)),
    StableHlo.binary main_c main_v22 main_v23 (addi : (⟨S64, .i32⟩ : BufTy).Contents (Elt Ideal) → (⟨S64, .i32⟩ : BufTy).Contents (Elt Ideal) → (⟨S64, .i32⟩ : BufTy).Contents (Elt Ideal)),
    StableHlo.ternary main_c_0 main_v23 main_c main_v24 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    StableHlo.unary main_v24 main_v25 (broadcastInDim S64x1 ![0] bcast_S64_S64x1_0 : (⟨S64, .i32⟩ : BufTy).Contents (Elt Ideal) → (⟨S64x1, .i32⟩ : BufTy).Contents (Elt Ideal)),
    StableHlo.binary main_v21 main_v25 main_v26 ((fun x i => Host.gather gather_S256x4x192_S64x1_S256x4x64_01_2_n_n_2_1_25641 x i) : (⟨S256x4x192, .f32⟩ : BufTy).Contents (Elt Ideal) → (⟨S64x1, .i32⟩ : BufTy).Contents (Elt Ideal) → (⟨S256x4x64, .f32⟩ : BufTy).Contents (Elt Ideal)),
    StableHlo.binary main_v21 main_v26 main_v27 ((fun a b => concatenate S256x4x256 2 [⟨S256x4x192, a⟩, ⟨S256x4x64, b⟩] concatenates_S256x4x192_S256x4x64_S256x4x256_d2) : (⟨S256x4x192, .f32⟩ : BufTy).Contents (Elt Ideal) → (⟨S256x4x64, .f32⟩ : BufTy).Contents (Elt Ideal) → (⟨S256x4x256, .f32⟩ : BufTy).Contents (Elt Ideal)),
    StableHlo.reshape main_v27 main_v28 (rfl : (.f32 : EltTy) = .f32) shapeCasts_S256x4x256_S256x1024,
    StableHlo.unary main_v28 main_v29 ((fun x => truncf (F := Ideal) (s := S256x1024) (φ := .f32) .bf16 x bitsLt_bf16_f32) : (⟨S256x1024, .f32⟩ : BufTy).Contents (Elt Ideal) → (⟨S256x1024, .bf16⟩ : BufTy).Contents (Elt Ideal)),
    StableHlo.unary main_arg4 main_v30 ((fun x => truncf (F := Ideal) (s := S128x1024) (φ := .f32) .bf16 x bitsLt_bf16_f32) : (⟨S128x1024, .f32⟩ : BufTy).Contents (Elt Ideal) → (⟨S128x1024, .bf16⟩ : BufTy).Contents (Elt Ideal)),
    StableHlo.reshape main_arg1 main_v31 (rfl : (.f32 : EltTy) = .f32) shapeCasts_S256_S1x256,
    StableHlo.reshape main_arg3 main_v32 (rfl : (.f32 : EltTy) = .f32) shapeCasts_S128_S1x128,
    StableHlo.nullary main_cst_10 (constant (F := Ideal) S_ .f32 0x00000000#32),
    StableHlo.unary main_cst_10 main_v33 (broadcastInDim S64 ![] bcast_S_S64 : (⟨S_, .f32⟩ : BufTy).Contents (Elt Ideal) → (⟨S64, .f32⟩ : BufTy).Contents (Elt Ideal)),
    StableHlo.unary main_arg5 main_v34 ((extractStridedSlice S128 ![0] · slices_S192_S128_0) : (⟨S192, .f32⟩ : BufTy).Contents (Elt Ideal) → (⟨S128, .f32⟩ : BufTy).Contents (Elt Ideal)),
    StableHlo.unary main_arg5 main_v35 ((extractStridedSlice S64 ![128] · slices_S192_S64_128) : (⟨S192, .f32⟩ : BufTy).Contents (Elt Ideal) → (⟨S64, .f32⟩ : BufTy).Contents (Elt Ideal)),
    StableHlo.binary main_v35 main_v33 main_v36 ((fun a b => concatenate S128 0 [⟨S64, a⟩, ⟨S64, b⟩] concatenates_S64_S64_S128_d0) : (⟨S64, .f32⟩ : BufTy).Contents (Elt Ideal) → (⟨S64, .f32⟩ : BufTy).Contents (Elt Ideal) → (⟨S128, .f32⟩ : BufTy).Contents (Elt Ideal)),
    StableHlo.nullary main_c_11 (constantI S_ 32 192#32),
    StableHlo.unary main_c_11 main_v37 (broadcastInDim S64 ![] bcast_S_S64 : (⟨S_, .i32⟩ : BufTy).Contents (Elt Ideal) → (⟨S64, .i32⟩ : BufTy).Contents (Elt Ideal)),
    StableHlo.binary main_c_1 main_v37 main_v38 (addi : (⟨S64, .i32⟩ : BufTy).Contents (Elt Ideal) → (⟨S64, .i32⟩ : BufTy).Contents (Elt Ideal) → (⟨S64, .i32⟩ : BufTy).Contents (Elt Ideal)),
    StableHlo.ternary main_c_2 main_v38 main_c_1 main_v39 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    StableHlo.unary main_v39 main_v40 (broadcastInDim S64x1 ![0] bcast_S64_S64x1_0 : (⟨S64, .i32⟩ : BufTy).Contents (Elt Ideal) → (⟨S64x1, .i32⟩ : BufTy).Contents (Elt Ideal)),
    StableHlo.binary main_arg5 main_v40 main_v41 ((fun x i => Host.gather gather_S192_S64x1_S64_n_0_n_n_0_1_1 x i) : (⟨S192, .f32⟩ : BufTy).Contents (Elt Ideal) → (⟨S64x1, .i32⟩ : BufTy).Contents (Elt Ideal) → (⟨S64, .f32⟩ : BufTy).Contents (Elt Ideal)),
    StableHlo.binary main_v41 main_v33 main_v42 ((fun a b => concatenate S128 0 [⟨S64, a⟩, ⟨S64, b⟩] concatenates_S64_S64_S128_d0) : (⟨S64, .f32⟩ : BufTy).Contents (Elt Ideal) → (⟨S64, .f32⟩ : BufTy).Contents (Elt Ideal) → (⟨S128, .f32⟩ : BufTy).Contents (Elt Ideal)),
    StableHlo.unary main_v34 main_v43 (broadcastInDim S1x128 ![1] bcast_S128_S1x128_1 : (⟨S128, .f32⟩ : BufTy).Contents (Elt Ideal) → (⟨S1x128, .f32⟩ : BufTy).Contents (Elt Ideal)),
    StableHlo.unary main_v36 main_v44 (broadcastInDim S1x128 ![1] bcast_S128_S1x128_1 : (⟨S128, .f32⟩ : BufTy).Contents (Elt Ideal) → (⟨S1x128, .f32⟩ : BufTy).Contents (Elt Ideal)),
    StableHlo.unary main_v42 main_v45 (broadcastInDim S1x128 ![1] bcast_S128_S1x128_1 : (⟨S128, .f32⟩ : BufTy).Contents (Elt Ideal) → (⟨S1x128, .f32⟩ : BufTy).Contents (Elt Ideal)),
    StableHlo.nary ![main_v43, main_v44, main_v45] main_v46 (fun u => stack3 (u 0) (u 1) (u 2)),
    StableHlo.nullary main_cst_12 (constant (F := Ideal) S_ .f32 0x00000000#32),
    StableHlo.unary main_cst_12 main_v47 (broadcastInDim S64 ![] bcast_S_S64 : (⟨S_, .f32⟩ : BufTy).Contents (Elt Ideal) → (⟨S64, .f32⟩ : BufTy).Contents (Elt Ideal)),
    StableHlo.unary main_arg6 main_v48 ((extractStridedSlice S128 ![0] · slices_S192_S128_0) : (⟨S192, .f32⟩ : BufTy).Contents (Elt Ideal) → (⟨S128, .f32⟩ : BufTy).Contents (Elt Ideal)),
    StableHlo.unary main_arg6 main_v49 ((extractStridedSlice S64 ![128] · slices_S192_S64_128) : (⟨S192, .f32⟩ : BufTy).Contents (Elt Ideal) → (⟨S64, .f32⟩ : BufTy).Contents (Elt Ideal)),
    StableHlo.binary main_v49 main_v47 main_v50 ((fun a b => concatenate S128 0 [⟨S64, a⟩, ⟨S64, b⟩] concatenates_S64_S64_S128_d0) : (⟨S64, .f32⟩ : BufTy).Contents (Elt Ideal) → (⟨S64, .f32⟩ : BufTy).Contents (Elt Ideal) → (⟨S128, .f32⟩ : BufTy).Contents (Elt Ideal)),
    StableHlo.nullary main_c_13 (constantI S_ 32 192#32),
    StableHlo.unary main_c_13 main_v51 (broadcastInDim S64 ![] bcast_S_S64 : (⟨S_, .i32⟩ : BufTy).Contents (Elt Ideal) → (⟨S64, .i32⟩ : BufTy).Contents (Elt Ideal)),
    StableHlo.binary main_c_3 main_v51 main_v52 (addi : (⟨S64, .i32⟩ : BufTy).Contents (Elt Ideal) → (⟨S64, .i32⟩ : BufTy).Contents (Elt Ideal) → (⟨S64, .i32⟩ : BufTy).Contents (Elt Ideal)),
    StableHlo.ternary main_c_4 main_v52 main_c_3 main_v53 (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)),
    StableHlo.unary main_v53 main_v54 (broadcastInDim S64x1 ![0] bcast_S64_S64x1_0 : (⟨S64, .i32⟩ : BufTy).Contents (Elt Ideal) → (⟨S64x1, .i32⟩ : BufTy).Contents (Elt Ideal)),
    StableHlo.binary main_arg6 main_v54 main_v55 ((fun x i => Host.gather gather_S192_S64x1_S64_n_0_n_n_0_1_1 x i) : (⟨S192, .f32⟩ : BufTy).Contents (Elt Ideal) → (⟨S64x1, .i32⟩ : BufTy).Contents (Elt Ideal) → (⟨S64, .f32⟩ : BufTy).Contents (Elt Ideal)),
    StableHlo.binary main_v55 main_v47 main_v56 ((fun a b => concatenate S128 0 [⟨S64, a⟩, ⟨S64, b⟩] concatenates_S64_S64_S128_d0) : (⟨S64, .f32⟩ : BufTy).Contents (Elt Ideal) → (⟨S64, .f32⟩ : BufTy).Contents (Elt Ideal) → (⟨S128, .f32⟩ : BufTy).Contents (Elt Ideal)),
    StableHlo.unary main_v48 main_v57 (broadcastInDim S1x128 ![1] bcast_S128_S1x128_1 : (⟨S128, .f32⟩ : BufTy).Contents (Elt Ideal) → (⟨S1x128, .f32⟩ : BufTy).Contents (Elt Ideal)),
    StableHlo.unary main_v50 main_v58 (broadcastInDim S1x128 ![1] bcast_S128_S1x128_1 : (⟨S128, .f32⟩ : BufTy).Contents (Elt Ideal) → (⟨S1x128, .f32⟩ : BufTy).Contents (Elt Ideal)),
    StableHlo.unary main_v56 main_v59 (broadcastInDim S1x128 ![1] bcast_S128_S1x128_1 : (⟨S128, .f32⟩ : BufTy).Contents (Elt Ideal) → (⟨S1x128, .f32⟩ : BufTy).Contents (Elt Ideal)),
    StableHlo.nary ![main_v57, main_v58, main_v59] main_v60 (fun u => stack3 (u 0) (u 1) (u 2)) ]

set_option maxHeartbeats 4000000 in
/-- Window 2 reads the cosine table. -/
theorem entry_v18 (c : Dev nD) : V m c main_v18 = cosT := by
  show StableHlo.after hops (fun b => m (c, b)) main_v18 = _
  after_results_simp <;> (try dsimp only [Matrix.cons_val]) <;> (try after_results_simp) <;> rfl

set_option maxHeartbeats 4000000 in
/-- Window 3 reads the sine table. -/
theorem entry_v20 (c : Dev nD) : V m c main_v20 = sinT := by
  show StableHlo.after hops (fun b => m (c, b)) main_v20 = _
  after_results_simp <;> (try dsimp only [Matrix.cons_val]) <;> (try after_results_simp) <;> rfl

set_option maxHeartbeats 4000000 in
/-- Window 5 reads the laid-out query weight. -/
theorem entry_v29 (c : Dev nD) : V m c main_v29 = wqT (m ((c : Thread nD τ).loc main_arg2)) := by
  show StableHlo.after hops (fun b => m (c, b)) main_v29 = _
  after_results_simp <;> (try dsimp only [Matrix.cons_val]) <;> (try after_results_simp) <;> rfl

set_option maxHeartbeats 4000000 in
/-- Window 7 reads the weight of keys and values. -/
theorem entry_v30 (c : Dev nD) : V m c main_v30 = truncf (F := Ideal) (s := S128x1024) (φ := .f32) .bf16 (m ((c : Thread nD τ).loc main_arg4)) bitsLt_bf16_f32 := by
  show StableHlo.after hops (fun b => m (c, b)) main_v30 = _
  after_results_simp <;> (try dsimp only [Matrix.cons_val]) <;> (try after_results_simp) <;> rfl

set_option maxHeartbeats 4000000 in
/-- Window 4 reads the gains of the query part. -/
theorem entry_v31 (c : Dev nD) : V m c main_v31 = shapeCast S1x256 (m ((c : Thread nD τ).loc main_arg1)) shapeCasts_S256_S1x256 := by
  show StableHlo.after hops (fun b => m (c, b)) main_v31 = _
  after_results_simp <;> (try dsimp only [Matrix.cons_val]) <;> (try after_results_simp) <;> rfl

set_option maxHeartbeats 4000000 in
/-- Window 6 reads the gains of the key part. -/
theorem entry_v32 (c : Dev nD) : V m c main_v32 = shapeCast S1x128 (m ((c : Thread nD τ).loc main_arg3)) shapeCasts_S128_S1x128 := by
  show StableHlo.after hops (fun b => m (c, b)) main_v32 = _
  after_results_simp <;> (try dsimp only [Matrix.cons_val]) <;> (try after_results_simp) <;> rfl

set_option maxHeartbeats 4000000 in
/-- Window 8 reads the query gains. -/
theorem entry_v46 (c : Dev nD) : V m c main_v46 = gainT lit1 (m ((c : Thread nD τ).loc main_arg5)) := by
  show StableHlo.after hops (fun b => m (c, b)) main_v46 = _
  after_results_simp <;> (try dsimp only [Matrix.cons_val]) <;> (try after_results_simp) <;> rfl

set_option maxHeartbeats 4000000 in
/-- Window 9 reads the key gains. -/
theorem entry_v60 (c : Dev nD) : V m c main_v60 = gainT lit2 (m ((c : Thread nD τ).loc main_arg6)) := by
  show StableHlo.after hops (fun b => m (c, b)) main_v60 = _
  after_results_simp <;> (try dsimp only [Matrix.cons_val]) <;> (try after_results_simp) <;> rfl

open Cert.MlaSpec (swp)

theorem gather_gain (l : Fin 64 → BitVec 32)
    (h : ∀ j : Fin 64, ((gather_S192_S64x1_S64_n_0_n_n_0_1_1.operandIdx (ix1 j) (tab l)) 0).val = 128 + (swp j).val) (x : FVec Ideal S192 .f32) (j : Fin 64) :
    Host.gather gather_S192_S64x1_S64_n_0_n_n_0_1_1 x (tab l) (ix1 j) = x (ix1 ⟨128 + swp j, by omega⟩) := by
  unfold Host.gather
  refine congrArg x (funext fun a => ?_)
  match a with
  | ⟨0, _⟩ => exact Fin.ext (h j)

theorem gather_q (x : FVec Ideal S192 .f32) (j : Fin 64) :
    Host.gather gather_S192_S64x1_S64_n_0_n_n_0_1_1 x (tab lit1) (ix1 j) = x (ix1 ⟨128 + swp j, by omega⟩) :=
  gather_gain lit1 (by decide +kernel) x j

theorem gather_k (x : FVec Ideal S192 .f32) (j : Fin 64) :
    Host.gather gather_S192_S64x1_S64_n_0_n_n_0_1_1 x (tab lit2) (ix1 j) = x (ix1 ⟨128 + swp j, by omega⟩) :=
  gather_gain lit2 (by decide +kernel) x j

/-- The gathered rope columns of the query weight. -/
theorem gather_w (x : FVec Ideal S256x4x192 .f32) (i : Fin 256) (h : Fin 4) (j : Fin 64) :
    Host.gather gather_S256x4x192_S64x1_S256x4x64_01_2_n_n_2_1_25641 x (tab lit0) (ix3 i h j) = x (ix3 i h ⟨128 + swp j, by omega⟩) := by
  have h0 : ∀ i : Fin 256, ((gather_S256x4x192_S64x1_S256x4x64_01_2_n_n_2_1_25641.operandIdx (ix3 i h j) (tab lit0)) 0).val = i.val := fun i => by
    show 0 + 0 + i.val = i.val
    omega
  have h1 : ((gather_S256x4x192_S64x1_S256x4x64_01_2_n_n_2_1_25641.operandIdx (ix3 i h j) (tab lit0)) 1).val = h.val := by
    show 0 + 0 + h.val = h.val
    omega
  have h2 : ∀ j : Fin 64, (((gather_S256x4x192_S64x1_S256x4x64_01_2_n_n_2_1_25641.operandIdx (ix3 0 0 j) (tab lit0)) 2).val = 128 + (swp j).val) := by decide +kernel
  unfold Host.gather
  refine congrArg x (funext fun a => ?_)
  match a with
  | ⟨0, _⟩ => exact Fin.ext (h0 i)
  | ⟨1, _⟩ => exact Fin.ext h1
  | ⟨2, _⟩ => exact Fin.ext (h2 j)

/-- The rotary tables' entries. -/
def cs (r : Fin 2048) (j : Fin 32) : EReal := Ideal.cos (angT (ix2 r j))
def sn (r : Fin 2048) (j : Fin 32) : EReal := Ideal.sin (angT (ix2 r j))

theorem cosT_at (r : Fin 2048) (j : Fin 128) :
    cosT (ix2 r j) = if h : j.val < 32 then cs r ⟨j, h⟩ else if h : j.val < 64 then cs r ⟨j - 32, by omega⟩ else 0 := by
  unfold cosT cs
  generalize angT = A
  pointwise [cat3, zeroT]
  by_cases h1 : (j : ℕ) < 32
  · simp only [h1, dite_true]
  by_cases h2 : (j : ℕ) < 64
  · simp only [h1, h2, dite_true, dite_false, show (j : ℕ) - 32 < 32 by omega]
  · simp only [h1, h2, dite_true, dite_false, show ¬ (j : ℕ) - 32 < 32 by omega]

theorem sinT_at (r : Fin 2048) (j : Fin 128) :
    sinT (ix2 r j) = if h : j.val < 32 then - sn r ⟨j, h⟩ else if h : j.val < 64 then sn r ⟨j - 32, by omega⟩ else 0 := by
  unfold sinT sn
  generalize angT = A
  pointwise [cat3, zeroT]
  by_cases h1 : (j : ℕ) < 32
  · simp only [h1, dite_true]
  by_cases h2 : (j : ℕ) < 64
  · simp only [h1, h2, dite_true, dite_false, show (j : ℕ) - 32 < 32 by omega]
  · simp only [h1, h2, dite_true, dite_false, show ¬ (j : ℕ) - 32 < 32 by omega]

theorem wqT_at (w : FVec Ideal S256x768 .f32) (i : Fin 256) (h : Fin 4) (e : Fin 256) :
    wqT w (ix2 i ⟨256 * h + e, Cert.MlaSpec.e256 h e⟩)
      = if he : e.val < 192 then w (ix2 i ⟨192 * h + e, Cert.MlaSpec.e192 h ⟨e, he⟩⟩)
        else w (ix2 i ⟨192 * h + (128 + swp ⟨e - 192, by omega⟩), Cert.MlaSpec.e192 h ⟨128 + swp ⟨e - 192, by omega⟩, by omega⟩⟩) := by
  have hg := gather_w (shapeCast S256x4x192 w shapeCasts_S256x768_S256x4x192) i h
  unfold wqT
  generalize Host.gather gather_S256x4x192_S64x1_S256x4x64_01_2_n_n_2_1_25641 (shapeCast S256x4x192 w shapeCasts_S256x768_S256x4x192) (tab lit0) = G at hg ⊢
  have e1 : (256 * h.val + e.val) / 256 = h.val := by omega
  have e2 : (256 * h.val + e.val) % 256 = e.val := by omega
  pointwise []
  simp only [mul_comm h.val 192]
  split
  · rfl
  · rw [hg]
    pointwise []
    simp only [mul_comm h.val 192]

theorem gainT_0 (l : Fin 64 → BitVec 32) (g : FVec Ideal S192 .f32) (j : Fin 128) : gainT l g (ix2 0 j) = g (ix1 ⟨j, by omega⟩) := by
  pointwise [gainT, stack3]

theorem gainT_1 (l : Fin 64 → BitVec 32) (g : FVec Ideal S192 .f32) (j : Fin 128) :
    gainT l g (ix2 1 j) = if h : j.val < 64 then g (ix1 ⟨128 + j, by omega⟩) else 0 := by
  pointwise [gainT, stack3, zero64]

theorem gainT_2 (l : Fin 64 → BitVec 32) (g : FVec Ideal S192 .f32)
    (hl : ∀ j, Host.gather gather_S192_S64x1_S64_n_0_n_n_0_1_1 g (tab l) (ix1 j) = g (ix1 ⟨128 + swp j, by omega⟩)) (j : Fin 128) :
    gainT l g (ix2 2 j) = if h : j.val < 64 then g (ix1 ⟨128 + swp ⟨j, h⟩, by omega⟩) else 0 := by
  unfold gainT
  generalize Host.gather gather_S192_S64x1_S64_n_0_n_n_0_1_1 g (tab l) = G at hl ⊢
  pointwise [stack3, zero64]
  simp only [hl]

/-! ## The blocks the kernel reads -/

theorem blkZ (c : Dev nD) (t : Fin cfg0.N) (r : Fin 2048) (x : Fin 512) :
    kZ m c t (ix3 0 r x) = m ((c : Thread nD τ).loc main_arg0) (ix3 (⟨t.val, (idx t).2.2.2.2.2.2.2.2.2.2.2.1⟩ : Fin 32) r x) := by
  blk_simp [iblk, idx t]
  entry_read
  blk_ext [idx t]

theorem blkC (c : Dev nD) (t : Fin cfg0.N) (r : Fin 2048) (j : Fin 128) : kC m c t (ix2 r j) = cosT (ix2 r j) := by
  rw [← entry_v18 m c]
  blk_simp [iblk, idx t]
  blk_ext [idx t]

theorem blkS (c : Dev nD) (t : Fin cfg0.N) (r : Fin 2048) (j : Fin 128) : kS m c t (ix2 r j) = sinT (ix2 r j) := by
  rw [← entry_v20 m c]
  blk_simp [iblk, idx t]
  blk_ext [idx t]

theorem blkGcq (c : Dev nD) (t : Fin cfg0.N) (x : Fin 256) : kGcq m c t (ix2 0 x) = m ((c : Thread nD τ).loc main_arg1) (ix1 x) := by
  have e : shapeCast S1x256 (m ((c : Thread nD τ).loc main_arg1)) shapeCasts_S256_S1x256 (ix2 0 x) = m ((c : Thread nD τ).loc main_arg1) (ix1 x) := by
    pointwise []
  rw [← e, ← entry_v31 m c]
  blk_simp [iblk, idx t]
  blk_ext [idx t]

theorem blkGckv (c : Dev nD) (t : Fin cfg0.N) (x : Fin 128) : kGckv m c t (ix2 0 x) = m ((c : Thread nD τ).loc main_arg3) (ix1 x) := by
  have e : shapeCast S1x128 (m ((c : Thread nD τ).loc main_arg3)) shapeCasts_S128_S1x128 (ix2 0 x) = m ((c : Thread nD τ).loc main_arg3) (ix1 x) := by
    pointwise []
  rw [← e, ← entry_v32 m c]
  blk_simp [iblk, idx t]
  blk_ext [idx t]

theorem blkWq (c : Dev nD) (t : Fin cfg0.N) (i : Fin 256) (e : Fin 1024) : kWq m c t (ix2 i e) = wqT (m ((c : Thread nD τ).loc main_arg2)) (ix2 i e) := by
  rw [← entry_v29 m c]
  blk_simp [iblk, idx t]
  blk_ext [idx t]

theorem blkWkv (c : Dev nD) (t : Fin cfg0.N) (i : Fin 128) (e : Fin 1024) : kWkv m c t (ix2 i e) = m ((c : Thread nD τ).loc main_arg4) (ix2 i e) := by
  have h : truncf (F := Ideal) (s := S128x1024) (φ := .f32) .bf16 (m ((c : Thread nD τ).loc main_arg4)) bitsLt_bf16_f32 (ix2 i e)
      = m ((c : Thread nD τ).loc main_arg4) (ix2 i e) := rfl
  rw [← h, ← entry_v30 m c]
  blk_simp [iblk, idx t]
  blk_ext [idx t]

theorem blkGq (c : Dev nD) (t : Fin cfg0.N) (i : Fin 3) (j : Fin 128) : kGq m c t (ix2 i j) = gainT lit1 (m ((c : Thread nD τ).loc main_arg5)) (ix2 i j) := by
  rw [← entry_v46 m c]
  blk_simp [iblk, idx t]
  blk_ext [idx t]

theorem blkGk (c : Dev nD) (t : Fin cfg0.N) (i : Fin 3) (j : Fin 128) : kGk m c t (ix2 i j) = gainT lit2 (m ((c : Thread nD τ).loc main_arg6)) (ix2 i j) := by
  rw [← entry_v60 m c]
  blk_simp [iblk, idx t]
  blk_ext [idx t]

/-! ## The tables are real numbers -/

open Cert.MlaMath in
theorem ang_fin (r : Fin 2048) (j : Fin 32) : IsReal (angT (ix2 r j)) := by
  have h1 : ∀ w : BitVec 32, IsReal (FloatOps.sitofp (F := Ideal) FTy.f32 w : EReal) := fun w => ⟨_, rfl⟩
  have h2 : Ideal.ofBits .f32 0x461C4000#32 = ((10000 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x42800000#32 = ((64 : ℝ) : EReal) := by simp [Ideal.ofBits, Ideal.ieee, -EReal.coe_mul]; norm_num
  pointwise [angT]
  rw [h2, h3, h4, div_of _ _ (by norm_num)]
  refine fin_mul (h1 _) ?_
  obtain ⟨a, ha⟩ := h1 (BitVec.ofNat 32 j.val)
  rw [ha, ← EReal.coe_mul, ← EReal.coe_mul]
  have hp : Ideal.pow ((10000 : ℝ) : EReal) ((a * 2 * (1 / 64) : ℝ) : EReal) = (((10000 : ℝ) ^ (a * 2 * (1 / 64)) : ℝ) : EReal) := rfl
  rw [hp, div_of _ _ (Real.rpow_pos_of_pos (by norm_num) _)]
  exact fin_mul ⟨1, rfl⟩ (fin_coe _)

open Cert.MlaMath in
theorem cs_fin (r : Fin 2048) (j : Fin 32) : IsReal (cs r j) := by
  obtain ⟨a, ha⟩ := ang_fin r j
  unfold cs
  rw [ha]
  exact ⟨Real.cos a, rfl⟩

open Cert.MlaMath in
theorem sn_fin (r : Fin 2048) (j : Fin 32) : IsReal (sn r j) := by
  obtain ⟨a, ha⟩ := ang_fin r j
  unfold sn
  rw [ha]
  exact ⟨Real.sin a, rfl⟩

end Cert.Mla
-- ==== Proof.MlaBound.lean ====
/- The bound the kernel shifts the scores by is a real number when the gains are. -/
module

public import proofs.«01_k».proof.Proof.MlaMath
public import proofs.«01_k».proof.Proof.MlaPay

@[expose] public section

noncomputable section

namespace Cert.Mla

open Idealize.ShloMosaic Idealize.ShloMosaic.TcCoe Cert.MlaMath
open Cert.Kernel3Ideal Cert.Kernel3Ideal.Gen

theorem bound_fin (gq gk : FVec Ideal S3x128 .f32) (hq : ∀ i j, IsReal (gq (ix2 i j))) (hk : ∀ i j, IsReal (gk (ix2 i j))) :
    IsReal (k0_pay148 (F := Ideal) gq gk) := by
  pointwise [k0_pay148, k0_pay147]
  have ha (x : EReal) (hx : IsReal x) : IsReal (FloatOps.absf (F := Ideal) (φ := .f32) x) := by
    have e : FloatOps.absf (F := Ideal) (φ := .f32) x = max x (-x) := rfl
    rw [e]
    rcases max_choice x (-x) with h | h <;> rw [h]
    · exact hx
    · exact fin_neg hx
  refine fin_mul (fin_mul ⟨_, IdealRules.named_const.ideal_named_scalar _ _ _ _ rfl⟩ ?_) ?_
  · exact fold_max_fin (ι := Fin 2 × Fin 128) _ (fun x => ha _ (hq _ _)) _ ofBits_ninf
  · exact fold_max_fin (ι := Fin 2 × Fin 128) _ (fun x => ha _ (hk _ _)) _ ofBits_ninf

end Cert.Mla
end
-- ==== Proof.MlaEq.lean ====
/- The kernel's keys, values, queries and scores are the row-by-row attention's: norms before or after the rotation, the rope lanes held twice, the scale split in two. -/
module

public import proofs.«01_k».proof.Proof.MlaSpec
public import proofs.«01_k».proof.Proof.MlaBound
public import proofs.«01_k».proof.Proof.MlaLoop

@[expose] public section

set_option maxRecDepth 16384

noncomputable section

namespace Cert.Mla

open Idealize.ShloMosaic Idealize.ShloMosaic.TcCoe
open Cert.Kernel3Ideal Cert.Kernel3Ideal.Gen
open Cert.MlaMath
open Cert.MlaSpec (rms nrm rv swp cq ckv uq kv uk score top out e192 e256)

/-! ## Rows of one head -/

/-- One over the root mean square of a head's row. -/
def invOf (u : Fin 192 → EReal) : EReal := Ideal.rsqrt ((∑ i, u i * u i) * ((1 / 192 : ℝ) : EReal) + Ideal.ofBits .f32 0x358637BD#32)

theorem nrm_eq (u g : Fin 192 → EReal) (x : Fin 192) : nrm u g x = u x * invOf u * g x := rfl

theorem invOf_ok (u : Fin 192 → EReal) : 0 ≤ invOf u ∧ invOf u ≠ ⊤ := by
  have hs : 0 ≤ ∑ i, u i * u i := Finset.sum_nonneg fun i _ => sq_nonneg' _
  have h := rsqrt_cases (mul_nonneg hs (show (0 : EReal) ≤ ((1 / 192 : ℝ) : EReal) by exact_mod_cast (by norm_num : (0 : ℝ) ≤ 1 / 192))) ofBits_eps
  exact ⟨h.1, h.2.1⟩

/-- The tables' lanes. -/
def cl2 (c : Fin 32 → EReal) (j : Fin 64) : EReal := if h : j.val < 32 then c ⟨j, h⟩ else c ⟨j - 32, by omega⟩
def sl2 (s : Fin 32 → EReal) (j : Fin 64) : EReal := if h : j.val < 32 then - s ⟨j, h⟩ else s ⟨j - 32, by omega⟩

/-- The rotated lane before the norm, times one over the root mean square, is the normed lane rotated. -/
theorem rope_rv (u g : Fin 192 → EReal) (c s : Fin 32 → EReal) (j : Fin 64) :
    (u ⟨128 + j, by omega⟩ * cl2 c j * g ⟨128 + j, by omega⟩ + u ⟨128 + swp j, by omega⟩ * sl2 s j * g ⟨128 + swp j, by omega⟩) * invOf u
      = rv u g c s ⟨128 + j, by omega⟩ := by
  obtain ⟨h0, h1⟩ := invOf_ok u
  unfold rv cl2 sl2
  have n1 : ¬ (128 + j.val) < 128 := by omega
  by_cases h : j.val < 32
  · have e1 : swp j = ⟨j + 32, by omega⟩ := by unfold swp; rw [dif_pos h]
    simp only [e1, h, n1, dite_true, dite_false, show 128 + j.val < 160 by omega, nrm_eq, show 128 + j.val - 128 = j.val by omega, show 128 + (j.val + 32) = 128 + j.val + 32 by omega]
    exact rot_sub h0 h1 _ _ _ _ _ _
  · have e1 : swp j = ⟨j - 32, by omega⟩ := by unfold swp; rw [dif_neg h]
    simp only [e1, h, n1, dite_true, dite_false, show ¬ 128 + j.val < 160 by omega, nrm_eq, show 128 + j.val - 160 = j.val - 32 by omega, show 128 + (j.val - 32) = 128 + j.val - 32 by omega]
    exact rot_add h0 h1 _ _ _ _ _ _

theorem lt64 (e : Fin 256) : e.val - 192 < 64 := by omega
theorem lt192 (j : Fin 64) : 128 + j.val < 192 := by omega
theorem low192 (j : Fin 128) : j.val < 192 := by omega

section Block

variable (Z : FVec Ideal S1x2048x512 .bf16) (C S : FVec Ideal S2048x128 .f32) (gcq : FVec Ideal S1x256 .f32) (Wq : FVec Ideal S256x1024 .bf16)
  (gckv : FVec Ideal S1x128 .f32) (Wkv : FVec Ideal S128x1024 .bf16) (gq gk : FVec Ideal S3x128 .f32)
  (zm : FVec Ideal S32x2048x512 .bf16) (a1 : FVec Ideal S256 .f32) (a2 : FVec Ideal S256x768 .f32) (a3 : FVec Ideal S128 .f32)
  (a4 : FVec Ideal S128x1024 .f32) (a5 a6 : FVec Ideal S192 .f32) (c s : Fin 2048 → Fin 32 → EReal) (b : Fin 32)
  (hZ : ∀ (r : Fin 2048) (x : Fin 512), Z (ix3 0 r x) = zm (ix3 b r x))
  (hC : ∀ (r : Fin 2048) (j : Fin 128), C (ix2 r j) = if h : j.val < 64 then cl2 (c r) ⟨j, h⟩ else 0)
  (hS : ∀ (r : Fin 2048) (j : Fin 128), S (ix2 r j) = if h : j.val < 64 then sl2 (s r) ⟨j, h⟩ else 0)
  (hgcq : ∀ x : Fin 256, gcq (ix2 0 x) = a1 (ix1 x))
  (hWq : ∀ (i : Fin 256) (h : Fin 4) (e : Fin 256), Wq (ix2 i ⟨256 * h + e, e256 h e⟩) = if he : e.val < 192 then a2 (ix2 i ⟨192 * h + e, e192 h ⟨e, he⟩⟩)
        else a2 (ix2 i ⟨192 * h + (128 + swp ⟨e - 192, lt64 e⟩), e192 h ⟨128 + swp ⟨e - 192, lt64 e⟩, lt192 _⟩⟩))
  (hgckv : ∀ x : Fin 128, gckv (ix2 0 x) = a3 (ix1 x))
  (hWkv : ∀ (i : Fin 128) (e : Fin 1024), Wkv (ix2 i e) = a4 (ix2 i e))
  (hgq0 : ∀ j : Fin 128, gq (ix2 0 j) = a5 (ix1 ⟨j, low192 j⟩))
  (hgq1 : ∀ j : Fin 128, gq (ix2 1 j) = if h : j.val < 64 then a5 (ix1 ⟨128 + j, lt192 ⟨j, h⟩⟩) else 0)
  (hgq2 : ∀ j : Fin 128, gq (ix2 2 j) = if h : j.val < 64 then a5 (ix1 ⟨128 + swp ⟨j, h⟩, lt192 _⟩) else 0)
  (hgk0 : ∀ j : Fin 128, gk (ix2 0 j) = a6 (ix1 ⟨j, low192 j⟩))
  (hgk1 : ∀ j : Fin 128, gk (ix2 1 j) = if h : j.val < 64 then a6 (ix1 ⟨128 + j, lt192 ⟨j, h⟩⟩) else 0)
  (hgk2 : ∀ j : Fin 128, gk (ix2 2 j) = if h : j.val < 64 then a6 (ix1 ⟨128 + swp ⟨j, h⟩, lt192 _⟩) else 0)

theorem inv192_val : inv192 = ((1 / 192 : ℝ) : EReal) := IdealRules.named_const.ideal_named_scalar _ _ _ _ rfl
theorem qkScale_val : qkScale = (((Real.sqrt 192)⁻¹ * (Real.log 2)⁻¹ : ℝ) : EReal) := IdealRules.named_const.ideal_named_scalar _ _ _ _ rfl

include hZ hgcq in
theorem cqn_eq (r : Fin 2048) (x : Fin 256) : cqn Z gcq r x = cq zm a1 b r x := by
  unfold cqn cq rms
  simp only [hZ, hgcq, ofBits_inv256]

include hZ hgckv in
theorem ckvn_eq (r : Fin 2048) (x : Fin 128) : ckvn Z gckv r x = ckv zm a3 b r x := by
  unfold ckvn ckv rms
  simp only [hZ, hgckv]
  rw [ofBits_128, div_of _ _ (by norm_num)]

include hZ hgckv hWkv in
theorem kvAll_eq (h : Fin 4) (r : Fin 2048) (e : Fin 256) : kvAll Z gckv Wkv r ⟨256 * h + e, e256 h e⟩ = kv zm a3 a4 b h r e := by
  unfold kvAll kv
  simp only [ckvn_eq Z gckv zm a3 b hZ hgckv, hWkv]

include hZ hgcq hWq in
theorem qAll_eq (h : Fin 4) (r : Fin 2048) (e : Fin 256) : qAll Z gcq Wq r ⟨256 * h + e, e256 h e⟩
    = if he : e.val < 192 then uq zm a1 a2 b h r ⟨e, he⟩ else uq zm a1 a2 b h r ⟨128 + swp ⟨e - 192, by omega⟩, by omega⟩ := by
  unfold qAll uq
  simp only [cqn_eq Z gcq zm a1 b hZ hgcq, hWq]
  split <;> rfl

theorem uk_lo (h : Fin 4) (r : Fin 2048) (x : Fin 128) : uk zm a3 a4 b h r ⟨x, by omega⟩ = kv zm a3 a4 b h r ⟨x, by omega⟩ := by
  unfold uk
  rw [dif_pos x.isLt]

theorem uk_hi (h : Fin 4) (r : Fin 2048) (x : Fin 64) : uk zm a3 a4 b h r ⟨128 + x, by omega⟩ = zm (ix3 b r ⟨384 + x, by omega⟩) := by
  unfold uk
  rw [dif_neg (by simp)]
  simp only [Nat.add_sub_cancel_left]

include hZ hgckv hWkv in
theorem kInv_eq (h : Fin 4) (r : Fin 2048) : kInv Z gckv Wkv h r = invOf (uk zm a3 a4 b h r) := by
  have hk (x : Fin 128) : kvAll Z gckv Wkv r ⟨256 * h + x, by omega⟩ = uk zm a3 a4 b h r ⟨x, by omega⟩ :=
    (kvAll_eq Z gckv Wkv zm a3 a4 b hZ hgckv hWkv h r ⟨x, by omega⟩).trans (uk_lo zm a3 a4 b h r x).symm
  have hs : (∑ x : Fin 128, (kvAll Z gckv Wkv r ⟨256 * h + x, by omega⟩ * kvAll Z gckv Wkv r ⟨256 * h + x, by omega⟩
      + if x.val < 64 then Z (ix3 0 r ⟨384 + x, by omega⟩) * Z (ix3 0 r ⟨384 + x, by omega⟩) else 0)) = ∑ i, uk zm a3 a4 b h r i * uk zm a3 a4 b h r i := by
    rw [Cert.MlaSpec.sum_192, Finset.sum_add_distrib, ← Cert.MlaSpec.sum_pad]
    refine congrArg₂ (· + ·) (Finset.sum_congr rfl fun x _ => by rw [hk]) (Finset.sum_congr rfl fun x _ => ?_)
    by_cases hx : x.val < 64
    · rw [if_pos hx, dif_pos hx, hZ, uk_hi zm a3 a4 b h r ⟨x, hx⟩]
    · rw [if_neg hx, dif_neg hx]
  unfold kInv invOf
  rw [hs, inv192_val]

include hZ hC hS hgk1 hgk2 in
theorem kRope_eq (h : Fin 4) (r : Fin 2048) (j : Fin 128) : kRope Z C S gk r j
    = if hj : j.val < 64 then uk zm a3 a4 b h r ⟨128 + j, by omega⟩ * cl2 (c r) ⟨j, hj⟩ * a6 (ix1 ⟨128 + j, by omega⟩)
        + uk zm a3 a4 b h r ⟨128 + swp ⟨j, hj⟩, by omega⟩ * sl2 (s r) ⟨j, hj⟩ * a6 (ix1 ⟨128 + swp ⟨j, hj⟩, by omega⟩) else 0 := by
  unfold kRope
  simp only [hC, hS, hgk1, hgk2, hZ]
  by_cases hj : j.val < 64
  · simp only [hj, dite_true]
    have e0 := uk_hi zm a3 a4 b h r ⟨j, hj⟩
    have e1 := uk_hi zm a3 a4 b h r (swp ⟨j, hj⟩)
    have e2 : (if j.val < 32 then zm (ix3 b r ⟨384 + (j.val + 128 - 96) % 128, by omega⟩) else zm (ix3 b r ⟨384 + (j.val + 128 - 32) % 128, by omega⟩))
        = uk zm a3 a4 b h r ⟨128 + swp ⟨j, hj⟩, by omega⟩ := by
      rw [e1]
      unfold swp
      by_cases h3 : j.val < 32
      · simp only [h3, if_true, dite_true, show (j.val + 128 - 96) % 128 = j + 32 by omega]
      · simp only [h3, if_false, dite_false, show (j.val + 128 - 32) % 128 = j - 32 by omega]
    rw [e2]
    refine congrArg₂ (· + ·) ?_ rfl
    rw [← e0]
  · simp only [hj, dite_false, mul_zero, zero_mul, add_zero]

include hZ hC hS hgckv hWkv hgk0 hgk1 hgk2 in
/-- A key lane. -/
theorem keyAt_eq (h : Fin 4) (r : Fin 2048) (j : Fin 256) : keyAt Z C S gckv Wkv gk h r j
    = if hj : j.val < 192 then rv (uk zm a3 a4 b h r) (fun x => a6 (ix1 x)) (c r) (s r) ⟨j, hj⟩ else 0 := by
  unfold keyAt
  rw [kInv_eq Z gckv Wkv zm a3 a4 b hZ hgckv hWkv]
  by_cases h1 : j.val < 128
  · rw [dif_pos h1, dif_pos (by omega), hgk0]
    unfold rv
    rw [dif_pos h1, nrm_eq]
    have e := kvAll_eq Z gckv Wkv zm a3 a4 b hZ hgckv hWkv h r j
    rw [e]
    have e' := uk_lo zm a3 a4 b h r ⟨j, h1⟩
    rw [e']
  · rw [dif_neg h1, kRope_eq Z C S gk zm a3 a4 a6 c s b hZ hC hS hgk1 hgk2 h]
    by_cases h2 : j.val < 192
    · have e : (⟨128 + (j.val - 128), by omega⟩ : Fin 192) = ⟨j, h2⟩ := Fin.ext (by simp; omega)
      rw [dif_pos (by simp; omega), dif_pos h2, ← e]
      exact rope_rv (uk zm a3 a4 b h r) (fun x => a6 (ix1 x)) (c r) (s r) ⟨j - 128, by omega⟩
    · rw [dif_neg (by simp; omega), dif_neg h2, zero_mul]

include hZ hgcq hWq in
theorem qInv_eq (h : Fin 4) (r : Fin 2048) : qInv Z gcq Wq h r = invOf (uq zm a1 a2 b h r) * qkScale := by
  have h1 (x : Fin 128) : qAll Z gcq Wq r ⟨256 * h + x, by omega⟩ = uq zm a1 a2 b h r ⟨x, by omega⟩ :=
    (qAll_eq Z gcq Wq zm a1 a2 b hZ hgcq hWq h r ⟨x, by omega⟩).trans (dif_pos (by simp; omega))
  have h2 (x : Fin 64) : qAll Z gcq Wq r ⟨256 * h + (128 + x), by omega⟩ = uq zm a1 a2 b h r ⟨128 + x, by omega⟩ :=
    (qAll_eq Z gcq Wq zm a1 a2 b hZ hgcq hWq h r ⟨128 + x, by omega⟩).trans (dif_pos (by simp; omega))
  have h3 (x : Fin 64) : qAll Z gcq Wq r ⟨256 * h + (128 + (64 + x)), by omega⟩ = uq zm a1 a2 b h r ⟨128 + swp x, by omega⟩ :=
    (qAll_eq Z gcq Wq zm a1 a2 b hZ hgcq hWq h r ⟨128 + (64 + x), by omega⟩).trans
      ((dif_neg (by simp; omega)).trans (by
        have e : (⟨128 + (64 + x.val) - 192, by omega⟩ : Fin 64) = x := Fin.ext (by simp; omega)
        simp only [e]))
  have hs : (∑ x : Fin 128, (qAll Z gcq Wq r ⟨256 * h + x, by omega⟩ * qAll Z gcq Wq r ⟨256 * h + x, by omega⟩
      + Ideal.ofBits .f32 0x3F000000#32 * (qAll Z gcq Wq r ⟨256 * h + (128 + x), by omega⟩ * qAll Z gcq Wq r ⟨256 * h + (128 + x), by omega⟩)))
      = ∑ i, uq zm a1 a2 b h r i * uq zm a1 a2 b h r i := by
    rw [Cert.MlaSpec.sum_192, Finset.sum_add_distrib]
    refine congrArg₂ (· + ·) (Finset.sum_congr rfl fun x _ => by rw [h1]) ?_
    rw [Fin.sum_univ_two_halves 64 64 rfl]
    simp only [h2, h3]
    rw [Cert.MlaSpec.sum_swp (fun x => Ideal.ofBits .f32 0x3F000000#32 * (uq zm a1 a2 b h r ⟨128 + x, by omega⟩ * uq zm a1 a2 b h r ⟨128 + x, by omega⟩)), ← Finset.sum_add_distrib]
    exact Finset.sum_congr rfl fun x _ => half_add ofBits_half (sq_nonneg' _)
  unfold qInv invOf
  rw [hs, inv192_val]

include hZ hC hS hgcq hWq hgq0 hgq1 hgq2 in
/-- A query lane. -/
theorem qryAt_eq (h : Fin 4) (r : Fin 2048) (j : Fin 256) : qryAt Z C S gcq Wq gq h r j
    = if hj : j.val < 192 then rv (uq zm a1 a2 b h r) (fun x => a5 (ix1 x)) (c r) (s r) ⟨j, hj⟩ * qkScale else 0 := by
  have hq := qAll_eq Z gcq Wq zm a1 a2 b hZ hgcq hWq h r
  unfold qryAt
  rw [qInv_eq Z gcq Wq zm a1 a2 b hZ hgcq hWq]
  by_cases h1 : j.val < 128
  · rw [dif_pos h1, dif_pos (by omega), hgq0]
    unfold rv
    rw [dif_pos h1, nrm_eq, hq j, dif_pos (by omega)]
    rw [← mul_assoc (uq zm a1 a2 b h r _)]
    exact mul_right_comm _ _ _
  · rw [dif_neg h1]
    simp only [hC, hS, hgq1, hgq2]
    by_cases h2 : j.val < 192
    · have hj : j.val - 128 < 64 := by omega
      have e : (⟨128 + (j.val - 128), by omega⟩ : Fin 192) = ⟨j, h2⟩ := Fin.ext (by simp; omega)
      have e1 : qAll Z gcq Wq r ⟨256 * h + (128 + (j.val - 128)), by omega⟩ = uq zm a1 a2 b h r ⟨128 + (j.val - 128), by omega⟩ :=
        (hq ⟨128 + (j.val - 128), by omega⟩).trans (dif_pos (by simp; omega))
      have e2 : qAll Z gcq Wq r ⟨256 * h + (128 + ((j.val - 128) + 128 - 64) % 128), by omega⟩ = uq zm a1 a2 b h r ⟨128 + swp ⟨j - 128, hj⟩, by omega⟩ := by
        refine (hq ⟨128 + ((j.val - 128) + 128 - 64) % 128, by omega⟩).trans ((dif_neg (by simp; omega)).trans ?_)
        have e : (⟨128 + ((j.val - 128) + 128 - 64) % 128 - 192, by omega⟩ : Fin 64) = ⟨j - 128, hj⟩ := Fin.ext (by simp; omega)
        simp only [e]
      rw [dif_pos h2, e1, e2, ← e, ← rope_rv (uq zm a1 a2 b h r) (fun x => a5 (ix1 x)) (c r) (s r) ⟨j - 128, hj⟩]
      simp only [hj, dite_true]
      rw [← mul_assoc (_ + _), ← mul_assoc, ← mul_assoc]
    · simp only [show ¬ j.val - 128 < 64 by omega, h2, dite_false, mul_zero, zero_mul, add_zero]

include hZ hC hS hgcq hWq hgckv hWkv hgq0 hgq1 hgq2 hgk0 hgk1 hgk2 in
/-- A score, in powers of two. -/
theorem scores_eq (h : Fin 4) (r k : Fin 2048) :
    scores (keyF Z C S gckv Wkv gk) h (qryAt Z C S gcq Wq gq h r) k
      = score zm a1 a2 a3 a4 a5 a6 c s b h r k * (((Real.log 2)⁻¹ : ℝ) : EReal) := by
  have hk : ∀ x : Fin 256, keyF Z C S gckv Wkv gk (ix3 h k x) = keyAt Z C S gckv Wkv gk h k x := fun _ => rfl
  unfold scores score
  simp only [hk, keyAt_eq Z C S gckv Wkv gk zm a3 a4 a6 c s b hZ hC hS hgckv hWkv hgk0 hgk1 hgk2,
    qryAt_eq Z C S gcq Wq gq zm a1 a2 a5 c s b hZ hC hS hgcq hWq hgq0 hgq1 hgq2]
  rw [Fin.sum_univ_two_halves 192 64 rfl]
  have n1 (x : Fin 192) : (x : ℕ) < 192 := x.isLt
  have n2 (x : Fin 64) : ¬ (192 + x : ℕ) < 192 := by omega
  simp only [n1, n2, dite_true, dite_false, mul_zero, Finset.sum_const_zero, add_zero]
  have hnn : (0 : ℝ) ≤ (Real.sqrt 192)⁻¹ * (Real.log 2)⁻¹ := mul_nonneg (inv_nonneg.2 (Real.sqrt_nonneg _)) (inv_nonneg.2 (Real.log_nonneg (by norm_num)))
  rw [mul_assoc, ← EReal.coe_mul, mul_sum_of _ _ (by exact_mod_cast hnn) (EReal.coe_ne_top _)]
  refine Finset.sum_congr rfl fun x _ => ?_
  rw [qkScale_val]
  exact mul_right_comm _ _ _

include hgq0 hgq1 hgq2 in
/-- The gains' three rows are real numbers. -/
theorem gain_fin (h5 : ∀ x, IsReal (a5 (ix1 x))) (i : Fin 3) (j : Fin 128) : IsReal (gq (ix2 i j)) := by
  match i with
  | 0 => rw [hgq0]; exact h5 _
  | 1 =>
    refine Eq.subst (motive := IsReal) (hgq1 j).symm ?_
    split
    · exact h5 _
    · exact fin_zero
  | 2 =>
    refine Eq.subst (motive := IsReal) (hgq2 j).symm ?_
    split
    · exact h5 _
    · exact fin_zero

/-- The shift is a real number when the bound and the scores are. -/
theorem shift_fin (f : BitVec 1) (v : EReal) (hv : IsReal v) (x : Fin 2048 → EReal) (hx : ∀ k, IsReal (x k)) : IsReal (shiftOf f v x) := by
  unfold shiftOf
  split
  · exact hv
  · unfold rowMax
    exact fold_max_fin _ hx _ ofBits_ninf

include hZ hC hS hgcq hWq hgckv hWkv hgq0 hgq1 hgq2 hgk0 hgk1 hgk2 in
/-- A block of the result: softmax of the scores over the values, whichever shift the kernel takes. -/
theorem blockF_eq (h5 : ∀ x, IsReal (a5 (ix1 x))) (h6 : ∀ x, IsReal (a6 (ix1 x))) (hc : ∀ r x, IsReal (c r x)) (hs : ∀ r x, IsReal (s r x)) (y : S1x2048x512.Idx) :
    blockF Z C S gcq Wq gckv Wkv gq gk y = out zm a1 a2 a3 a4 a5 a6 c s b (hd y) (y 1) (cl y) := by
  have hv : IsReal (k0_pay148 (F := Ideal) gq gk) := bound_fin gq gk (gain_fin gq a5 hgq0 hgq1 hgq2 h5) (gain_fin gk a6 hgk0 hgk1 hgk2 h6)
  have hsc := scores_eq Z C S gcq Wq gckv Wkv gq gk zm a1 a2 a3 a4 a5 a6 c s b hZ hC hS hgcq hWq hgckv hWkv hgq0 hgq1 hgq2 hgk0 hgk1 hgk2 (hd y) (y 1)
  have hf := Cert.MlaSpec.score_fin zm a1 a2 a3 a4 a5 a6 c s h5 h6 hc hs b (hd y) (y 1)
  have ht : IsReal (top zm a1 a2 a3 a4 a5 a6 c s b (hd y) (y 1)) := fold_max_fin _ hf _ ofBits_ninf
  have hval (k : Fin 2048) : valF Z gckv Wkv (ix3 (hd y) k ⟨cl y, by omega⟩) = kv zm a3 a4 b (hd y) k ⟨128 + cl y, by omega⟩ :=
    (dif_pos (cl y).isLt).trans (kvAll_eq Z gckv Wkv zm a3 a4 b hZ hgckv hWkv (hd y) k ⟨128 + cl y, by omega⟩)
  have hone (k : Fin 2048) : valF Z gckv Wkv (ix3 (hd y) k ⟨128 + cl y, by omega⟩) = 1 := dif_neg (by simp)
  unfold blockF attY att out
  generalize scores (keyF Z C S gckv Wkv gk) (hd y) (qryAt Z C S gcq Wq gq (hd y) (y 1)) = sc at hsc ⊢
  generalize top zm a1 a2 a3 a4 a5 a6 c s b (hd y) (y 1) = M at ht ⊢
  generalize score zm a1 a2 a3 a4 a5 a6 c s b (hd y) (y 1) = x at hsc hf ⊢
  simp only [hval, hone]
  generalize hw : (fun k : Fin 2048 => kv zm a3 a4 b (hd y) k ⟨128 + cl y, by omega⟩) = v
  have hw' (k : Fin 2048) : kv zm a3 a4 b (hd y) k ⟨128 + cl y, by omega⟩ = v k := congrFun hw k
  choose x' hx using hf
  obtain ⟨M', rfl⟩ := ht
  obtain ⟨β, hβ⟩ := shift_fin (flag gq gk) _ hv sc (fun k => by rw [hsc, hx]; exact ⟨_, (EReal.coe_mul _ _).symm⟩)
  have hsc' : sc = fun k => ((x' k * (Real.log 2)⁻¹ : ℝ) : EReal) := funext fun k => by rw [hsc, hx, EReal.coe_mul]
  rw [hβ, hsc']
  simp only [hx, hw']
  unfold softOut
  exact soft_eq x' v β M'

end Block

end Cert.Mla
end
-- ==== Proof.MlaRef.lean ====
/- The attention's reference, read at an index: the row-by-row attention over its arguments. -/
module

public import proofs.«01_k».proof.Proof.MlaSpec
public import proofs.«01_k».proof.Proof.Gen.Reference3Ideal.Read

@[expose] public section

set_option maxRecDepth 16384

noncomputable section

namespace Cert.Reference3Ideal.Mla

open Cert.Reference3Ideal Cert.Reference3Ideal.Gen Cert.Reference3Ideal.Read Idealize.ShloMosaic Idealize.ShloMosaic.TcCoe Idealize.SL.Sem
open Cert.MlaSpec Cert.MlaMath

variable (x0 : FVec Ideal S32x2048x512 .bf16) (x1 : FVec Ideal S256 .f32) (x2 : FVec Ideal S256x768 .f32) (x3 : FVec Ideal S128 .f32)
  (x4 : FVec Ideal S128x1024 .f32) (x5 x6 : FVec Ideal S192 .f32)

/-- The cosine and sine of an angle. -/
def rc (r : Fin 2048) (j : Fin 32) : EReal := val_main_v19 (F := Ideal) (ix2 r j)
def rs (r : Fin 2048) (j : Fin 32) : EReal := val_main_v20 (F := Ideal) (ix2 r j)

theorem v33_at (b : Fin 32) (r : Fin 2048) (x : Fin 256) : val_main_v33 (F := Ideal) x0 x1 (ix3 b r x) = cq x0 x1 b r x := by
  pointwise [val_main_v33, val_main_v32, val_main_v31, val_main_v30, val_main_v29, val_main_v28, val_main_v27, val_main_v26, val_main_v25, val_main_v24,
    val_main_v23, val_main_v22, val_main_v21, val_main_v1, val_main_v0, val_main_cst_3, val_main_cst_4, val_main_cst_5, cq, rms]
  rw [ofBits_256, div_of _ _ (by norm_num)]

theorem v48_at (b : Fin 32) (r : Fin 2048) (x : Fin 128) : val_main_v48 (F := Ideal) x0 x3 (ix3 b r x) = ckv x0 x3 b r x := by
  pointwise [val_main_v48, val_main_v47, val_main_v46, val_main_v45, val_main_v44, val_main_v43, val_main_v42, val_main_v41, val_main_v40, val_main_v39,
    val_main_v38, val_main_v37, val_main_v36, val_main_v2, val_main_v0, val_main_cst_6, val_main_cst_7, val_main_cst_8, ckv, rms]
  rw [ofBits_128, div_of _ _ (by norm_num)]

theorem v35_at (b : Fin 32) (r : Fin 2048) (h : Fin 4) (x : Fin 192) : val_main_v35 (F := Ideal) x0 x1 x2 (ix4 b r h x) = uq x0 x1 x2 b h r x := by
  pointwise [val_main_v35, val_main_v34, uq]
  simp only [v33_at]
  simp only [mul_comm h.val 192]

theorem v50_at (b : Fin 32) (r : Fin 2048) (h : Fin 4) (e : Fin 256) : val_main_v50 (F := Ideal) x0 x3 x4 (ix4 b r h e) = kv x0 x3 x4 b h r e := by
  pointwise [val_main_v50, val_main_v49, kv]
  simp only [v48_at]
  simp only [mul_comm h.val 256]

theorem v55_at (b : Fin 32) (r : Fin 2048) (h : Fin 4) (x : Fin 192) : val_main_v55 (F := Ideal) x0 x3 x4 (ix4 b r h x) = uk x0 x3 x4 b h r x := by
  pointwise [val_main_v55, val_main_v54, val_main_v53, val_main_v51, val_main_v3, val_main_v0]
  simp only [v50_at]
  unfold uk
  rfl

theorem v68_at (b : Fin 32) (r : Fin 2048) (h : Fin 4) (x : Fin 192) :
    val_main_v68 (F := Ideal) x0 x1 x2 x5 (ix4 b r h x) = nrm (uq x0 x1 x2 b h r) (fun x => x5 (ix1 x)) x := by
  pointwise [val_main_v68, val_main_v67, val_main_v66, val_main_v65, val_main_v64, val_main_v63, val_main_v62, val_main_v61, val_main_v60, val_main_v59,
    val_main_v58, val_main_v57, val_main_v56, val_main_cst_9, val_main_cst_10, val_main_cst_11, nrm, rms]
  simp only [v35_at]
  rw [ofBits_192, div_of _ _ (by norm_num)]

theorem v81_at (b : Fin 32) (r : Fin 2048) (h : Fin 4) (x : Fin 192) :
    val_main_v81 (F := Ideal) x0 x3 x4 x6 (ix4 b r h x) = nrm (uk x0 x3 x4 b h r) (fun x => x6 (ix1 x)) x := by
  pointwise [val_main_v81, val_main_v80, val_main_v79, val_main_v78, val_main_v77, val_main_v76, val_main_v75, val_main_v74, val_main_v73, val_main_v72,
    val_main_v71, val_main_v70, val_main_v69, val_main_cst_12, val_main_cst_13, val_main_cst_14, nrm, rms]
  simp only [v55_at]
  rw [ofBits_192, div_of _ _ (by norm_num)]

theorem v103_at (b : Fin 32) (r : Fin 2048) (h : Fin 4) (x : Fin 192) :
    val_main_v103 (F := Ideal) x0 x1 x2 x5 (ix4 b r h x) = rv (uq x0 x1 x2 b h r) (fun x => x5 (ix1 x)) (rc r) (rs r) x := by
  pointwise [val_main_v103, val_main_v102, val_main_v101, val_main_v100, val_main_v99, val_main_v98, val_main_v97, val_main_v96, val_main_v95, val_main_v94,
    val_main_v93, val_main_v92, val_main_v91, val_main_v90, val_main_v89, val_main_v88, val_main_v87, val_main_v86, val_main_v85, val_main_v84, val_main_v83, val_main_v82]
  simp only [v68_at]
  unfold rv rc rs
  by_cases h1 : (x : ℕ) < 128
  · simp only [h1, dite_true]
  by_cases h2 : (x : ℕ) < 160
  · simp only [h1, h2, dite_true, dite_false, show (x : ℕ) - 128 < 32 by omega, show 128 + ((x : ℕ) - 128) = x by omega,
      show 128 + (32 + ((x : ℕ) - 128)) = x + 32 by omega, Fin.eta]
  · simp only [h1, h2, dite_true, dite_false, show ¬ (x : ℕ) - 128 < 32 by omega, show (x : ℕ) - 128 - 32 = x - 160 by omega,
      show 128 + (32 + ((x : ℕ) - 160)) = x by omega, show 128 + ((x : ℕ) - 160) = x - 32 by omega, Fin.eta]

theorem v123_at (b : Fin 32) (r : Fin 2048) (h : Fin 4) (x : Fin 192) :
    val_main_v123 (F := Ideal) x0 x3 x4 x6 (ix4 b r h x) = rv (uk x0 x3 x4 b h r) (fun x => x6 (ix1 x)) (rc r) (rs r) x := by
  pointwise [val_main_v123, val_main_v122, val_main_v121, val_main_v120, val_main_v119, val_main_v118, val_main_v117, val_main_v116, val_main_v115, val_main_v114,
    val_main_v113, val_main_v112, val_main_v111, val_main_v110, val_main_v109, val_main_v108, val_main_v107, val_main_v106, val_main_v105, val_main_v104, val_main_v83, val_main_v82]
  simp only [v81_at]
  unfold rv rc rs
  by_cases h1 : (x : ℕ) < 128
  · simp only [h1, dite_true]
  by_cases h2 : (x : ℕ) < 160
  · simp only [h1, h2, dite_true, dite_false, show (x : ℕ) - 128 < 32 by omega, show 128 + ((x : ℕ) - 128) = x by omega,
      show 128 + (32 + ((x : ℕ) - 128)) = x + 32 by omega, Fin.eta]
  · simp only [h1, h2, dite_true, dite_false, show ¬ (x : ℕ) - 128 < 32 by omega, show (x : ℕ) - 128 - 32 = x - 160 by omega,
      show 128 + (32 + ((x : ℕ) - 160)) = x by omega, show 128 + ((x : ℕ) - 160) = x - 32 by omega, Fin.eta]

theorem v130_at (b : Fin 32) (h : Fin 4) (r k : Fin 2048) :
    val_main_v130 (F := Ideal) x0 x1 x2 x3 x4 x5 x6 (ix4 b h r k) = score x0 x1 x2 x3 x4 x5 x6 rc rs b h r k := by
  pointwise [val_main_v130, val_main_v129, val_main_v128, val_main_v127, val_main_v125, val_main_v124, val_main_cst_15, score]
  simp only [v103_at, v123_at]
  have h192 : Ideal.sqrt (Ideal.ofBits FTy.f32 1128267776#32) = ((Real.sqrt 192 : ℝ) : EReal) := by
    rw [ofBits_192, Ideal.sqrt_coe, if_neg (by norm_num)]
  rw [h192, div_of _ _ (Real.sqrt_pos.2 (by norm_num)), one_div]

end Cert.Reference3Ideal.Mla
end
-- ==== Proof.MlaRefOut.lean ====
/- The attention's reference, read at an index: softmax and the result. -/
module

public import proofs.«01_k».proof.Proof.MlaRef

@[expose] public section

set_option maxRecDepth 16384

noncomputable section

namespace Cert.Reference3Ideal.Mla

open Cert.Reference3Ideal Cert.Reference3Ideal.Gen Cert.Reference3Ideal.Read Idealize.ShloMosaic Idealize.ShloMosaic.TcCoe Idealize.SL.Sem
open Cert.MlaSpec Cert.MlaMath

variable (x0 : FVec Ideal S32x2048x512 .bf16) (x1 : FVec Ideal S256 .f32) (x2 : FVec Ideal S256x768 .f32) (x3 : FVec Ideal S128 .f32)
  (x4 : FVec Ideal S128x1024 .f32) (x5 x6 : FVec Ideal S192 .f32)

/-- The host's largest entry of a row, as a fold. -/
theorem host_max_at (s : FVec Ideal S32x4x2048x2048 .f32) (b : Fin 32) (h : Fin 4) (r : Fin 2048) :
    Host.reduce FloatOps.maximumf s (constant (F := Ideal) S_ .f32 0xFF800000#32) reducesTo_S32x4x2048x2048_S32x4x2048_d3 h_S_ (ix3 b h r)
      = Finset.fold max (Ideal.ofBits .f32 0xFF800000#32) (fun k => s (ix4 b h r k)) Finset.univ := by
  pointwise []

theorem max_at (a b : FVec Ideal S32x4x2048 .f32) (i : S32x4x2048.Idx) : maximumf a b i = max (a i) (b i) := rfl

theorem v131_at (b : Fin 32) (h : Fin 4) (r : Fin 2048) :
    val_main_v131 (F := Ideal) x0 x1 x2 x3 x4 x5 x6 (ix3 b h r) = top x0 x1 x2 x3 x4 x5 x6 rc rs b h r := by
  have hv := fun k => v130_at x0 x1 x2 x3 x4 x5 x6 b h r k
  unfold val_main_v131 val_main_cst_16 top
  simp only [← hv]
  exact host_max_at _ b h r

theorem v132_at (i : S32x4x2048.Idx) : val_main_v132 (F := Ideal) i = Ideal.ofBits .f32 0xFF800000#32 := by
  rw [val_main_v132_apply, val_main_cst_17_apply]
  rfl

theorem v133_at (b : Fin 32) (h : Fin 4) (r : Fin 2048) :
    val_main_v133 (F := Ideal) x0 x1 x2 x3 x4 x5 x6 (ix3 b h r) = top x0 x1 x2 x3 x4 x5 x6 rc rs b h r := by
  unfold val_main_v133
  rw [max_at, v131_at, v132_at, ofBits_ninf]
  exact max_eq_right bot_le

theorem v142_at (b : Fin 32) (h : Fin 4) (r : Fin 2048) (j : Fin 128) :
    val_main_v142 (F := Ideal) x0 x1 x2 x3 x4 x5 x6 (ix4 b h r j) = out x0 x1 x2 x3 x4 x5 x6 rc rs b h r j := by
  pointwise [val_main_v142, val_main_v141, val_main_v140, val_main_v139, val_main_v138, val_main_v137, val_main_v136, val_main_v135, val_main_v134, val_main_v126,
    val_main_v52, val_main_cst_18, out]
  simp only [v130_at, v133_at, v50_at]

theorem v145_at (b : Fin 32) (r : Fin 2048) (y : Fin 512) :
    val_main_v145 (F := Ideal) x0 x1 x2 x3 x4 x5 x6 (ix3 b r y)
      = out x0 x1 x2 x3 x4 x5 x6 rc rs b ⟨y / 128, by omega⟩ r ⟨y % 128, by omega⟩ := by
  pointwise [val_main_v145, val_main_v144, val_main_v143]
  simp only [v142_at]

end Cert.Reference3Ideal.Mla
end
-- ==== Proof.MlaValueClaim.lean ====
/- The attention call and its plain reference compute the same array over the extended reals. -/
module

public import proofs.«01_k».proof.Proof.MlaClaim
public import proofs.«01_k».proof.Proof.MlaGain
public import proofs.«01_k».proof.Proof.MlaHost
public import proofs.«01_k».proof.Proof.MlaEq
public import proofs.«01_k».proof.Proof.MlaFinal
public import proofs.«01_k».proof.Proof.MlaRefOut

@[expose] public section

set_option maxRecDepth 16384

noncomputable section

namespace Cert.Mla

open Idealize.ShloMosaic Idealize.ShloMosaic.TcCoe Idealize.SL.Sem
open Cert.Kernel3Ideal Cert.Kernel3Ideal.Gen
open Cert.MlaMath
open Cert.MlaSpec (out e192 e256 swp)

/-! ## The two programs' rotary tables -/

theorem ang_eq : Cert.Reference3Ideal.Read.val_main_v18 (F := Ideal) = angT := rfl

theorem rc_eq : Cert.Reference3Ideal.Mla.rc = cs := by
  funext r j
  unfold Cert.Reference3Ideal.Mla.rc cs Cert.Reference3Ideal.Read.val_main_v19
  rw [ang_eq]
  rfl

theorem rs_eq : Cert.Reference3Ideal.Mla.rs = sn := by
  funext r j
  unfold Cert.Reference3Ideal.Mla.rs sn Cert.Reference3Ideal.Read.val_main_v20
  rw [ang_eq]
  rfl

theorem cosT_at' (r : Fin 2048) (j : Fin 128) : cosT (ix2 r j) = if h : j.val < 64 then cl2 (cs r) ⟨j, h⟩ else 0 := by
  rw [cosT_at]
  unfold cl2
  by_cases h : j.val < 32
  · simp only [h, show j.val < 64 by omega, dite_true]
  · by_cases h' : j.val < 64
    · simp only [h, h', dite_true, dite_false]
    · simp only [h, h', dite_false]

theorem sinT_at' (r : Fin 2048) (j : Fin 128) : sinT (ix2 r j) = if h : j.val < 64 then sl2 (sn r) ⟨j, h⟩ else 0 := by
  rw [sinT_at]
  unfold sl2
  by_cases h : j.val < 32
  · simp only [h, show j.val < 64 by omega, dite_true]
  · by_cases h' : j.val < 64
    · simp only [h, h', dite_true, dite_false]
    · simp only [h, h', dite_false]

variable (m : (ℓ : Loc nD τ sig) → Buf (Elt Ideal) ℓ)

/-- A block of the kernel's result is the attention's output. -/
theorem outBlk_eq (c : Dev nD) (h5 : ∀ x, IsReal (m ((c : Thread nD τ).loc main_arg5) x)) (h6 : ∀ x, IsReal (m ((c : Thread nD τ).loc main_arg6) x))
    (t : Fin cfg0.N) (y : S1x2048x512.Idx) :
    outBlk m c t y = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      cs sn ⟨t.val, (idx t).2.2.2.2.2.2.2.2.2.2.2.1⟩ (hd y) (y 1) (cl y) :=
  blockF_eq (kZ m c t) (kC m c t) (kS m c t) (kGcq m c t) (kWq m c t) (kGckv m c t) (kWkv m c t) (kGq m c t) (kGk m c t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    cs sn ⟨t.val, (idx t).2.2.2.2.2.2.2.2.2.2.2.1⟩
    (fun r x => blkZ m c t r x) (fun r j => (blkC m c t r j).trans (cosT_at' r j)) (fun r j => (blkS m c t r j).trans (sinT_at' r j))
    (fun x => blkGcq m c t x) (fun i h e => (blkWq m c t i _).trans (wqT_at _ i h e)) (fun x => blkGckv m c t x) (fun i e => blkWkv m c t i e)
    (fun j => (blkGq m c t 0 j).trans (gainT_0 lit1 _ j)) (fun j => (blkGq m c t 1 j).trans (gainT_1 lit1 _ j))
    (fun j => (blkGq m c t 2 j).trans (gainT_2 lit1 _ (gather_q _) j))
    (fun j => (blkGk m c t 0 j).trans (gainT_0 lit2 _ j)) (fun j => (blkGk m c t 1 j).trans (gainT_1 lit2 _ j))
    (fun j => (blkGk m c t 2 j).trans (gainT_2 lit2 _ (gather_k _) j))
    (fun _ => h5 _) (fun _ => h6 _) cs_fin sn_fin y

/-- The attention's output as the result array. -/
def resF (c : Dev nD) (y : S32x2048x512.Idx) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    cs sn (y 0) ⟨(y 2).val / 128, by have : (y 2).val < 512 := (y 2).isLt; omega⟩ (y 1) ⟨(y 2).val % 128, by omega⟩

theorem result (c : Dev nD) (h5 : ∀ x, IsReal (m ((c : Thread nD τ).loc main_arg5) x)) (h6 : ∀ x, IsReal (m ((c : Thread nD τ).loc main_arg6) x)) :
    (dats m 0 c).arrAt 10 cfg0.N = resF m c :=
  final10 m c (resF m c) fun t y => outBlk_eq m c h5 h6 t y

/-- The reference's array is the same one. -/
theorem ref_eq (x0 : FVec Ideal S32x2048x512 .bf16) (x1 : FVec Ideal S256 .f32) (x2 : FVec Ideal S256x768 .f32) (x3 : FVec Ideal S128 .f32)
    (x4 : FVec Ideal S128x1024 .f32) (x5 x6 : FVec Ideal S192 .f32) (c : Dev nD)
    (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) (h5 : x5 = m ((c : Thread nD τ).loc main_arg5))
    (h6 : x6 = m ((c : Thread nD τ).loc main_arg6)) :
    Cert.Reference3Ideal.Read.val_main_v145 (F := Ideal) x0 x1 x2 x3 x4 x5 x6 = resF m c := by
  funext i
  have e : i = ix3 (i 0) (i 1) (i 2) := eq_ix3 i
  rw [e]
  refine (Cert.Reference3Ideal.Mla.v145_at x0 x1 x2 x3 x4 x5 x6 (i 0) (i 1) (i 2)).trans ?_
  unfold resF
  rw [rc_eq, rs_eq, h0, h1, h2, h3, h4, h5, h6]
  rfl

end Cert.Mla

namespace Cert.Proof

open Idealize.ShloMosaic Idealize.ShloMosaic.TcCoe Idealize.SL.Sem

/-- The frames under the precondition follow from the frames. -/
theorem frame_mla_pre : Cert.quiescent_Kernel3Ideal_pre_gains_finite := fun m ρ _ => Cert.Mla.mla_frame m ρ
theorem frame_mla_ref_pre : Cert.quiescent_Reference3Ideal_pre_gains_finite := fun m ρ _ =>
  (θ_run Cert.Reference3Ideal.defs _ _).mono
    (fun r h => ⟨fun c => (h c).2, sem_eq_zero_of_no_sems (by decide) r.2⟩) (Cert.Reference3Ideal.Value.run m ρ)

open Cert.Kernel3Ideal Cert.Kernel3Ideal.Gen in
/-- The attention's kernel and reference compute the same array when the head gains are real numbers. -/
theorem algebraic_mla : Cert.algebraic_Kernel3Ideal_Reference3Ideal_pre_gains_finite := fun m g m' g' hpre hagree =>
  ⟨fun c => Cert.Mla.resF m c,
    (θ_run Cert.Kernel3Ideal.defs _ _).mono (fun _ h c => ⟨((h.1 c).1 10).trans (by
          obtain ⟨h5, h6⟩ := Cert.MlaGain.gains _ _ _ _ _ _ _ (hpre c)
          exact Cert.Mla.result m c h5 h6),
      ((h.1 c).1 1).trans (((Cert.Mla.dats m 0 c).arrAt_in 1 rfl _).trans ((Cert.Mla.dats_A m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (Cert.Mla.v_run m g),
    (θ_run Cert.Reference3Ideal.defs _ _).mono
      (fun r h c => ⟨(h c).1.trans (by
          obtain ⟨h0, h1, h2, h3, h4, h5, h6⟩ := hagree c
          refine (Cert.Reference3Ideal.Read.val_main_v145_eq _).trans ?_
          refine (Cert.Mla.ref_eq m _ _ _ _ _ _ _ c h0 h1 h2 h3 h4 h5 h6)),
        (h c).2⟩) (Cert.Reference3Ideal.Value.run m' g')⟩

end Cert.Proof

end
-- ==== Proof.lean ====
/- The layer's two projection halves and its latent attention against plain host code: the frames, the ideal programs, and the value claims. -/
module

public import proofs.«01_k».proof.Defs
public import proofs.«01_k».proof.Proof.FfnClaim
public import proofs.«01_k».proof.Proof.InClaim
public import proofs.«01_k».proof.Proof.MlaValueClaim

@[expose] public section

noncomputable section

namespace Cert.Proof

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.MlaGain.facts,
    frame_ffn_bits, frame_ffn, frame_ffn_ref, frame_in_bits, frame_in, frame_in_ref, frame_mla_bits, frame_mla, frame_mla_pre,
    frame_mla_ref, frame_mla_ref_pre, trivial, algebraic_ffn, trivial, algebraic_in, preserves_mla, algebraic_mla⟩

end Cert.Proof

end
